-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112_0) = v0 c
          ∧ r.2.mem ((c.tc : Thread Cert.ReferenceIdeal.nD Cert.ReferenceIdeal.τ).loc Cert.ReferenceIdeal.main_v112_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S96x1x3584 : Shape := ⟨3, ![96, 1, 3584]⟩
abbrev S21x1792x5120 : Shape := ⟨3, ![21, 1792, 5120]⟩
abbrev S21x28x5120 : Shape := ⟨3, ![21, 28, 5120]⟩
abbrev S21x1280x3584 : Shape := ⟨3, ![21, 1280, 3584]⟩
abbrev S21x20x3584 : Shape := ⟨3, ![21, 20, 3584]⟩
abbrev S96x1x8 : Shape := ⟨3, ![96, 1, 8]⟩
abbrev S_ : Shape := ⟨0, ![]⟩

class Facts : Prop where
  bcast_S_S96x1x3584 : S_.BroadcastsInDim S96x1x3584 (![] : Fin 0 → Fin S96x1x3584.rank)
  reducesTo_S96x1x3584_S_d0_1_2 : S96x1x3584.ReducesTo [0, 1, 2] S_
  h_S_ : 0 < S_.numel
  bcast_S_S21x28x5120 : S_.BroadcastsInDim S21x28x5120 (![] : Fin 0 → Fin S21x28x5120.rank)
  reducesTo_S21x28x5120_S_d0_1_2 : S21x28x5120.ReducesTo [0, 1, 2] S_
  bcast_S_S21x20x3584 : S_.BroadcastsInDim S21x20x3584 (![] : Fin 0 → Fin S21x20x3584.rank)
  reducesTo_S21x20x3584_S_d0_1_2 : S21x20x3584.ReducesTo [0, 1, 2] S_
  bcast_S_S96x1x8 : S_.BroadcastsInDim S96x1x8 (![] : Fin 0 → Fin S96x1x8.rank)
  reducesTo_S96x1x8_S_d0_1_2 : S96x1x8.ReducesTo [0, 1, 2] S_

variable [Facts]

def fn_part1 {F : FTy → Type} [FloatOps F] (main_arg5 : IVec S96x1x8 32) (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  let main_c_6 : IVec S_ 32 := constantI S_ 32 0#32
  let main_v19 : IVec S96x1x8 32 := broadcastInDim S96x1x8 ![] bcast_S_S96x1x8 main_c_6
  let main_v20 : IVec S96x1x8 1 := cmpi .sge main_arg5 main_v19
  let main_c_7 : IVec S_ 1 := constantI S_ 1 1#1
  let main_v21 : IVec S_ 1 := (fun x v => Host.reduce IntOp.andi x v reducesTo_S96x1x8_S_d0_1_2 h_S_) main_v20 main_c_7
  let main_v22 : IVec S_ 1 := andi main_v18 main_v21
  let main_c_8 : IVec S_ 32 := constantI S_ 32 21#32
  let main_v23 : IVec S96x1x8 32 := broadcastInDim S96x1x8 ![] bcast_S_S96x1x8 main_c_8
  let main_v24 : IVec S96x1x8 1 := cmpi .slt main_arg5 main_v23
  let main_c_9 : IVec S_ 1 := constantI S_ 1 1#1
  let main_v25 : IVec S_ 1 := (fun x v => Host.reduce IntOp.andi x v reducesTo_S96x1x8_S_d0_1_2 h_S_) main_v24 main_c_9
  let main_v26 : IVec S_ 1 := andi main_v22 main_v25
  main_v26

def fn {F : FTy → Type} [FloatOps F] (main_arg0 : FVec F S96x1x3584 .bf16) (main_arg1 : IVec S21x1792x5120 8) (main_arg2 : FVec F S21x28x5120 .bf16) (main_arg3 : IVec S21x1280x3584 8) (main_arg4 : FVec F S21x20x3584 .bf16) (main_arg5 : IVec S96x1x8 32) (main_arg6 : FVec F S96x1x8 .f32) : IVec S_ 1 :=
  let main_v0 : FVec F S96x1x3584 .bf16 := Host.absf main_arg0
  let main_cst : FVec F S_ .bf16 := constant S_ .bf16 0x7F80#16
  let main_v1 : FVec F S96x1x3584 .bf16 := broadcastInDim S96x1x3584 ![] bcast_S_S96x1x3584 main_cst
  let main_v2 : IVec S96x1x3584 1 := cmpf .olt main_v0 main_v1
  let main_c : IVec S_ 1 := constantI S_ 1 1#1
  let main_v3 : IVec S_ 1 := (fun x v => Host.reduce IntOp.andi x v reducesTo_S96x1x3584_S_d0_1_2 h_S_) main_v2 main_c
  let main_v4 : FVec F S21x28x5120 .bf16 := Host.absf main_arg2
  let main_cst_0 : FVec F S_ .bf16 := constant S_ .bf16 0x7F80#16
  let main_v5 : FVec F S21x28x5120 .bf16 := broadcastInDim S21x28x5120 ![] bcast_S_S21x28x5120 main_cst_0
  let main_v6 : IVec S21x28x5120 1 := cmpf .olt main_v4 main_v5
  let main_c_1 : IVec S_ 1 := constantI S_ 1 1#1
  let main_v7 : IVec S_ 1 := (fun x v => Host.reduce IntOp.andi x v reducesTo_S21x28x5120_S_d0_1_2 h_S_) main_v6 main_c_1
  let main_v8 : FVec F S21x20x3584 .bf16 := Host.absf main_arg4
  let main_cst_2 : FVec F S_ .bf16 := constant S_ .bf16 0x7F80#16
  let main_v9 : FVec F S21x20x3584 .bf16 := broadcastInDim S21x20x3584 ![] bcast_S_S21x20x3584 main_cst_2
  let main_v10 : IVec S21x20x3584 1 := cmpf .olt main_v8 main_v9
  let main_c_3 : IVec S_ 1 := constantI S_ 1 1#1
  let main_v11 : IVec S_ 1 := (fun x v => Host.reduce IntOp.andi x v reducesTo_S21x20x3584_S_d0_1_2 h_S_) main_v10 main_c_3
  let main_v12 : FVec F S96x1x8 .f32 := Host.absf main_arg6
  let main_cst_4 : FVec F S_ .f32 := constant S_ .f32 0x7F800000#32
  let main_v13 : FVec F S96x1x8 .f32 := broadcastInDim S96x1x8 ![] bcast_S_S96x1x8 main_cst_4
  let main_v14 : IVec S96x1x8 1 := cmpf .olt main_v12 main_v13
  let main_c_5 : IVec S_ 1 := constantI S_ 1 1#1
  let main_v15 : IVec S_ 1 := (fun x v => Host.reduce IntOp.andi x v reducesTo_S96x1x8_S_d0_1_2 h_S_) main_v14 main_c_5
  fn_part1 (F := F) main_arg5 main_v3 main_v7 main_v11 main_v15
-- ==== Kernel.lean ====
abbrev S96x1x3584 : Shape := ⟨3, ![96, 1, 3584]⟩
abbrev S21x1792x5120 : Shape := ⟨3, ![21, 1792, 5120]⟩
abbrev S21x28x5120 : Shape := ⟨3, ![21, 28, 5120]⟩
abbrev S21x1280x3584 : Shape := ⟨3, ![21, 1280, 3584]⟩
abbrev S21x20x3584 : Shape := ⟨3, ![21, 20, 3584]⟩
abbrev S96x1x8 : Shape := ⟨3, ![96, 1, 8]⟩
abbrev S96x8 : Shape := ⟨2, ![96, 8]⟩
abbrev S768x1 : Shape := ⟨2, ![768, 1]⟩
abbrev S21 : Shape := ⟨1, ![21]⟩
abbrev S1x21 : Shape := ⟨2, ![1, 21]⟩
abbrev S768x21 : Shape := ⟨2, ![768, 21]⟩
abbrev S_ : Shape := ⟨0, ![]⟩
abbrev S21x1 : Shape := ⟨2, ![21, 1]⟩
abbrev S21x5x4x3584 : Shape := ⟨4, ![21, 5, 4, 3584]⟩
abbrev S1 : Shape := ⟨1, ![1]⟩
abbrev S96x3584 : Shape := ⟨2, ![96, 3584]⟩
abbrev S96x28 : Shape := ⟨2, ![96, 28]⟩
abbrev S1x1792x512 : Shape := ⟨3, ![1, 1792, 512]⟩
abbrev S1x28x512 : Shape := ⟨3, ![1, 28, 512]⟩
abbrev S1x256x3584 : Shape := ⟨3, ![1, 256, 3584]⟩
abbrev S1x5x4x3584 : Shape := ⟨4, ![1, 5, 4, 3584]⟩
abbrev S96 : Shape := ⟨1, ![96]⟩
abbrev S96x1 : Shape := ⟨2, ![96, 1]⟩
abbrev S1792x512 : Shape := ⟨2, ![1792, 512]⟩
abbrev S28x512 : Shape := ⟨2, ![28, 512]⟩
abbrev S1792x1x512 : Shape := ⟨3, ![1792, 1, 512]⟩
abbrev S1792x2x512 : Shape := ⟨3, ![1792, 2, 512]⟩
abbrev S3584x512 : Shape := ⟨2, ![3584, 512]⟩
abbrev S28x128x512 : Shape := ⟨3, ![28, 128, 512]⟩
abbrev S28x1x512 : Shape := ⟨3, ![28, 1, 512]⟩
abbrev S96x512 : Shape := ⟨2, ![96, 512]⟩
abbrev S1x1x4x3584 : Shape := ⟨4, ![1, 1, 4, 3584]⟩
abbrev S1x4x3584 : Shape := ⟨3, ![1, 4, 3584]⟩
abbrev S4x3584 : Shape := ⟨2, ![4, 3584]⟩
abbrev S256x3584 : Shape := ⟨2, ![256, 3584]⟩
abbrev S256x1x3584 : Shape := ⟨3, ![256, 1, 3584]⟩
abbrev S256x2x3584 : Shape := ⟨3, ![256, 2, 3584]⟩
abbrev S512x3584 : Shape := ⟨2, ![512, 3584]⟩
abbrev S4x128x3584 : Shape := ⟨3, ![4, 128, 3584]⟩
abbrev S4x1x3584 : Shape := ⟨3, ![4, 1, 3584]⟩
abbrev S96x128 : Shape := ⟨2, ![96, 128]⟩
abbrev S1x246 : Shape := ⟨2, ![1, 246]⟩
abbrev S96x246 : Shape := ⟨2, ![96, 246]⟩

abbrev nBuf : Space → Nat
  | .hbm => 34
  | .vmem => 18
  | .smem => 2
  | _ => 0

abbrev bufTy : (tb : Table) → Fin (tcTables nBuf tb) → BufTy
  | .hbm, ⟨0, _⟩ => ⟨S96x1x3584, .bf16⟩
  | .hbm, ⟨1, _⟩ => ⟨S21x1792x5120, .i8⟩
  | .hbm, ⟨2, _⟩ => ⟨S21x28x5120, .bf16⟩
  | .hbm, ⟨3, _⟩ => ⟨S21x1280x3584, .i8⟩
  | .hbm, ⟨4, _⟩ => ⟨S21x20x3584, .bf16⟩
  | .hbm, ⟨5, _⟩ => ⟨S96x1x8, .i32⟩
  | .hbm, ⟨6, _⟩ => ⟨S96x1x8, .f32⟩
  | .hbm, ⟨7, _⟩ => ⟨S96x8, .i32⟩
  | .hbm, ⟨8, _⟩ => ⟨S768x1, .i32⟩
  | .hbm, ⟨9, _⟩ => ⟨S21, .i32⟩
  | .hbm, ⟨10, _⟩ => ⟨S1x21, .i32⟩
  | .hbm, ⟨11, _⟩ => ⟨S768x21, .i32⟩
  | .hbm, ⟨12, _⟩ => ⟨S768x21, .i32⟩
  | .hbm, ⟨13, _⟩ => ⟨S768x21, .i1⟩
  | .hbm, ⟨14, _⟩ => ⟨S_, .i1⟩
  | .hbm, ⟨15, _⟩ => ⟨S21, .i1⟩
  | .hbm, ⟨16, _⟩ => ⟨S21, .i32⟩
  | .hbm, ⟨17, _⟩ => ⟨S_, .i32⟩
  | .hbm, ⟨18, _⟩ => ⟨S_, .i32⟩
  | .hbm, ⟨19, _⟩ => ⟨S21, .i1⟩
  | .hbm, ⟨20, _⟩ => ⟨S21, .i32⟩
  | .hbm, ⟨21, _⟩ => ⟨S21, .i1⟩
  | .hbm, ⟨22, _⟩ => ⟨S21, .i32⟩
  | .hbm, ⟨23, _⟩ => ⟨S21, .i32⟩
  | .hbm, ⟨24, _⟩ => ⟨S_, .i32⟩
  | .hbm, ⟨25, _⟩ => ⟨S_, .i32⟩
  | .hbm, ⟨26, _⟩ => ⟨S21, .i32⟩
  | .hbm, ⟨27, _⟩ => ⟨S21, .i32⟩
  | .hbm, ⟨28, _⟩ => ⟨S21x1, .i32⟩
  | .hbm, ⟨29, _⟩ => ⟨S21x5x4x3584, .bf16⟩
  | .hbm, ⟨30, _⟩ => ⟨S96x3584, .bf16⟩
  | .hbm, ⟨31, _⟩ => ⟨S96x8, .f32⟩
  | .hbm, ⟨32, _⟩ => ⟨S96x3584, .fp8e4m3⟩
  | .hbm, ⟨33, _⟩ => ⟨S96x28, .f32⟩
  | .local _ .vmem, ⟨0, _⟩ => ⟨S96x3584, .bf16⟩
  | .local _ .vmem, ⟨1, _⟩ => ⟨S96x8, .i32⟩
  | .local _ .vmem, ⟨2, _⟩ => ⟨S96x8, .f32⟩
  | .local _ .vmem, ⟨3, _⟩ => ⟨S1x1792x512, .i8⟩
  | .local _ .vmem, ⟨4, _⟩ => ⟨S1x1792x512, .i8⟩
  | .local _ .vmem, ⟨5, _⟩ => ⟨S1x1792x512, .i8⟩
  | .local _ .vmem, ⟨6, _⟩ => ⟨S1x1792x512, .i8⟩
  | .local _ .vmem, ⟨7, _⟩ => ⟨S1x28x512, .bf16⟩
  | .local _ .vmem, ⟨8, _⟩ => ⟨S1x28x512, .bf16⟩
  | .local _ .vmem, ⟨9, _⟩ => ⟨S1x28x512, .bf16⟩
  | .local _ .vmem, ⟨10, _⟩ => ⟨S1x28x512, .bf16⟩
  | .local _ .vmem, ⟨11, _⟩ => ⟨S1x256x3584, .i8⟩
  | .local _ .vmem, ⟨12, _⟩ => ⟨S1x256x3584, .i8⟩
  | .local _ .vmem, ⟨13, _⟩ => ⟨S1x5x4x3584, .bf16⟩
  | .local _ .vmem, ⟨14, _⟩ => ⟨S1x5x4x3584, .bf16⟩
  | .local _ .vmem, ⟨15, _⟩ => ⟨S96x3584, .fp8e4m3⟩
  | .local _ .vmem, ⟨16, _⟩ => ⟨S96x28, .f32⟩
  | .local _ .vmem, ⟨17, _⟩ => ⟨S96x3584, .f32⟩
  | .local _ .smem, ⟨0, _⟩ => ⟨S21, .i32⟩
  | .local _ .smem, ⟨1, _⟩ => ⟨S1, .i32⟩
  | _, _ => ⟨S96x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_call0_v0 : Ref sig .tc := ⟨.hbm, 20, rfl⟩
abbrev main_call0_v1_0 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_v0 : Ref sig .tc := ⟨.hbm, 28, rfl⟩
abbrev main_v17 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v16 : Ref sig .tc := ⟨.smem, 0, rfl⟩
abbrev main_v18 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨2, ![21, 5], ![false, false]⟩

abbrev pre0 : Pipeline.Prefetch sig := ⟨2, ![main_v16.idx, main_v18.idx], fun | 0 => main_v16.names | 1 => main_v18.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v2 : Index := Scalar.indexCast arg0
  ![v2.toNat]
def k0_off2 (i : grid0.Coords) : Fin 1 → Nat :=
  let arg0 : BitVec 32 := BitVec.ofNat 32 (i 0).val
  let v16 : Index := Scalar.indexCast arg0
  ![v16.toNat]
def k0_off3 (i : grid0.Coords) : Fin 4 → Nat :=
  let c0_34 : Index := 0#32
  let arg1 : BitVec 32 := BitVec.ofNat 32 (i 1).val
  let v90 : Index := Scalar.indexCast arg1
  let c0_35 : Index := 0#32
  let c0_36 : Index := 0#32
  ![0, v90.toNat, 0, 0]
def k0_cond3 (i : grid0.Coords) : BitVec 1 :=
  let arg0 : BitVec 32 := BitVec.ofNat 32 (i 0).val
  let c20_i32 : BitVec 32 := 20#32
  let v9 : BitVec 1 := Scalar.cmpi .eq arg0 c20_i32
  let arg1 : BitVec 32 := BitVec.ofNat 32 (i 1).val
  let c4_i32 : BitVec 32 := 4#32
  let v10 : BitVec 1 := Scalar.cmpi .eq arg1 c4_i32
  let v11 : BitVec 1 := Scalar.andi v9 v10
  let v12 : BitVec 32 := Scalar.extui v11
  let c0_i32_3 : BitVec 32 := 0#32
  let v13 : BitVec 1 := Scalar.cmpi .ne v12 c0_i32_3
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (inb_S1_S1_0 : ∀ a, (![0] : Fin 1 → Nat) a + S1.size a ≤ S1.size a) (numel1_S1 : S1.numel = 1) (k0_off1_inb : ∀ i : grid0.Coords, ∀ a, (k0_off1 i) a + S1.size a ≤ S21.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S21) ![v2.toNat] S1.size (k0_off1_inb i)) numel1_S1
  let c4_i32 : BitVec 32 := 4#32
  let v4 : BitVec 32 := Scalar.select v1 arg1 c4_i32
  let c0_i32 : BitVec 32 := 0#32
  let v5 : BitVec 32 := Scalar.addi c0_i32 v4
  let c0_i32_0 : BitVec 32 := 0#32
  let c0_i32_1 : BitVec 32 := 0#32
  ![v3.toNat, c0_i32_0.toNat, v5.toNat]

def cc0_transform_4 (inb_S1_S1_0 : ∀ a, (![0] : Fin 1 → Nat) a + S1.size a ≤ S1.size a) (numel1_S1 : S1.numel = 1) (k0_off1_inb : ∀ i : grid0.Coords, ∀ a, (k0_off1 i) a + S1.size a ≤ S21.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S21) ![v2.toNat] S1.size (k0_off1_inb i)) numel1_S1
  let c4_i32 : BitVec 32 := 4#32
  let v4 : BitVec 32 := Scalar.select v1 arg1 c4_i32
  let c5_i32 : BitVec 32 := 5#32
  let v5 : BitVec 32 := Scalar.addi c5_i32 v4
  let c0_i32 : BitVec 32 := 0#32
  let c0_i32_0 : BitVec 32 := 0#32
  ![v3.toNat, c0_i32.toNat, v5.toNat]

def cc0_transform_5 (inb_S1_S1_0 : ∀ a, (![0] : Fin 1 → Nat) a + S1.size a ≤ S1.size a) (numel1_S1 : S1.numel = 1) (k0_off1_inb : ∀ i : grid0.Coords, ∀ a, (k0_off1 i) a + S1.size a ≤ S21.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S21) ![v2.toNat] S1.size (k0_off1_inb i)) numel1_S1
  let c4_i32 : BitVec 32 := 4#32
  let v4 : BitVec 32 := Scalar.select v1 arg1 c4_i32
  let c0_i32 : BitVec 32 := 0#32
  let v5 : BitVec 32 := Scalar.addi c0_i32 v4
  let c0_i32_0 : BitVec 32 := 0#32
  let c0_i32_1 : BitVec 32 := 0#32
  ![v3.toNat, c0_i32_0.toNat, v5.toNat]

def cc0_transform_6 (inb_S1_S1_0 : ∀ a, (![0] : Fin 1 → Nat) a + S1.size a ≤ S1.size a) (numel1_S1 : S1.numel = 1) (k0_off1_inb : ∀ i : grid0.Coords, ∀ a, (k0_off1 i) a + S1.size a ≤ S21.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S21) ![v2.toNat] S1.size (k0_off1_inb i)) numel1_S1
  let c4_i32 : BitVec 32 := 4#32
  let v4 : BitVec 32 := Scalar.select v1 arg1 c4_i32
  let c5_i32 : BitVec 32 := 5#32
  let v5 : BitVec 32 := Scalar.addi c5_i32 v4
  let c0_i32 : BitVec 32 := 0#32
  let c0_i32_0 : BitVec 32 := 0#32
  ![v3.toNat, c0_i32.toNat, v5.toNat]

def cc0_transform_7 (inb_S1_S1_0 : ∀ a, (![0] : Fin 1 → Nat) a + S1.size a ≤ S1.size a) (numel1_S1 : S1.numel = 1) (k0_off1_inb : ∀ i : grid0.Coords, ∀ a, (k0_off1 i) a + S1.size a ≤ S21.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S21) ![v2.toNat] S1.size (k0_off1_inb i)) numel1_S1
  let c4_i32 : BitVec 32 := 4#32
  let v4 : BitVec 32 := Scalar.select v1 arg1 c4_i32
  let c0_i32 : BitVec 32 := 0#32
  let c0_i32_0 : BitVec 32 := 0#32
  ![v3.toNat, v4.toNat, c0_i32.toNat]

def cc0_transform_8 (inb_S1_S1_0 : ∀ a, (![0] : Fin 1 → Nat) a + S1.size a ≤ S1.size a) (numel1_S1 : S1.numel = 1) (k0_off1_inb : ∀ i : grid0.Coords, ∀ a, (k0_off1 i) a + S1.size a ≤ S21.size a) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S21) ![v2.toNat] S1.size (k0_off1_inb i)) numel1_S1
  let c4_i32 : BitVec 32 := 4#32
  let v4 : BitVec 32 := Scalar.select v1 arg1 c4_i32
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S96x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S96x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1792x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1792x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x28x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x28x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x3584 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x5x4x3584 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S96x3584 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S96x28 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S96x1x3584 : Shape := ⟨3, ![96, 1, 3584]⟩
abbrev S21x1792x5120 : Shape := ⟨3, ![21, 1792, 5120]⟩
abbrev S21x28x5120 : Shape := ⟨3, ![21, 28, 5120]⟩
abbrev S21x1280x3584 : Shape := ⟨3, ![21, 1280, 3584]⟩
abbrev S21x20x3584 : Shape := ⟨3, ![21, 20, 3584]⟩
abbrev S96x1x8 : Shape := ⟨3, ![96, 1, 8]⟩
abbrev S96x8 : Shape := ⟨2, ![96, 8]⟩
abbrev S96x8x1 : Shape := ⟨3, ![96, 8, 1]⟩
abbrev S21x28x64x5120 : Shape := ⟨4, ![21, 28, 64, 5120]⟩
abbrev S_ : Shape := ⟨0, ![]⟩
abbrev S21x20x64x3584 : Shape := ⟨4, ![21, 20, 64, 3584]⟩
abbrev S96x3584 : Shape := ⟨2, ![96, 3584]⟩
abbrev S96x1792 : Shape := ⟨2, ![96, 1792]⟩
abbrev S96x8x1792x5120 : Shape := ⟨4, ![96, 8, 1792, 5120]⟩
abbrev S96x8x5120 : Shape := ⟨3, ![96, 8, 5120]⟩
abbrev S96x8x2560 : Shape := ⟨3, ![96, 8, 2560]⟩
abbrev S96x8x1280 : Shape := ⟨3, ![96, 8, 1280]⟩
abbrev S96x8x1280x3584 : Shape := ⟨4, ![96, 8, 1280, 3584]⟩
abbrev S96x8x3584 : Shape := ⟨3, ![96, 8, 3584]⟩
abbrev S96x28x128 : Shape := ⟨3, ![96, 28, 128]⟩
abbrev S96x28 : Shape := ⟨2, ![96, 28]⟩
abbrev S96x28x1 : Shape := ⟨3, ![96, 28, 1]⟩
abbrev S247 : Shape := ⟨1, ![247]⟩
abbrev S1x1x247 : Shape := ⟨3, ![1, 1, 247]⟩
abbrev S96x28x247 : Shape := ⟨3, ![96, 28, 247]⟩

abbrev nBuf : Space → Nat
  | .hbm => 160
  | .vmem => 4
  | .smem => 0
  | _ => 0

abbrev hbmTy0_0 (i : Nat) : BufTy := match i % 128 with
  | 0 => ⟨S96x1x3584, .bf16⟩
  | 1 => ⟨S21x1792x5120, .i8⟩
  | 2 => ⟨S21x28x5120, .bf16⟩
  | 3 => ⟨S21x1280x3584, .i8⟩
  | 4 => ⟨S21x20x3584, .bf16⟩
  | 5 => ⟨S96x1x8, .i32⟩
  | 6 => ⟨S96x1x8, .f32⟩
  | 7 => ⟨S96x8, .i32⟩
  | 8 => ⟨S96x8x1, .f32⟩
  | 9 => ⟨S21x28x64x5120, .bf16⟩
  | 10 => ⟨S21x1792x5120, .bf16⟩
  | 11 => ⟨S21x1792x5120, .i32⟩
  | 12 => ⟨S_, .i32⟩
  | 13 => ⟨S21x1792x5120, .i32⟩
  | 14 => ⟨S21x1792x5120, .i32⟩
  | 15 => ⟨S21x1792x5120, .bf16⟩
  | 16 => ⟨S_, .bf16⟩
  | 17 => ⟨S21x1792x5120, .bf16⟩
  | 18 => ⟨S21x1792x5120, .bf16⟩
  | 19 => ⟨S21x1792x5120, .bf16⟩
  | 20 => ⟨S_, .i32⟩
  | 21 => ⟨S21x1792x5120, .i32⟩
  | 22 => ⟨S21x1792x5120, .i32⟩
  | 23 => ⟨S21x1792x5120, .bf16⟩
  | 24 => ⟨S_, .bf16⟩
  | 25 => ⟨S21x1792x5120, .bf16⟩
  | 26 => ⟨S21x1792x5120, .bf16⟩
  | 27 => ⟨S21x1792x5120, .bf16⟩
  | 28 => ⟨S21x20x64x3584, .bf16⟩
  | 29 => ⟨S21x1280x3584, .bf16⟩
  | 30 => ⟨S21x1280x3584, .i32⟩
  | 31 => ⟨S_, .i32⟩
  | 32 => ⟨S21x1280x3584, .i32⟩
  | 33 => ⟨S21x1280x3584, .i32⟩
  | 34 => ⟨S21x1280x3584, .bf16⟩
  | 35 => ⟨S_, .bf16⟩
  | 36 => ⟨S21x1280x3584, .bf16⟩
  | 37 => ⟨S21x1280x3584, .bf16⟩
  | 38 => ⟨S21x1280x3584, .bf16⟩
  | 39 => ⟨S_, .i32⟩
  | 40 => ⟨S21x1280x3584, .i32⟩
  | 41 => ⟨S21x1280x3584, .i32⟩
  | 42 => ⟨S21x1280x3584, .bf16⟩
  | 43 => ⟨S_, .bf16⟩
  | 44 => ⟨S21x1280x3584, .bf16⟩
  | 45 => ⟨S21x1280x3584, .bf16⟩
  | 46 => ⟨S21x1280x3584, .bf16⟩
  | 47 => ⟨S96x3584, .bf16⟩
  | 48 => ⟨S96x1792, .bf16⟩
  | 49 => ⟨S_, .i32⟩
  | 50 => ⟨S96x8, .i32⟩
  | 51 => ⟨S96x8, .i1⟩
  | 52 => ⟨S_, .i32⟩
  | 53 => ⟨S96x8, .i32⟩
  | 54 => ⟨S96x8, .i32⟩
  | 55 => ⟨S96x8, .i32⟩
  | 56 => ⟨S96x8x1, .i32⟩
  | 57 => ⟨S96x8x1792x5120, .bf16⟩
  | 58 => ⟨S96x8x5120, .f32⟩
  | 59 => ⟨S96x1792, .bf16⟩
  | 60 => ⟨S_, .i32⟩
  | 61 => ⟨S96x8, .i32⟩
  | 62 => ⟨S96x8, .i1⟩
  | 63 => ⟨S_, .i32⟩
  | 64 => ⟨S96x8, .i32⟩
  | 65 => ⟨S96x8, .i32⟩
  | 66 => ⟨S96x8, .i32⟩
  | 67 => ⟨S96x8x1, .i32⟩
  | 68 => ⟨S96x8x1792x5120, .bf16⟩
  | 69 => ⟨S96x8x5120, .f32⟩
  | 70 => ⟨S96x8x5120, .f32⟩
  | 71 => ⟨S96x8x2560, .f32⟩
  | 72 => ⟨S96x8x2560, .f32⟩
  | 73 => ⟨S96x8x2560, .f32⟩
  | 74 => ⟨S96x8x2560, .f32⟩
  | 75 => ⟨S_, .f32⟩
  | 76 => ⟨S96x8x2560, .f32⟩
  | 77 => ⟨S96x8x2560, .f32⟩
  | 78 => ⟨S_, .f32⟩
  | 79 => ⟨S96x8x2560, .f32⟩
  | 80 => ⟨S96x8x2560, .f32⟩
  | 81 => ⟨S96x8x2560, .f32⟩
  | 82 => ⟨S96x8x2560, .f32⟩
  | 83 => ⟨S96x8x2560, .bf16⟩
  | 84 => ⟨S96x8x1280, .bf16⟩
  | 85 => ⟨S_, .i32⟩
  | 86 => ⟨S96x8, .i32⟩
  | 87 => ⟨S96x8, .i1⟩
  | 88 => ⟨S_, .i32⟩
  | 89 => ⟨S96x8, .i32⟩
  | 90 => ⟨S96x8, .i32⟩
  | 91 => ⟨S96x8, .i32⟩
  | 92 => ⟨S96x8x1, .i32⟩
  | 93 => ⟨S96x8x1280x3584, .bf16⟩
  | 94 => ⟨S96x8x3584, .f32⟩
  | 95 => ⟨S96x8x1280, .bf16⟩
  | 96 => ⟨S_, .i32⟩
  | 97 => ⟨S96x8, .i32⟩
  | 98 => ⟨S96x8, .i1⟩
  | 99 => ⟨S_, .i32⟩
  | 100 => ⟨S96x8, .i32⟩
  | 101 => ⟨S96x8, .i32⟩
  | 102 => ⟨S96x8, .i32⟩
  | 103 => ⟨S96x8x1, .i32⟩
  | 104 => ⟨S96x8x1280x3584, .bf16⟩
  | 105 => ⟨S96x8x3584, .f32⟩
  | 106 => ⟨S96x8x3584, .f32⟩
  | 107 => ⟨S96x8x3584, .f32⟩
  | 108 => ⟨S96x8x3584, .f32⟩
  | 109 => ⟨S_, .f32⟩
  | 110 => ⟨S96x3584, .f32⟩
  | 111 => ⟨S96x28x128, .f32⟩
  | 112 => ⟨S96x28x128, .f32⟩
  | 113 => ⟨S_, .f32⟩
  | 114 => ⟨S96x28, .f32⟩
  | 115 => ⟨S96x28x1, .f32⟩
  | 116 => ⟨S247, .i32⟩
  | 117 => ⟨S_, .i32⟩
  | 118 => ⟨S247, .i32⟩
  | 119 => ⟨S247, .i32⟩
  | 120 => ⟨S247, .f32⟩
  | 121 => ⟨S_, .f32⟩
  | 122 => ⟨S247, .f32⟩
  | 123 => ⟨S247, .f32⟩
  | 124 => ⟨S_, .f32⟩
  | 125 => ⟨S96x28x1, .f32⟩
  | 126 => ⟨S96x28x1, .f32⟩
  | 127 => ⟨S1x1x247, .f32⟩
  | _ => ⟨S96x1x3584, .bf16⟩

abbrev hbmTy0_1 (i : Nat) : BufTy := match i % 128 with
  | 0 => ⟨S96x28x247, .f32⟩
  | 1 => ⟨S96x28x247, .f32⟩
  | 2 => ⟨S96x28x247, .i1⟩
  | 3 => ⟨S_, .f32⟩
  | 4 => ⟨S_, .f32⟩
  | 5 => ⟨S96x28x247, .f32⟩
  | 6 => ⟨S96x28x247, .f32⟩
  | 7 => ⟨S96x28x247, .f32⟩
  | 8 => ⟨S_, .f32⟩
  | 9 => ⟨S96x28, .f32⟩
  | 10 => ⟨S96x28x1, .f32⟩
  | 11 => ⟨S_, .f32⟩
  | 12 => ⟨S96x28x1, .f32⟩
  | 13 => ⟨S96x28x1, .i1⟩
  | 14 => ⟨S_, .f32⟩
  | 15 => ⟨S_, .f32⟩
  | 16 => ⟨S96x28x1, .f32⟩
  | 17 => ⟨S96x28x1, .f32⟩
  | 18 => ⟨S96x28x128, .f32⟩
  | 19 => ⟨S96x28x128, .f32⟩
  | 20 => ⟨S_, .f32⟩
  | 21 => ⟨S_, .f32⟩
  | 22 => ⟨S_, .f32⟩
  | 23 => ⟨S96x28x128, .f32⟩
  | 24 => ⟨S96x28x128, .f32⟩
  | 25 => ⟨S_, .f32⟩
  | 26 => ⟨S96x28x128, .f32⟩
  | 27 => ⟨S96x28x128, .f32⟩
  | 28 => ⟨S96x3584, .f32⟩
  | 29 => ⟨S96x28, .f32⟩
  | 30 => ⟨S96x3584, .fp8e4m3⟩
  | 31 => ⟨S96x28, .f32⟩
  | _ => ⟨S96x1x3584, .bf16⟩

abbrev hbmTy (i : Nat) : BufTy := match i / 128 with
  | 0 => hbmTy0_0 i
  | 1 => hbmTy0_1 i
  | _ => ⟨S96x1x3584, .bf16⟩

abbrev bufTy : (tb : Table) → Fin (tcTables nBuf tb) → BufTy
  | .hbm, ⟨i, _⟩ => hbmTy i
  | .local _ .vmem, ⟨0, _⟩ => ⟨S96x3584, .f32⟩
  | .local _ .vmem, ⟨1, _⟩ => ⟨S96x28, .f32⟩
  | .local _ .vmem, ⟨2, _⟩ => ⟨S96x3584, .fp8e4m3⟩
  | .local _ .vmem, ⟨3, _⟩ => ⟨S96x28, .f32⟩
  | _, _ => ⟨S96x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_8 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_12 : Ref sig .tc := ⟨.hbm, 85, rfl⟩
abbrev main_v64 : Ref sig .tc := ⟨.hbm, 86, rfl⟩
abbrev main_v65 : Ref sig .tc := ⟨.hbm, 87, rfl⟩
abbrev main_c_13 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_14 : Ref sig .tc := ⟨.hbm, 96, rfl⟩
abbrev main_v73 : Ref sig .tc := ⟨.hbm, 97, rfl⟩
abbrev main_v74 : Ref sig .tc := ⟨.hbm, 98, rfl⟩
abbrev main_c_15 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_16 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_17 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_c_18 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_19 : Ref sig .tc := ⟨.hbm, 121, rfl⟩
abbrev main_v93 : Ref sig .tc := ⟨.hbm, 122, rfl⟩
abbrev main_v94 : Ref sig .tc := ⟨.hbm, 123, rfl⟩
abbrev main_cst_20 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_21 : Ref sig .tc := ⟨.hbm, 131, rfl⟩
abbrev main_call0_v0 : Ref sig .tc := ⟨.hbm, 132, rfl⟩
abbrev main_call0_v1 : Ref sig .tc := ⟨.hbm, 133, rfl⟩
abbrev main_call0_v2 : Ref sig .tc := ⟨.hbm, 134, rfl⟩
abbrev main_v101 : Ref sig .tc := ⟨.hbm, 135, rfl⟩
abbrev main_cst_22 : Ref sig .tc := ⟨.hbm, 136, rfl⟩
abbrev main_v102 : Ref sig .tc := ⟨.hbm, 137, rfl⟩
abbrev main_v103 : Ref sig .tc := ⟨.hbm, 138, rfl⟩
abbrev main_cst_23 : Ref sig .tc := ⟨.hbm, 139, rfl⟩
abbrev main_v104 : Ref sig .tc := ⟨.hbm, 140, rfl⟩
abbrev main_v105 : Ref sig .tc := ⟨.hbm, 141, rfl⟩
abbrev main_cst_24 : Ref sig .tc := ⟨.hbm, 142, rfl⟩
abbrev main_call1_v0 : Ref sig .tc := ⟨.hbm, 143, rfl⟩
abbrev main_call1_v1 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_25 : Ref sig .tc := ⟨.hbm, 148, rfl⟩
abbrev main_cst_26 : Ref sig .tc := ⟨.hbm, 149, rfl⟩
abbrev main_call2_v0 : Ref sig .tc := ⟨.hbm, 150, rfl⟩
abbrev main_call2_v1 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112_0 : Ref sig .tc := ⟨.hbm, 158, rfl⟩
abbrev main_v112_1 : Ref sig .tc := ⟨.hbm, 159, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S96x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelFrame.lean ====
/- The frame of the program Kernel: what the outputs and the scratch hold point by point, the proof data of the pipeline,
   the obligation of the body at each of the six kinds of point, and the run of the whole program. The statements are those
   of the generated frame; the contents point by point are stated here as one step (`outsStep`) and its iteration, since
   unfolding the two at once is beyond the elaborator's budget at these shapes. -/
module

public import proofs.«01_k».proof.Proof.Gen.Kernel.Frame.RunF
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 9 (the window is idle at its points and not written back there):
    no pieces — a placeholder (junk read back) that nothing consults, since at these points the window is neither
    written back nor read at the next point (Lib/Pipeline.lean "Idle points"). -/
def out0_A_9 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) : Vec F S96x3584 .fp8e4m3 :=
  VO0_9.read (Elt F) (VO0_9.writes (Elt F) VO0_9.junk (kernelRun0_A c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).1)

/-- Case A stores nothing into output 10 (the window is idle at its points and not written back there):
    no pieces — a placeholder (junk read back) that nothing consults, since at these points the window is neither
    written back nor read at the next point (Lib/Pipeline.lean "Idle points"). -/
def out0_A_10 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) : Vec F S96x28 .f32 :=
  VO0_10.read (Elt F) (VO0_10.writes (Elt F) VO0_10.junk (kernelRun0_A c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).2.1)

/-- Case A's pieces for scratch `arg15`, which the kernel carries between points, cover it: 2 pieces of `S96x3584` tiling it (Lib/Ring.lean `Piece.tiledL`). -/
theorem scover0_A_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) (y : S96x3584.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).2.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).2.2.1 S96x3584.size (by sl_kernel_rfl) y

/-- What case A leaves in scratch `arg15`: its pieces read back over junk. -/
def sout0_A_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) : Vec F S96x3584 .f32 :=
  VS0_0.read (Elt F) (VS0_0.writes (Elt F) VS0_0.junk (kernelRun0_A c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).2.2.1)

/-- Case B stores nothing into output 9 (the window is idle at its points and not written back there):
    no pieces — a placeholder (junk read back) that nothing consults, since at these points the window is neither
    written back nor read at the next point (Lib/Pipeline.lean "Idle points"). -/
def out0_B_9 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) : Vec F S96x3584 .fp8e4m3 :=
  VO0_9.read (Elt F) (VO0_9.writes (Elt F) VO0_9.junk (kernelRun0_B c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).1)

/-- Case B stores nothing into output 10 (the window is idle at its points and not written back there):
    no pieces — a placeholder (junk read back) that nothing consults, since at these points the window is neither
    written back nor read at the next point (Lib/Pipeline.lean "Idle points"). -/
def out0_B_10 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) : Vec F S96x28 .f32 :=
  VO0_10.read (Elt F) (VO0_10.writes (Elt F) VO0_10.junk (kernelRun0_B c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).2.1)

/-- Case B's pieces for scratch `arg15`, which the kernel carries between points, cover it: 1 piece of `S96x3584` tiling it (Lib/Ring.lean `Piece.tiledL`). -/
theorem scover0_B_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) (y : S96x3584.Idx) :
    ∃ pc ∈ (kernelRun0_B c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).2.2.1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).2.2.1 S96x3584.size (by sl_kernel_rfl) y

/-- What case B leaves in scratch `arg15`: its pieces read back over junk. -/
def sout0_B_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) : Vec F S96x3584 .f32 :=
  VS0_0.read (Elt F) (VS0_0.writes (Elt F) VS0_0.junk (kernelRun0_B c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).2.2.1)

/-- Case C stores nothing into output 9 (the window is idle at its points and not written back there):
    no pieces — a placeholder (junk read back) that nothing consults, since at these points the window is neither
    written back nor read at the next point (Lib/Pipeline.lean "Idle points"). -/
def out0_C_9 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) : Vec F S96x3584 .fp8e4m3 :=
  VO0_9.read (Elt F) (VO0_9.writes (Elt F) VO0_9.junk (kernelRun0_C c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).1)

/-- Case C stores nothing into output 10 (the window is idle at its points and not written back there):
    no pieces — a placeholder (junk read back) that nothing consults, since at these points the window is neither
    written back nor read at the next point (Lib/Pipeline.lean "Idle points"). -/
def out0_C_10 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) : Vec F S96x28 .f32 :=
  VO0_10.read (Elt F) (VO0_10.writes (Elt F) VO0_10.junk (kernelRun0_C c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.1)

/-- Case C's pieces for scratch `arg15`, which the kernel carries between points, cover it: 1 piece of `S96x3584` tiling it (Lib/Ring.lean `Piece.tiledL`). -/
theorem scover0_C_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) (y : S96x3584.Idx) :
    ∃ pc ∈ (kernelRun0_C c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.2.1, y ∈ pc.1.set :=
  View.cover_of_tiledL (kernelRun0_C c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.2.1 S96x3584.size (by sl_kernel_rfl) y

/-- What case C leaves in scratch `arg15`: its pieces read back over junk. -/
def sout0_C_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) : Vec F S96x3584 .f32 :=
  VS0_0.read (Elt F) (VS0_0.writes (Elt F) VS0_0.junk (kernelRun0_C c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.2.1)

/-- Case D stores nothing into output 9 (the window is idle at its points and not written back there):
    no pieces — a placeholder (junk read back) that nothing consults, since at these points the window is neither
    written back nor read at the next point (Lib/Pipeline.lean "Idle points"). -/
def out0_D_9 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : ¬cond0_1 i (tbM0_1.view.readAt (Elt F) (Rect.unit (s := S1) ![0] S1.size inb_S1_S1_0).toLoadRect xt1 (Shape.Idx.first (numel1_S1.symm ▸ Nat.one_pos)))) : Vec F S96x3584 .fp8e4m3 :=
  VO0_9.read (Elt F) (VO0_9.writes (Elt F) VO0_9.junk (kernelRun0_D c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).1)

/-- Case D stores nothing into output 10 (the window is idle at its points and not written back there):
    no pieces — a placeholder (junk read back) that nothing consults, since at these points the window is neither
    written back nor read at the next point (Lib/Pipeline.lean "Idle points"). -/
def out0_D_10 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : ¬cond0_1 i (tbM0_1.view.readAt (Elt F) (Rect.unit (s := S1) ![0] S1.size inb_S1_S1_0).toLoadRect xt1 (Shape.Idx.first (numel1_S1.symm ▸ Nat.one_pos)))) : Vec F S96x28 .f32 :=
  VO0_10.read (Elt F) (VO0_10.writes (Elt F) VO0_10.junk (kernelRun0_D c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.1)

/-- Case D stores nothing into scratch `arg15`: it holds what the point before left. -/
def sout0_D_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : ¬cond0_1 i (tbM0_1.view.readAt (Elt F) (Rect.unit (s := S1) ![0] S1.size inb_S1_S1_0).toLoadRect xt1 (Shape.Idx.first (numel1_S1.symm ▸ Nat.one_pos)))) : Vec F S96x3584 .f32 := xs0

/-- Case E's pieces for output 9 tile its block (28 stores of `S96x128`, checked by the kernel's evaluation: Lib/Ring.lean `Piece.tiledL`, linear in the pieces, through a loop's `@[irreducible]` trip theorem too), so they cover it. -/
theorem cover0_E_9 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) (y : S96x3584.Idx) :
    ∃ pc ∈ (kernelRun0_E c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).1, y ∈ pc.1.set :=
  View.cover_of_tiledL (kernelRun0_E c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).1 S96x128.size (by sl_kernel_rfl) y

/-- What case E leaves in output 9's staging buffer: its pieces read back over junk. -/
def out0_E_9 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) : Vec F S96x3584 .fp8e4m3 :=
  VO0_9.read (Elt F) (VO0_9.writes (Elt F) VO0_9.junk (kernelRun0_E c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).1)

/-- Case E's pieces for output 10 tile its block (28 stores of `S96x1`, checked by the kernel's evaluation: Lib/Ring.lean `Piece.tiledL`, linear in the pieces, through a loop's `@[irreducible]` trip theorem too), so they cover it. -/
theorem cover0_E_10 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) (y : S96x28.Idx) :
    ∃ pc ∈ (kernelRun0_E c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.1, y ∈ pc.1.set :=
  View.cover_of_tiledL (kernelRun0_E c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.1 S96x1.size (by sl_kernel_rfl) y

/-- What case E leaves in output 10's staging buffer: its pieces read back over junk. -/
def out0_E_10 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) : Vec F S96x28 .f32 :=
  VO0_10.read (Elt F) (VO0_10.writes (Elt F) VO0_10.junk (kernelRun0_E c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.1)

/-- Case E's pieces for scratch `arg15`, which the kernel carries between points, cover it: 1 piece of `S96x3584` tiling it (Lib/Ring.lean `Piece.tiledL`). -/
theorem scover0_E_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) (y : S96x3584.Idx) :
    ∃ pc ∈ (kernelRun0_E c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.2.1, y ∈ pc.1.set :=
  View.cover_of_tiledL (kernelRun0_E c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.2.1 S96x3584.size (by sl_kernel_rfl) y

/-- What case E leaves in scratch `arg15`: its pieces read back over junk. -/
def sout0_E_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) : Vec F S96x3584 .f32 :=
  VS0_0.read (Elt F) (VS0_0.writes (Elt F) VS0_0.junk (kernelRun0_E c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.2.1)

/-- Case F's pieces for output 9 tile its block (28 stores of `S96x128`, checked by the kernel's evaluation: Lib/Ring.lean `Piece.tiledL`, linear in the pieces, through a loop's `@[irreducible]` trip theorem too), so they cover it. -/
theorem cover0_F_9 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : ¬cond0_1 i (tbM0_1.view.readAt (Elt F) (Rect.unit (s := S1) ![0] S1.size inb_S1_S1_0).toLoadRect xt1 (Shape.Idx.first (numel1_S1.symm ▸ Nat.one_pos)))) (y : S96x3584.Idx) :
    ∃ pc ∈ (kernelRun0_F c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).1, y ∈ pc.1.set :=
  View.cover_of_tiledL (kernelRun0_F c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).1 S96x128.size (by sl_kernel_rfl) y

/-- What case F leaves in output 9's staging buffer: its pieces read back over junk. -/
def out0_F_9 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : ¬cond0_1 i (tbM0_1.view.readAt (Elt F) (Rect.unit (s := S1) ![0] S1.size inb_S1_S1_0).toLoadRect xt1 (Shape.Idx.first (numel1_S1.symm ▸ Nat.one_pos)))) : Vec F S96x3584 .fp8e4m3 :=
  VO0_9.read (Elt F) (VO0_9.writes (Elt F) VO0_9.junk (kernelRun0_F c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).1)

/-- Case F's pieces for output 10 tile its block (28 stores of `S96x1`, checked by the kernel's evaluation: Lib/Ring.lean `Piece.tiledL`, linear in the pieces, through a loop's `@[irreducible]` trip theorem too), so they cover it. -/
theorem cover0_F_10 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : ¬cond0_1 i (tbM0_1.view.readAt (Elt F) (Rect.unit (s := S1) ![0] S1.size inb_S1_S1_0).toLoadRect xt1 (Shape.Idx.first (numel1_S1.symm ▸ Nat.one_pos)))) (y : S96x28.Idx) :
    ∃ pc ∈ (kernelRun0_F c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.1, y ∈ pc.1.set :=
  View.cover_of_tiledL (kernelRun0_F c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.1 S96x1.size (by sl_kernel_rfl) y

/-- What case F leaves in output 10's staging buffer: its pieces read back over junk. -/
def out0_F_10 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : ¬cond0_1 i (tbM0_1.view.readAt (Elt F) (Rect.unit (s := S1) ![0] S1.size inb_S1_S1_0).toLoadRect xt1 (Shape.Idx.first (numel1_S1.symm ▸ Nat.one_pos)))) : Vec F S96x28 .f32 :=
  VO0_10.read (Elt F) (VO0_10.writes (Elt F) VO0_10.junk (kernelRun0_F c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.1)

/-- Case F stores nothing into scratch `arg15`: it holds what the point before left. -/
def sout0_F_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : ¬cond0_1 i (tbM0_1.view.readAt (Elt F) (Rect.unit (s := S1) ![0] S1.size inb_S1_S1_0).toLoadRect xt1 (Shape.Idx.first (numel1_S1.symm ▸ Nat.one_pos)))) : Vec F S96x3584 .f32 := xs0

/-! ## What the outputs hold after each point -/

/-- One point of the grid: what the staging buffers of the outputs and the carried scratch hold after the body at point `t`,
    when the scratch held `xs` before it (asked for only where the point is not the first). -/
def outsStep (hO : Ok m) (c : Dev nD) (t : Fin (cfgM m hO).N) (xs : ¬t.val % 105 = 0 → Vec F S96x3584 .f32) : Vec F S96x3584 .fp8e4m3 × Vec F S96x28 .f32 × Vec F S96x3584 .f32 :=
  if h1 : cond0_1 (grid0.coords t) (tbM0_1.view.readAt (Elt F) (Rect.unit (s := S1) ![0] S1.size inb_S1_S1_0).toLoadRect (tbl m 1) (Shape.Idx.first (numel1_S1.symm ▸ Nat.one_pos))) then
    if h0 : t.val % 105 = 0 then
      if h2 : t.val % 105 = 104 then False.elim (by omega)
      else (out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1, out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1)
    else if h2 : t.val % 105 = 104 then (out0_E_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1, out0_E_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1, sout0_E_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1)
      else (out0_C_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1, out0_C_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1)
  else
    if h0 : t.val % 105 = 0 then
      if h2 : t.val % 105 = 104 then False.elim (by omega)
      else (out0_B_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1, out0_B_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1)
    else if h2 : t.val % 105 = 104 then (out0_F_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1, out0_F_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1, sout0_F_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1)
      else (out0_D_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1, out0_D_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1)

/-- What the staging buffers of the outputs and the carried scratch hold after the body at position `n`, point by point. -/
def outsAt0 (hO : Ok m) (c : Dev nD) : (n : ℕ) → n < (cfgM m hO).N → Vec F S96x3584 .fp8e4m3 × Vec F S96x28 .f32 × Vec F S96x3584 .f32
  | 0, hn => outsStep m hO c ⟨0, hn⟩ (fun h => absurd (Nat.zero_mod _) h)
  | n + 1, hn => outsStep m hO c ⟨n + 1, hn⟩ (fun _ => (outsAt0 hO c n (Nat.lt_of_succ_lt hn)).2.2)

/-- After the first point: one step from nothing. -/
theorem outsAt0_zero (hO : Ok m) (c : Dev nD) (hn : 0 < (cfgM m hO).N) : outsAt0 m hO c 0 hn = outsStep m hO c ⟨0, hn⟩ (fun h => absurd (Nat.zero_mod _) h) := rfl

/-- After a later point: one step from what the point before left. -/
theorem outsAt0_succ (hO : Ok m) (c : Dev nD) (n : ℕ) (hn : n + 1 < (cfgM m hO).N) : outsAt0 m hO c (n + 1) hn = outsStep m hO c ⟨n + 1, hn⟩ (fun _ => (outsAt0 m hO c n (Nat.lt_of_succ_lt hn)).2.2) := rfl

/-- Every point is one step from what the point before left, when there is one. -/
theorem outsAt0_step (hO : Ok m) (c : Dev nD) (t : Fin (cfgM m hO).N) : outsAt0 m hO c t.val t.isLt = outsStep m hO c t (fun _ => (outsAt0 m hO c (t.val - 1) (Nat.lt_of_le_of_lt (Nat.sub_le _ _) t.isLt)).2.2) := by
  obtain ⟨n, hn⟩ := t
  cases n with
  | zero => exact (outsAt0_zero m hO c hn).trans (congrArg (outsStep m hO c ⟨0, hn⟩) (funext fun h => absurd (Nat.zero_mod _) h))
  | succ n => exact outsAt0_succ m hO c n hn

/-- `outsAt0` at a point of case A: that case's contents. -/
theorem outsAt0_A (hO : Ok m) (c : Dev nD) (t : Fin (cfgM m hO).N) (h0 : t.val % 105 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 105 = 104) :
    outsAt0 m hO c t.val t.isLt = (out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1, out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1) :=
  (outsAt0_step m hO c t).trans ((dif_pos h1).trans ((dif_pos h0).trans (dif_neg h2)))

/-- `outsAt0` at a point of case B: that case's contents. -/
theorem outsAt0_B (hO : Ok m) (c : Dev nD) (t : Fin (cfgM m hO).N) (h0 : t.val % 105 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 105 = 104) :
    outsAt0 m hO c t.val t.isLt = (out0_B_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1, out0_B_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1) :=
  (outsAt0_step m hO c t).trans ((dif_neg h1).trans ((dif_pos h0).trans (dif_neg h2)))

/-- `outsAt0` at a point of case C: that case's contents. -/
theorem outsAt0_C (hO : Ok m) (c : Dev nD) (t : Fin (cfgM m hO).N) (h0 : ¬t.val % 105 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 105 = 104) :
    outsAt0 m hO c t.val t.isLt = (out0_C_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1, out0_C_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1) :=
  (outsAt0_step m hO c t).trans ((dif_pos h1).trans ((dif_neg h0).trans (dif_neg h2)))

/-- `outsAt0` at a point of case D: that case's contents. -/
theorem outsAt0_D (hO : Ok m) (c : Dev nD) (t : Fin (cfgM m hO).N) (h0 : ¬t.val % 105 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 105 = 104) :
    outsAt0 m hO c t.val t.isLt = (out0_D_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1, out0_D_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1) :=
  (outsAt0_step m hO c t).trans ((dif_neg h1).trans ((dif_neg h0).trans (dif_neg h2)))

/-- `outsAt0` at a point of case E: that case's contents. -/
theorem outsAt0_E (hO : Ok m) (c : Dev nD) (t : Fin (cfgM m hO).N) (h0 : ¬t.val % 105 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 105 = 104) :
    outsAt0 m hO c t.val t.isLt = (out0_E_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1, out0_E_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1, sout0_E_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1) :=
  (outsAt0_step m hO c t).trans ((dif_pos h1).trans ((dif_neg h0).trans (dif_pos h2)))

/-- `outsAt0` at a point of case F: that case's contents. -/
theorem outsAt0_F (hO : Ok m) (c : Dev nD) (t : Fin (cfgM m hO).N) (h0 : ¬t.val % 105 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 105 = 104) :
    outsAt0 m hO c t.val t.isLt = (out0_F_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1, out0_F_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1, sout0_F_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1) :=
  (outsAt0_step m hO c t).trans ((dif_neg h1).trans ((dif_neg h0).trans (dif_pos h2)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => (outsAt0 m hO c t.val t.isLt).1
    | ⟨10, _⟩ => (outsAt0 m hO c t.val t.isLt).2.1
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = (outsAt0 m hO c t.val t.isLt).1 := by dsimp only [dats]; try rfl
theorem after0_10 (hO : Ok m) (c : Dev nD) (t : Fin (cfgM m hO).N) : (dats m hO 0 c).after 10 t = (outsAt0 m hO c t.val t.isLt).2.1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t)

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 105 := lt_of_lt_of_eq t.isLt (show (cfgM m hO).N = 105 from N_0)
  by_cases h0 : t.val % 105 = 0
  · by_cases h1 : cond0_1 (grid0.coords t) (tbM0_1.view.readAt (Elt F) (Rect.unit (s := S1) ![0] S1.size inb_S1_S1_0).toLoadRect (tbl m 1) (Shape.Idx.first (numel1_S1.symm ▸ Nat.one_pos)))
    · by_cases h2 : t.val % 105 = 104
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8 m hO t]; try rfl, after0_8]
        rw [Dat.leavesExact_idle (dats m hO 0 c) 9 t (idleAt0_9_A m hO t ((hcond0_0 t).mpr h0) (fun h => h2 ((hcond0_2 t).mp h))) (noFlush0_9_A m hO t ((hcond0_0 t).mpr h0) (fun h => h2 ((hcond0_2 t).mp h)))]
        rw [Dat.leavesExact_idle (dats m hO 0 c) 10 t (idleAt0_10_A m hO t ((hcond0_0 t).mpr h0) (fun h => h2 ((hcond0_2 t).mp h))) (noFlush0_10_A m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_A m hO c t h0 h1 h2]
          unfold sout0_A_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_A c (grid0.coords t) _ _ _ _ _ _ _ _ _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1).2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS0]; · iexact HS0
          isplitl [HT0]; · iexact HT0
          isplitl [HT1]; · iexact HT1
          iintro ⟨H0, H1, H2, H3, H4, H5, H6, H7, H8, H9, H10, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          iexists _; iexact H10
        · exfalso; have hN : t.val < 105 := lt_of_lt_of_eq t.isLt (show (cfgM m hO).N = 105 from N_0); omega
    · by_cases h2 : t.val % 105 = 104
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8 m hO t]; try rfl, after0_8]
        rw [Dat.leavesExact_idle (dats m hO 0 c) 9 t (idleAt0_9_B m hO t ((hcond0_0 t).mpr h0) (fun h => h2 ((hcond0_2 t).mp h))) (noFlush0_9_B m hO t ((hcond0_0 t).mpr h0) (fun h => h2 ((hcond0_2 t).mp h)))]
        rw [Dat.leavesExact_idle (dats m hO 0 c) 10 t (idleAt0_10_B m hO t ((hcond0_0 t).mpr h0) (fun h => h2 ((hcond0_2 t).mp h))) (noFlush0_10_B m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_B m hO c t h0 h1 h2]
          unfold sout0_B_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_B c (grid0.coords t) _ _ _ _ _ _ _ _ _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1).2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS0]; · iexact HS0
          isplitl [HT0]; · iexact HT0
          isplitl [HT1]; · iexact HT1
          iintro ⟨H0, H1, H2, H3, H4, H5, H6, H7, H8, H9, H10, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          iexists _; iexact H10
        · exfalso; have hN : t.val < 105 := lt_of_lt_of_eq t.isLt (show (cfgM m hO).N = 105 from N_0); omega
  · by_cases h1 : cond0_1 (grid0.coords t) (tbM0_1.view.readAt (Elt F) (Rect.unit (s := S1) ![0] S1.size inb_S1_S1_0).toLoadRect (tbl m 1) (Shape.Idx.first (numel1_S1.symm ▸ Nat.one_pos)))
    · by_cases h2 : t.val % 105 = 104
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8 m hO t]; try rfl, after0_8]
        rw [show (dats m hO 0 c).leavesExact 9 t = owns (c : Thread nD τ) (ms0_9 m hO t) fullShare ((dats m hO 0 c).after 9 t) from by
      unfold Dat.leavesExact; rw [liveAt0_9_E m hO t (fun h => h0 ((hcond0_0 t).mp h)) ((hcond0_2 t).mpr h2)]; try rfl, after0_9]
        rw [show (dats m hO 0 c).leavesExact 10 t = owns (c : Thread nD τ) (ms0_10 m hO t) fullShare ((dats m hO 0 c).after 10 t) from by
      unfold Dat.leavesExact; rw [liveAt0_10_E m hO t (fun h => h0 ((hcond0_0 t).mp h)) ((hcond0_2 t).mpr h2)]; try rfl, after0_10]
        by_cases hz : t.val = 0
        · exfalso; have hN : t.val < 105 := lt_of_lt_of_eq t.isLt (show (cfgM m hO).N = 105 from N_0); omega
        · rw [PhiS_castSucc m hO c t, PhiS_pos m hO c _ _ hz, PhiT0_eq]
          rw [outsAt0_E m hO c t h0 h1 h2]
          unfold out0_E_9 out0_E_10 sout0_E_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_E c (grid0.coords t) _ _ _ _ _ _ _ _ _ _ _ _ _ _ _ _ _ _ _ _ _ _ _ _ (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) _ h1).2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [HS0]; · iexact HS0
          isplitl [HT0]; · iexact HT0
          isplitl [HT1]; · iexact HT1
          iintro ⟨H0, H1, H2, H3, H4, H5, H6, H7, H8, ⟨%e9, H9⟩, ⟨%e10, H10⟩, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_E_0 c _ _ _ _ _ _ _ _ _ _ _ _ _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · unfold owns; iexists _; isplitr
            swap; · iexact H9
            ipureintro; exact View.read_writes_of_cover _ _ _ _ _ (cover0_E_9 c _ _ _ _ _ _ _ _ _ _ _ _ _ _ _ _ _ _ _ _ _ _ _ _ _ _ _ _ _ _ _ _ _ _ _ _ _ _ _ _)
          unfold owns; iexists _; isplitr
          swap; · iexact H10
          ipureintro; exact View.read_writes_of_cover _ _ _ _ _ (cover0_E_10 c _ _ _ _ _ _ _ _ _ _ _ _ _ _ _ _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8 m hO t]; try rfl, after0_8]
        rw [Dat.leavesExact_idle (dats m hO 0 c) 9 t (idleAt0_9_C m hO t (fun h => h0 ((hcond0_0 t).mp h)) (fun h => h2 ((hcond0_2 t).mp h))) (noFlush0_9_C m hO t (fun h => h0 ((hcond0_0 t).mp h)) (fun h => h2 ((hcond0_2 t).mp h)))]
        rw [Dat.leavesExact_idle (dats m hO 0 c) 10 t (idleAt0_10_C m hO t (fun h => h0 ((hcond0_0 t).mp h)) (fun h => h2 ((hcond0_2 t).mp h))) (noFlush0_10_C m hO t (fun h => h0 ((hcond0_0 t).mp h)) (fun h => h2 ((hcond0_2 t).mp h)))]
        by_cases hz : t.val = 0
        · exfalso; have hN : t.val < 105 := lt_of_lt_of_eq t.isLt (show (cfgM m hO).N = 105 from N_0); omega
        · rw [PhiS_castSucc m hO c t, PhiS_pos m hO c _ _ hz, PhiT0_eq]
          rw [outsAt0_C m hO c t h0 h1 h2]
          unfold sout0_C_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_C c (grid0.coords t) _ _ _ _ _ _ _ _ _ _ _ _ _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) _ h1).2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS0]; · iexact HS0
          isplitl [HT0]; · iexact HT0
          isplitl [HT1]; · iexact HT1
          iintro ⟨H0, H1, H2, H3, H4, H5, H6, H7, H8, H9, H10, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          iexists _; iexact H10
    · by_cases h2 : t.val % 105 = 104
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8 m hO t]; try rfl, after0_8]
        rw [show (dats m hO 0 c).leavesExact 9 t = owns (c : Thread nD τ) (ms0_9 m hO t) fullShare ((dats m hO 0 c).after 9 t) from by
      unfold Dat.leavesExact; rw [liveAt0_9_F m hO t (fun h => h0 ((hcond0_0 t).mp h)) ((hcond0_2 t).mpr h2)]; try rfl, after0_9]
        rw [show (dats m hO 0 c).leavesExact 10 t = owns (c : Thread nD τ) (ms0_10 m hO t) fullShare ((dats m hO 0 c).after 10 t) from by
      unfold Dat.leavesExact; rw [liveAt0_10_F m hO t (fun h => h0 ((hcond0_0 t).mp h)) ((hcond0_2 t).mpr h2)]; try rfl, after0_10]
        by_cases hz : t.val = 0
        · exfalso; have hN : t.val < 105 := lt_of_lt_of_eq t.isLt (show (cfgM m hO).N = 105 from N_0); omega
        · rw [PhiS_castSucc m hO c t, PhiS_pos m hO c _ _ hz, PhiT0_eq]
          rw [outsAt0_F m hO c t h0 h1 h2]
          unfold out0_F_9 out0_F_10 sout0_F_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_F c (grid0.coords t) _ _ _ _ _ _ _ _ _ _ _ _ _ _ _ _ _ _ _ _ _ _ _ _ (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) _ h1).2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [HS0]; · iexact HS0
          isplitl [HT0]; · iexact HT0
          isplitl [HT1]; · iexact HT1
          iintro ⟨H0, H1, H2, H3, H4, H5, H6, H7, H8, ⟨%e9, H9⟩, ⟨%e10, H10⟩, HS0, HT0, HT1⟩
          isplitl [HS0 Hg HT0 HT1]
          · isplitl [HS0 Hg]
            · isplitl [HS0]
              · iexact HS0
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · unfold owns; iexists _; isplitr
            swap; · iexact H9
            ipureintro; exact View.read_writes_of_cover _ _ _ _ _ (cover0_F_9 c _ _ _ _ _ _ _ _ _ _ _ _ _ _ _ _ _ _ _ _ _ _ _ _ _ _ _ _ _ _ _ _ _ _ _ _ _ _ _ _)
          unfold owns; iexists _; isplitr
          swap; · iexact H10
          ipureintro; exact View.read_writes_of_cover _ _ _ _ _ (cover0_F_10 c _ _ _ _ _ _ _ _ _ _ _ _ _ _ _ _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8 m hO t]; try rfl, after0_8]
        rw [Dat.leavesExact_idle (dats m hO 0 c) 9 t (idleAt0_9_D m hO t (fun h => h0 ((hcond0_0 t).mp h)) (fun h => h2 ((hcond0_2 t).mp h))) (noFlush0_9_D m hO t (fun h => h0 ((hcond0_0 t).mp h)) (fun h => h2 ((hcond0_2 t).mp h)))]
        rw [Dat.leavesExact_idle (dats m hO 0 c) 10 t (idleAt0_10_D m hO t (fun h => h0 ((hcond0_0 t).mp h)) (fun h => h2 ((hcond0_2 t).mp h))) (noFlush0_10_D m hO t (fun h => h0 ((hcond0_0 t).mp h)) (fun h => h2 ((hcond0_2 t).mp h)))]
        by_cases hz : t.val = 0
        · exfalso; have hN : t.val < 105 := lt_of_lt_of_eq t.isLt (show (cfgM m hO).N = 105 from N_0); omega
        · rw [PhiS_castSucc m hO c t, PhiS_pos m hO c _ _ hz, PhiT0_eq]
          rw [outsAt0_D m hO c t h0 h1 h2]
          unfold sout0_D_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_D c (grid0.coords t) _ _ _ _ _ _ _ _ _ _ _ _ _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) _ h1).2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS0]; · iexact HS0
          isplitl [HT0]; · iexact HT0
          isplitl [HT1]; · iexact HT1
          iintro ⟨H0, H1, H2, H3, H4, H5, H6, H7, H8, H9, H10, HS0, HT0, HT1⟩
          isplitl [HS0 Hg HT0 HT1]
          · isplitl [HS0 Hg]
            · isplitl [HS0]
              · iexact HS0
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          iexists _; iexact H10

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 105 := N_0; omega)

/-! ## The run and the frame -/

-- `θ_run_frameP_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Kernel.Gen

end
-- ==== Proof.KernelIdealFrame.lean ====
/- The frame of the program KernelIdeal: what the outputs and the scratch hold point by point, the proof data of the pipeline,
   the obligation of the body at each of the six kinds of point, and the run of the whole program. The statements are those
   of the generated frame; the contents point by point are stated here as one step (`outsStep`) and its iteration, since
   unfolding the two at once is beyond the elaborator's budget at these shapes. -/
module

public import proofs.«01_k».proof.Proof.Gen.KernelIdeal.Frame.RunF
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 9 (the window is idle at its points and not written back there):
    no pieces — a placeholder (junk read back) that nothing consults, since at these points the window is neither
    written back nor read at the next point (Lib/Pipeline.lean "Idle points"). -/
def out0_A_9 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) : Vec F S96x3584 .fp8e4m3 :=
  VO0_9.read (Elt F) (VO0_9.writes (Elt F) VO0_9.junk (kernelRun0_A c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).1)

/-- Case A stores nothing into output 10 (the window is idle at its points and not written back there):
    no pieces — a placeholder (junk read back) that nothing consults, since at these points the window is neither
    written back nor read at the next point (Lib/Pipeline.lean "Idle points"). -/
def out0_A_10 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) : Vec F S96x28 .f32 :=
  VO0_10.read (Elt F) (VO0_10.writes (Elt F) VO0_10.junk (kernelRun0_A c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).2.1)

/-- Case A's pieces for scratch `arg15`, which the kernel carries between points, cover it: 2 pieces of `S96x3584` tiling it (Lib/Ring.lean `Piece.tiledL`). -/
theorem scover0_A_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) (y : S96x3584.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).2.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).2.2.1 S96x3584.size (by sl_kernel_rfl) y

/-- What case A leaves in scratch `arg15`: its pieces read back over junk. -/
def sout0_A_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) : Vec F S96x3584 .f32 :=
  VS0_0.read (Elt F) (VS0_0.writes (Elt F) VS0_0.junk (kernelRun0_A c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).2.2.1)

/-- Case B stores nothing into output 9 (the window is idle at its points and not written back there):
    no pieces — a placeholder (junk read back) that nothing consults, since at these points the window is neither
    written back nor read at the next point (Lib/Pipeline.lean "Idle points"). -/
def out0_B_9 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) : Vec F S96x3584 .fp8e4m3 :=
  VO0_9.read (Elt F) (VO0_9.writes (Elt F) VO0_9.junk (kernelRun0_B c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).1)

/-- Case B stores nothing into output 10 (the window is idle at its points and not written back there):
    no pieces — a placeholder (junk read back) that nothing consults, since at these points the window is neither
    written back nor read at the next point (Lib/Pipeline.lean "Idle points"). -/
def out0_B_10 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) : Vec F S96x28 .f32 :=
  VO0_10.read (Elt F) (VO0_10.writes (Elt F) VO0_10.junk (kernelRun0_B c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).2.1)

/-- Case B's pieces for scratch `arg15`, which the kernel carries between points, cover it: 1 piece of `S96x3584` tiling it (Lib/Ring.lean `Piece.tiledL`). -/
theorem scover0_B_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) (y : S96x3584.Idx) :
    ∃ pc ∈ (kernelRun0_B c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).2.2.1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).2.2.1 S96x3584.size (by sl_kernel_rfl) y

/-- What case B leaves in scratch `arg15`: its pieces read back over junk. -/
def sout0_B_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) : Vec F S96x3584 .f32 :=
  VS0_0.read (Elt F) (VS0_0.writes (Elt F) VS0_0.junk (kernelRun0_B c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1).2.2.1)

/-- Case C stores nothing into output 9 (the window is idle at its points and not written back there):
    no pieces — a placeholder (junk read back) that nothing consults, since at these points the window is neither
    written back nor read at the next point (Lib/Pipeline.lean "Idle points"). -/
def out0_C_9 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) : Vec F S96x3584 .fp8e4m3 :=
  VO0_9.read (Elt F) (VO0_9.writes (Elt F) VO0_9.junk (kernelRun0_C c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).1)

/-- Case C stores nothing into output 10 (the window is idle at its points and not written back there):
    no pieces — a placeholder (junk read back) that nothing consults, since at these points the window is neither
    written back nor read at the next point (Lib/Pipeline.lean "Idle points"). -/
def out0_C_10 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) : Vec F S96x28 .f32 :=
  VO0_10.read (Elt F) (VO0_10.writes (Elt F) VO0_10.junk (kernelRun0_C c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.1)

/-- Case C's pieces for scratch `arg15`, which the kernel carries between points, cover it: 1 piece of `S96x3584` tiling it (Lib/Ring.lean `Piece.tiledL`). -/
theorem scover0_C_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) (y : S96x3584.Idx) :
    ∃ pc ∈ (kernelRun0_C c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.2.1, y ∈ pc.1.set :=
  View.cover_of_tiledL (kernelRun0_C c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.2.1 S96x3584.size (by sl_kernel_rfl) y

/-- What case C leaves in scratch `arg15`: its pieces read back over junk. -/
def sout0_C_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) : Vec F S96x3584 .f32 :=
  VS0_0.read (Elt F) (VS0_0.writes (Elt F) VS0_0.junk (kernelRun0_C c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.2.1)

/-- Case D stores nothing into output 9 (the window is idle at its points and not written back there):
    no pieces — a placeholder (junk read back) that nothing consults, since at these points the window is neither
    written back nor read at the next point (Lib/Pipeline.lean "Idle points"). -/
def out0_D_9 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : ¬cond0_1 i (tbM0_1.view.readAt (Elt F) (Rect.unit (s := S1) ![0] S1.size inb_S1_S1_0).toLoadRect xt1 (Shape.Idx.first (numel1_S1.symm ▸ Nat.one_pos)))) : Vec F S96x3584 .fp8e4m3 :=
  VO0_9.read (Elt F) (VO0_9.writes (Elt F) VO0_9.junk (kernelRun0_D c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).1)

/-- Case D stores nothing into output 10 (the window is idle at its points and not written back there):
    no pieces — a placeholder (junk read back) that nothing consults, since at these points the window is neither
    written back nor read at the next point (Lib/Pipeline.lean "Idle points"). -/
def out0_D_10 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : ¬cond0_1 i (tbM0_1.view.readAt (Elt F) (Rect.unit (s := S1) ![0] S1.size inb_S1_S1_0).toLoadRect xt1 (Shape.Idx.first (numel1_S1.symm ▸ Nat.one_pos)))) : Vec F S96x28 .f32 :=
  VO0_10.read (Elt F) (VO0_10.writes (Elt F) VO0_10.junk (kernelRun0_D c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.1)

/-- Case D stores nothing into scratch `arg15`: it holds what the point before left. -/
def sout0_D_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : ¬cond0_1 i (tbM0_1.view.readAt (Elt F) (Rect.unit (s := S1) ![0] S1.size inb_S1_S1_0).toLoadRect xt1 (Shape.Idx.first (numel1_S1.symm ▸ Nat.one_pos)))) : Vec F S96x3584 .f32 := xs0

/-- Case E's pieces for output 9 tile its block (28 stores of `S96x128`, checked by the kernel's evaluation: Lib/Ring.lean `Piece.tiledL`, linear in the pieces, through a loop's `@[irreducible]` trip theorem too), so they cover it. -/
theorem cover0_E_9 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) (y : S96x3584.Idx) :
    ∃ pc ∈ (kernelRun0_E c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).1, y ∈ pc.1.set :=
  View.cover_of_tiledL (kernelRun0_E c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).1 S96x128.size (by sl_kernel_rfl) y

/-- What case E leaves in output 9's staging buffer: its pieces read back over junk. -/
def out0_E_9 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) : Vec F S96x3584 .fp8e4m3 :=
  VO0_9.read (Elt F) (VO0_9.writes (Elt F) VO0_9.junk (kernelRun0_E c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).1)

/-- Case E's pieces for output 10 tile its block (28 stores of `S96x1`, checked by the kernel's evaluation: Lib/Ring.lean `Piece.tiledL`, linear in the pieces, through a loop's `@[irreducible]` trip theorem too), so they cover it. -/
theorem cover0_E_10 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) (y : S96x28.Idx) :
    ∃ pc ∈ (kernelRun0_E c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.1, y ∈ pc.1.set :=
  View.cover_of_tiledL (kernelRun0_E c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.1 S96x1.size (by sl_kernel_rfl) y

/-- What case E leaves in output 10's staging buffer: its pieces read back over junk. -/
def out0_E_10 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) : Vec F S96x28 .f32 :=
  VO0_10.read (Elt F) (VO0_10.writes (Elt F) VO0_10.junk (kernelRun0_E c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.1)

/-- Case E's pieces for scratch `arg15`, which the kernel carries between points, cover it: 1 piece of `S96x3584` tiling it (Lib/Ring.lean `Piece.tiledL`). -/
theorem scover0_E_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) (y : S96x3584.Idx) :
    ∃ pc ∈ (kernelRun0_E c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.2.1, y ∈ pc.1.set :=
  View.cover_of_tiledL (kernelRun0_E c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.2.1 S96x3584.size (by sl_kernel_rfl) y

/-- What case E leaves in scratch `arg15`: its pieces read back over junk. -/
def sout0_E_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) : Vec F S96x3584 .f32 :=
  VS0_0.read (Elt F) (VS0_0.writes (Elt F) VS0_0.junk (kernelRun0_E c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.2.1)

/-- Case F's pieces for output 9 tile its block (28 stores of `S96x128`, checked by the kernel's evaluation: Lib/Ring.lean `Piece.tiledL`, linear in the pieces, through a loop's `@[irreducible]` trip theorem too), so they cover it. -/
theorem cover0_F_9 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : ¬cond0_1 i (tbM0_1.view.readAt (Elt F) (Rect.unit (s := S1) ![0] S1.size inb_S1_S1_0).toLoadRect xt1 (Shape.Idx.first (numel1_S1.symm ▸ Nat.one_pos)))) (y : S96x3584.Idx) :
    ∃ pc ∈ (kernelRun0_F c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).1, y ∈ pc.1.set :=
  View.cover_of_tiledL (kernelRun0_F c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).1 S96x128.size (by sl_kernel_rfl) y

/-- What case F leaves in output 9's staging buffer: its pieces read back over junk. -/
def out0_F_9 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : ¬cond0_1 i (tbM0_1.view.readAt (Elt F) (Rect.unit (s := S1) ![0] S1.size inb_S1_S1_0).toLoadRect xt1 (Shape.Idx.first (numel1_S1.symm ▸ Nat.one_pos)))) : Vec F S96x3584 .fp8e4m3 :=
  VO0_9.read (Elt F) (VO0_9.writes (Elt F) VO0_9.junk (kernelRun0_F c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).1)

/-- Case F's pieces for output 10 tile its block (28 stores of `S96x1`, checked by the kernel's evaluation: Lib/Ring.lean `Piece.tiledL`, linear in the pieces, through a loop's `@[irreducible]` trip theorem too), so they cover it. -/
theorem cover0_F_10 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : ¬cond0_1 i (tbM0_1.view.readAt (Elt F) (Rect.unit (s := S1) ![0] S1.size inb_S1_S1_0).toLoadRect xt1 (Shape.Idx.first (numel1_S1.symm ▸ Nat.one_pos)))) (y : S96x28.Idx) :
    ∃ pc ∈ (kernelRun0_F c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.1, y ∈ pc.1.set :=
  View.cover_of_tiledL (kernelRun0_F c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.1 S96x1.size (by sl_kernel_rfl) y

/-- What case F leaves in output 10's staging buffer: its pieces read back over junk. -/
def out0_F_10 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : ¬cond0_1 i (tbM0_1.view.readAt (Elt F) (Rect.unit (s := S1) ![0] S1.size inb_S1_S1_0).toLoadRect xt1 (Shape.Idx.first (numel1_S1.symm ▸ Nat.one_pos)))) : Vec F S96x28 .f32 :=
  VO0_10.read (Elt F) (VO0_10.writes (Elt F) VO0_10.junk (kernelRun0_F c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1).2.1)

/-- Case F stores nothing into scratch `arg15`: it holds what the point before left. -/
def sout0_F_0 (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : ¬cond0_1 i (tbM0_1.view.readAt (Elt F) (Rect.unit (s := S1) ![0] S1.size inb_S1_S1_0).toLoadRect xt1 (Shape.Idx.first (numel1_S1.symm ▸ Nat.one_pos)))) : Vec F S96x3584 .f32 := xs0

/-! ## What the outputs hold after each point -/

/-- One point of the grid: what the staging buffers of the outputs and the carried scratch hold after the body at point `t`,
    when the scratch held `xs` before it (asked for only where the point is not the first). -/
def outsStep (hO : Ok m) (c : Dev nD) (t : Fin (cfgM m hO).N) (xs : ¬t.val % 105 = 0 → Vec F S96x3584 .f32) : Vec F S96x3584 .fp8e4m3 × Vec F S96x28 .f32 × Vec F S96x3584 .f32 :=
  if h1 : cond0_1 (grid0.coords t) (tbM0_1.view.readAt (Elt F) (Rect.unit (s := S1) ![0] S1.size inb_S1_S1_0).toLoadRect (tbl m 1) (Shape.Idx.first (numel1_S1.symm ▸ Nat.one_pos))) then
    if h0 : t.val % 105 = 0 then
      if h2 : t.val % 105 = 104 then False.elim (by omega)
      else (out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1, out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1)
    else if h2 : t.val % 105 = 104 then (out0_E_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1, out0_E_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1, sout0_E_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1)
      else (out0_C_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1, out0_C_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1)
  else
    if h0 : t.val % 105 = 0 then
      if h2 : t.val % 105 = 104 then False.elim (by omega)
      else (out0_B_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1, out0_B_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1)
    else if h2 : t.val % 105 = 104 then (out0_F_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1, out0_F_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1, sout0_F_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1)
      else (out0_D_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1, out0_D_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (xs h0) h1)

/-- What the staging buffers of the outputs and the carried scratch hold after the body at position `n`, point by point. -/
def outsAt0 (hO : Ok m) (c : Dev nD) : (n : ℕ) → n < (cfgM m hO).N → Vec F S96x3584 .fp8e4m3 × Vec F S96x28 .f32 × Vec F S96x3584 .f32
  | 0, hn => outsStep m hO c ⟨0, hn⟩ (fun h => absurd (Nat.zero_mod _) h)
  | n + 1, hn => outsStep m hO c ⟨n + 1, hn⟩ (fun _ => (outsAt0 hO c n (Nat.lt_of_succ_lt hn)).2.2)

/-- After the first point: one step from nothing. -/
theorem outsAt0_zero (hO : Ok m) (c : Dev nD) (hn : 0 < (cfgM m hO).N) : outsAt0 m hO c 0 hn = outsStep m hO c ⟨0, hn⟩ (fun h => absurd (Nat.zero_mod _) h) := rfl

/-- After a later point: one step from what the point before left. -/
theorem outsAt0_succ (hO : Ok m) (c : Dev nD) (n : ℕ) (hn : n + 1 < (cfgM m hO).N) : outsAt0 m hO c (n + 1) hn = outsStep m hO c ⟨n + 1, hn⟩ (fun _ => (outsAt0 m hO c n (Nat.lt_of_succ_lt hn)).2.2) := rfl

/-- Every point is one step from what the point before left, when there is one. -/
theorem outsAt0_step (hO : Ok m) (c : Dev nD) (t : Fin (cfgM m hO).N) : outsAt0 m hO c t.val t.isLt = outsStep m hO c t (fun _ => (outsAt0 m hO c (t.val - 1) (Nat.lt_of_le_of_lt (Nat.sub_le _ _) t.isLt)).2.2) := by
  obtain ⟨n, hn⟩ := t
  cases n with
  | zero => exact (outsAt0_zero m hO c hn).trans (congrArg (outsStep m hO c ⟨0, hn⟩) (funext fun h => absurd (Nat.zero_mod _) h))
  | succ n => exact outsAt0_succ m hO c n hn

/-- `outsAt0` at a point of case A: that case's contents. -/
theorem outsAt0_A (hO : Ok m) (c : Dev nD) (t : Fin (cfgM m hO).N) (h0 : t.val % 105 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 105 = 104) :
    outsAt0 m hO c t.val t.isLt = (out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1, out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1) :=
  (outsAt0_step m hO c t).trans ((dif_pos h1).trans ((dif_pos h0).trans (dif_neg h2)))

/-- `outsAt0` at a point of case B: that case's contents. -/
theorem outsAt0_B (hO : Ok m) (c : Dev nD) (t : Fin (cfgM m hO).N) (h0 : t.val % 105 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 105 = 104) :
    outsAt0 m hO c t.val t.isLt = (out0_B_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1, out0_B_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1) :=
  (outsAt0_step m hO c t).trans ((dif_neg h1).trans ((dif_pos h0).trans (dif_neg h2)))

/-- `outsAt0` at a point of case C: that case's contents. -/
theorem outsAt0_C (hO : Ok m) (c : Dev nD) (t : Fin (cfgM m hO).N) (h0 : ¬t.val % 105 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 105 = 104) :
    outsAt0 m hO c t.val t.isLt = (out0_C_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1, out0_C_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1) :=
  (outsAt0_step m hO c t).trans ((dif_pos h1).trans ((dif_neg h0).trans (dif_neg h2)))

/-- `outsAt0` at a point of case D: that case's contents. -/
theorem outsAt0_D (hO : Ok m) (c : Dev nD) (t : Fin (cfgM m hO).N) (h0 : ¬t.val % 105 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 105 = 104) :
    outsAt0 m hO c t.val t.isLt = (out0_D_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1, out0_D_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1) :=
  (outsAt0_step m hO c t).trans ((dif_neg h1).trans ((dif_neg h0).trans (dif_neg h2)))

/-- `outsAt0` at a point of case E: that case's contents. -/
theorem outsAt0_E (hO : Ok m) (c : Dev nD) (t : Fin (cfgM m hO).N) (h0 : ¬t.val % 105 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 105 = 104) :
    outsAt0 m hO c t.val t.isLt = (out0_E_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1, out0_E_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1, sout0_E_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1) :=
  (outsAt0_step m hO c t).trans ((dif_pos h1).trans ((dif_neg h0).trans (dif_pos h2)))

/-- `outsAt0` at a point of case F: that case's contents. -/
theorem outsAt0_F (hO : Ok m) (c : Dev nD) (t : Fin (cfgM m hO).N) (h0 : ¬t.val % 105 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 105 = 104) :
    outsAt0 m hO c t.val t.isLt = (out0_F_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1, out0_F_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1, sout0_F_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO c (t.val - 1) (Nat.lt_of_le_of_lt (Nat.sub_le _ _) t.isLt)).2.2 h1) :=
  (outsAt0_step m hO c t).trans ((dif_neg h1).trans ((dif_neg h0).trans (dif_pos h2)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => (outsAt0 m hO c t.val t.isLt).1
    | ⟨10, _⟩ => (outsAt0 m hO c t.val t.isLt).2.1
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = (outsAt0 m hO c t.val t.isLt).1 := by dsimp only [dats]; try rfl
theorem after0_10 (hO : Ok m) (c : Dev nD) (t : Fin (cfgM m hO).N) : (dats m hO 0 c).after 10 t = (outsAt0 m hO c t.val t.isLt).2.1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t)

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 105 := lt_of_lt_of_eq t.isLt (show (cfgM m hO).N = 105 from N_0)
  by_cases h0 : t.val % 105 = 0
  · by_cases h1 : cond0_1 (grid0.coords t) (tbM0_1.view.readAt (Elt F) (Rect.unit (s := S1) ![0] S1.size inb_S1_S1_0).toLoadRect (tbl m 1) (Shape.Idx.first (numel1_S1.symm ▸ Nat.one_pos)))
    · by_cases h2 : t.val % 105 = 104
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8 m hO t]; try rfl, after0_8]
        rw [Dat.leavesExact_idle (dats m hO 0 c) 9 t (idleAt0_9_A m hO t ((hcond0_0 t).mpr h0) (fun h => h2 ((hcond0_2 t).mp h))) (noFlush0_9_A m hO t ((hcond0_0 t).mpr h0) (fun h => h2 ((hcond0_2 t).mp h)))]
        rw [Dat.leavesExact_idle (dats m hO 0 c) 10 t (idleAt0_10_A m hO t ((hcond0_0 t).mpr h0) (fun h => h2 ((hcond0_2 t).mp h))) (noFlush0_10_A m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_A m hO c t h0 h1 h2]
          unfold sout0_A_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_A c (grid0.coords t) _ _ _ _ _ _ _ _ _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1).2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS0]; · iexact HS0
          isplitl [HT0]; · iexact HT0
          isplitl [HT1]; · iexact HT1
          iintro ⟨H0, H1, H2, H3, H4, H5, H6, H7, H8, H9, H10, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          iexists _; iexact H10
        · exfalso; have hN : t.val < 105 := lt_of_lt_of_eq t.isLt (show (cfgM m hO).N = 105 from N_0); omega
    · by_cases h2 : t.val % 105 = 104
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8 m hO t]; try rfl, after0_8]
        rw [Dat.leavesExact_idle (dats m hO 0 c) 9 t (idleAt0_9_B m hO t ((hcond0_0 t).mpr h0) (fun h => h2 ((hcond0_2 t).mp h))) (noFlush0_9_B m hO t ((hcond0_0 t).mpr h0) (fun h => h2 ((hcond0_2 t).mp h)))]
        rw [Dat.leavesExact_idle (dats m hO 0 c) 10 t (idleAt0_10_B m hO t ((hcond0_0 t).mpr h0) (fun h => h2 ((hcond0_2 t).mp h))) (noFlush0_10_B m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_B m hO c t h0 h1 h2]
          unfold sout0_B_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_B c (grid0.coords t) _ _ _ _ _ _ _ _ _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h1).2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS0]; · iexact HS0
          isplitl [HT0]; · iexact HT0
          isplitl [HT1]; · iexact HT1
          iintro ⟨H0, H1, H2, H3, H4, H5, H6, H7, H8, H9, H10, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          iexists _; iexact H10
        · exfalso; have hN : t.val < 105 := lt_of_lt_of_eq t.isLt (show (cfgM m hO).N = 105 from N_0); omega
  · by_cases h1 : cond0_1 (grid0.coords t) (tbM0_1.view.readAt (Elt F) (Rect.unit (s := S1) ![0] S1.size inb_S1_S1_0).toLoadRect (tbl m 1) (Shape.Idx.first (numel1_S1.symm ▸ Nat.one_pos)))
    · by_cases h2 : t.val % 105 = 104
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8 m hO t]; try rfl, after0_8]
        rw [show (dats m hO 0 c).leavesExact 9 t = owns (c : Thread nD τ) (ms0_9 m hO t) fullShare ((dats m hO 0 c).after 9 t) from by
      unfold Dat.leavesExact; rw [liveAt0_9_E m hO t (fun h => h0 ((hcond0_0 t).mp h)) ((hcond0_2 t).mpr h2)]; try rfl, after0_9]
        rw [show (dats m hO 0 c).leavesExact 10 t = owns (c : Thread nD τ) (ms0_10 m hO t) fullShare ((dats m hO 0 c).after 10 t) from by
      unfold Dat.leavesExact; rw [liveAt0_10_E m hO t (fun h => h0 ((hcond0_0 t).mp h)) ((hcond0_2 t).mpr h2)]; try rfl, after0_10]
        by_cases hz : t.val = 0
        · exfalso; have hN : t.val < 105 := lt_of_lt_of_eq t.isLt (show (cfgM m hO).N = 105 from N_0); omega
        · rw [PhiS_castSucc m hO c t, PhiS_pos m hO c _ _ hz, PhiT0_eq]
          rw [outsAt0_E m hO c t h0 h1 h2]
          unfold out0_E_9 out0_E_10 sout0_E_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_E c (grid0.coords t) _ _ _ _ _ _ _ _ _ _ _ _ _ _ _ _ _ _ _ _ _ _ _ _ (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) _ h1).2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [HS0]; · iexact HS0
          isplitl [HT0]; · iexact HT0
          isplitl [HT1]; · iexact HT1
          iintro ⟨H0, H1, H2, H3, H4, H5, H6, H7, H8, ⟨%e9, H9⟩, ⟨%e10, H10⟩, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_E_0 c _ _ _ _ _ _ _ _ _ _ _ _ _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · unfold owns; iexists _; isplitr
            swap; · iexact H9
            ipureintro; exact View.read_writes_of_cover _ _ _ _ _ (cover0_E_9 c _ _ _ _ _ _ _ _ _ _ _ _ _ _ _ _ _ _ _ _ _ _ _ _ _ _ _ _ _ _ _ _ _ _ _ _ _ _ _ _)
          unfold owns; iexists _; isplitr
          swap; · iexact H10
          ipureintro; exact View.read_writes_of_cover _ _ _ _ _ (cover0_E_10 c _ _ _ _ _ _ _ _ _ _ _ _ _ _ _ _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8 m hO t]; try rfl, after0_8]
        rw [Dat.leavesExact_idle (dats m hO 0 c) 9 t (idleAt0_9_C m hO t (fun h => h0 ((hcond0_0 t).mp h)) (fun h => h2 ((hcond0_2 t).mp h))) (noFlush0_9_C m hO t (fun h => h0 ((hcond0_0 t).mp h)) (fun h => h2 ((hcond0_2 t).mp h)))]
        rw [Dat.leavesExact_idle (dats m hO 0 c) 10 t (idleAt0_10_C m hO t (fun h => h0 ((hcond0_0 t).mp h)) (fun h => h2 ((hcond0_2 t).mp h))) (noFlush0_10_C m hO t (fun h => h0 ((hcond0_0 t).mp h)) (fun h => h2 ((hcond0_2 t).mp h)))]
        by_cases hz : t.val = 0
        · exfalso; have hN : t.val < 105 := lt_of_lt_of_eq t.isLt (show (cfgM m hO).N = 105 from N_0); omega
        · rw [PhiS_castSucc m hO c t, PhiS_pos m hO c _ _ hz, PhiT0_eq]
          rw [outsAt0_C m hO c t h0 h1 h2]
          unfold sout0_C_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_C c (grid0.coords t) _ _ _ _ _ _ _ _ _ _ _ _ _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) _ h1).2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS0]; · iexact HS0
          isplitl [HT0]; · iexact HT0
          isplitl [HT1]; · iexact HT1
          iintro ⟨H0, H1, H2, H3, H4, H5, H6, H7, H8, H9, H10, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          iexists _; iexact H10
    · by_cases h2 : t.val % 105 = 104
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8 m hO t]; try rfl, after0_8]
        rw [show (dats m hO 0 c).leavesExact 9 t = owns (c : Thread nD τ) (ms0_9 m hO t) fullShare ((dats m hO 0 c).after 9 t) from by
      unfold Dat.leavesExact; rw [liveAt0_9_F m hO t (fun h => h0 ((hcond0_0 t).mp h)) ((hcond0_2 t).mpr h2)]; try rfl, after0_9]
        rw [show (dats m hO 0 c).leavesExact 10 t = owns (c : Thread nD τ) (ms0_10 m hO t) fullShare ((dats m hO 0 c).after 10 t) from by
      unfold Dat.leavesExact; rw [liveAt0_10_F m hO t (fun h => h0 ((hcond0_0 t).mp h)) ((hcond0_2 t).mpr h2)]; try rfl, after0_10]
        by_cases hz : t.val = 0
        · exfalso; have hN : t.val < 105 := lt_of_lt_of_eq t.isLt (show (cfgM m hO).N = 105 from N_0); omega
        · rw [PhiS_castSucc m hO c t, PhiS_pos m hO c _ _ hz, PhiT0_eq]
          rw [outsAt0_F m hO c t h0 h1 h2]
          unfold out0_F_9 out0_F_10 sout0_F_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_F c (grid0.coords t) _ _ _ _ _ _ _ _ _ _ _ _ _ _ _ _ _ _ _ _ _ _ _ _ (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) _ h1).2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [HS0]; · iexact HS0
          isplitl [HT0]; · iexact HT0
          isplitl [HT1]; · iexact HT1
          iintro ⟨H0, H1, H2, H3, H4, H5, H6, H7, H8, ⟨%e9, H9⟩, ⟨%e10, H10⟩, HS0, HT0, HT1⟩
          isplitl [HS0 Hg HT0 HT1]
          · isplitl [HS0 Hg]
            · isplitl [HS0]
              · iexact HS0
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · unfold owns; iexists _; isplitr
            swap; · iexact H9
            ipureintro; exact View.read_writes_of_cover _ _ _ _ _ (cover0_F_9 c _ _ _ _ _ _ _ _ _ _ _ _ _ _ _ _ _ _ _ _ _ _ _ _ _ _ _ _ _ _ _ _ _ _ _ _ _ _ _ _)
          unfold owns; iexists _; isplitr
          swap; · iexact H10
          ipureintro; exact View.read_writes_of_cover _ _ _ _ _ (cover0_F_10 c _ _ _ _ _ _ _ _ _ _ _ _ _ _ _ _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8 m hO t]; try rfl, after0_8]
        rw [Dat.leavesExact_idle (dats m hO 0 c) 9 t (idleAt0_9_D m hO t (fun h => h0 ((hcond0_0 t).mp h)) (fun h => h2 ((hcond0_2 t).mp h))) (noFlush0_9_D m hO t (fun h => h0 ((hcond0_0 t).mp h)) (fun h => h2 ((hcond0_2 t).mp h)))]
        rw [Dat.leavesExact_idle (dats m hO 0 c) 10 t (idleAt0_10_D m hO t (fun h => h0 ((hcond0_0 t).mp h)) (fun h => h2 ((hcond0_2 t).mp h))) (noFlush0_10_D m hO t (fun h => h0 ((hcond0_0 t).mp h)) (fun h => h2 ((hcond0_2 t).mp h)))]
        by_cases hz : t.val = 0
        · exfalso; have hN : t.val < 105 := lt_of_lt_of_eq t.isLt (show (cfgM m hO).N = 105 from N_0); omega
        · rw [PhiS_castSucc m hO c t, PhiS_pos m hO c _ _ hz, PhiT0_eq]
          rw [outsAt0_D m hO c t h0 h1 h2]
          unfold sout0_D_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_D c (grid0.coords t) _ _ _ _ _ _ _ _ _ _ _ _ _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) _ h1).2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS0]; · iexact HS0
          isplitl [HT0]; · iexact HT0
          isplitl [HT1]; · iexact HT1
          iintro ⟨H0, H1, H2, H3, H4, H5, H6, H7, H8, H9, H10, HS0, HT0, HT1⟩
          isplitl [HS0 Hg HT0 HT1]
          · isplitl [HS0 Hg]
            · isplitl [HS0]
              · iexact HS0
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          iexists _; iexact H10

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 105 := N_0; omega)

/-! ## The run and the frame -/

-- `θ_run_frameP_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Gen

end
-- ==== Proof.Order.lean ====
/- The tables the host computes before the kernel runs, whatever the program they are printed in: the expert order is
   a gather out of the sorted expert numbers, so each of its entries is an expert's number. -/
module

public import Idealize.ShloMosaic.PureOps
public import Idealize.ShloMosaic.Lib.StableHlo.Predicate
public import Idealize.ShloMosaic.Lib.SortFacts

@[expose] public section

namespace Cert.Order

open Idealize.ShloMosaic

/-- Every entry gathered out of a sort's carried position numbers is one of the positions' numbers. -/
theorem gathered_lt {n t : Nat} (hn : n < 2 ^ 32) (cmp : BitVec 1 × BitVec 32 → BitVec 1 × BitVec 32 → BitVec 1)
    (x : IVec ⟨1, ![n]⟩ 1) (d : GatherDims ⟨1, ![n]⟩ ⟨2, ![t, 1]⟩ ⟨1, ![t]⟩) (idx : IVec ⟨2, ![t, 1]⟩ 32)
    (j : (⟨1, ![t]⟩ : Shape).Idx) :
    (Host.gather d (Host.sort2 ⟨1, ![n]⟩ 0 cmp x (iotaInDim ⟨1, ![n]⟩ 32 0)).2 idx j).toNat < n := by
  have key : ∀ i : (⟨1, ![n]⟩ : Shape).Idx, (iotaInDim ⟨1, ![n]⟩ 32 0 i).toNat < n := by
    intro i
    have h : (i 0).val < n := (i 0).isLt
    show (BitVec.ofNat 32 (i 0).val).toNat < n
    rw [BitVec.toNat_ofNat]
    exact lt_of_le_of_lt (Nat.mod_le _ _) h
  unfold Host.gather Host.sort2
  rw [dif_pos (Nat.zero_lt_one : 0 < (⟨1, ![n]⟩ : Shape).rank)]
  exact key _

/-- The block column an index map picks, the grid's own or the last one, is below five. -/
theorem pick_lt (c : BitVec 1) (k : Nat) (hk : k < 5) : (Scalar.select c (BitVec.ofNat 32 k) 4#32).toNat < 5 := by
  unfold Scalar.select
  split
  · rw [BitVec.toNat_ofNat]; exact lt_of_le_of_lt (Nat.mod_le _ _) hk
  · decide

end Cert.Order
-- ==== Proof.HostKernel.lean ====
/- What the host operations of the program Kernel leave in the buffers the kernel reads: the expert flags, the count of
   active experts, the order of the experts, and the reshaped arguments. Each stretch of host operations is read over
   an arbitrary state before it; the last theorems chain the stretches. -/
module

public import proofs.«01_k».proof.Defs
public import proofs.«01_k».proof.Proof.Gen.Kernel.Frame.Runs
public import Idealize.ShloMosaic.Lib.StableHlo.RunClose
public import Idealize.ShloMosaic.Lib.StableHlo.RunRead

@[expose] public section

noncomputable section

namespace Cert.Kernel.HostVals

open Cert.Kernel Cert.Kernel.Gen
open Idealize.ShloMosaic Idealize.ShloMosaic.TcCoe Idealize.ShloMosaic.StableHlo

variable {F : FTy → Type} [FloatOps F]

/-- The identifiers, one row per token. -/
abbrev idsOf (W : Valuation τ sig (Elt F)) : IVec S96x8 32 := shapeCast (s := S96x1x8) S96x8 (W main_arg5) shapeCasts_S96x1x8_S96x8

/-- Whether each expert is named by some identifier. -/
abbrev presentOf (ids : IVec S96x8 32) : IVec S21 1 :=
  Host.reduce IntOp.ori
    (cmpi .eq (broadcastInDim S768x21 ![0, 1] bcast_S768x1_S768x21_0_1 (shapeCast S768x1 ids shapeCasts_S96x8_S768x1))
      (broadcastInDim S768x21 ![0, 1] bcast_S1x21_S768x21_0_1 (broadcastInDim S1x21 ![1] bcast_S21_S1x21_1 (iotaInDim S21 32 0))))
    (constantI S_ 1 0#1) reducesTo_S768x21_S21_d0 h_S_

/-- How many experts are named by some identifier. -/
abbrev countOf (p : IVec S21 1) : IVec S_ 32 :=
  Host.reduce IntOp.addi (extui 32 p natLt_1_32) (constantI S_ 32 0#32) reducesTo_S21_S_d0 h_S_

variable (W : Valuation τ sig (Elt F))

/-- The identifiers after the first stretch. -/
theorem s0_v0 : after hostOps0 W main_v0 = idsOf W := by
  unfold hostOps0; after_results_simp; rfl
/-- The negated expert flags after the first stretch. -/
theorem s0_v10 : after hostOps0 W main_v10 = noti (presentOf (idsOf W)) := by
  unfold hostOps0; after_results_simp; rfl
/-- The count after the first stretch. -/
theorem s0_v9 : after hostOps0 W main_v9 = countOf (presentOf (idsOf W)) := by
  unfold hostOps0; after_results_simp; rfl
/-- The first stretch leaves argument 0 alone. -/
theorem s0_a0 : after hostOps0 W main_arg0 = W main_arg0 := by
  unfold hostOps0; after_results_simp
/-- The first stretch leaves argument 4 alone. -/
theorem s0_a4 : after hostOps0 W main_arg4 = W main_arg4 := by
  unfold hostOps0; after_results_simp
/-- The first stretch leaves argument 6 alone. -/
theorem s0_a6 : after hostOps0 W main_arg6 = W main_arg6 := by
  unfold hostOps0; after_results_simp

/-- The sorted experts after the second stretch. -/
theorem s1_v11 : after hostOps0_1 W main_v11 = (Host.sort2 S21 0 comparator_i1_i32_d0 (W main_v10) (iotaInDim S21 32 0)).2 := by
  unfold hostOps0_1; after_results_simp; rfl
/-- The second stretch leaves the rest alone. -/
theorem s1_rest : after hostOps0_1 W main_v0 = W main_v0 ∧ after hostOps0_1 W main_v9 = W main_v9 ∧ after hostOps0_1 W main_arg0 = W main_arg0
    ∧ after hostOps0_1 W main_arg4 = W main_arg4 ∧ after hostOps0_1 W main_arg6 = W main_arg6 := by
  unfold hostOps0_1; refine ⟨?_, ?_, ?_, ?_, ?_⟩ <;> after_results_simp

/-- The clipped positions after the third stretch. -/
theorem s2_v15 : after hostOps0_2 W main_v15 = minsi (iotaInDim S21 32 0) (broadcastInDim S21 ![] bcast_S_S21 (subi (W main_v9) (constantI S_ 32 1#32))) := by
  unfold hostOps0_2; after_results_simp
/-- The third stretch leaves the rest alone. -/
theorem s2_rest : after hostOps0_2 W main_v0 = W main_v0 ∧ after hostOps0_2 W main_v9 = W main_v9 ∧ after hostOps0_2 W main_v11 = W main_v11
    ∧ after hostOps0_2 W main_arg0 = W main_arg0 ∧ after hostOps0_2 W main_arg4 = W main_arg4 ∧ after hostOps0_2 W main_arg6 = W main_arg6 := by
  unfold hostOps0_2; refine ⟨?_, ?_, ?_, ?_, ?_, ?_⟩ <;> after_results_simp

/-- The order after the fourth stretch. -/
theorem s3_v16 : after hostOps0_3 W main_v16 = Host.gather gather_S21_S21x1_S21_n_0_n_n_0_1_1 (W main_v11)
    (broadcastInDim S21x1 ![0] bcast_S21_S21x1_0 (W main_v15)) := by
  unfold hostOps0_3; after_results_simp; rfl
/-- The fourth stretch leaves the rest alone. -/
theorem s3_rest : after hostOps0_3 W main_v0 = W main_v0 ∧ after hostOps0_3 W main_v9 = W main_v9
    ∧ after hostOps0_3 W main_arg0 = W main_arg0 ∧ after hostOps0_3 W main_arg4 = W main_arg4 ∧ after hostOps0_3 W main_arg6 = W main_arg6 := by
  unfold hostOps0_3; refine ⟨?_, ?_, ?_, ?_, ?_⟩ <;> after_results_simp

/-- The last stretch leaves the identifiers and the order alone. -/
theorem s4_rest : after hostOps0_4 W main_v0 = W main_v0 ∧ after hostOps0_4 W main_v16 = W main_v16 := by
  unfold hostOps0_4; refine ⟨?_, ?_⟩ <;> after_results_simp
/-- The reshaped arguments and the count after the last stretch. -/
theorem s4_new : after hostOps0_4 W main_v17 = shapeCast (s := S21x20x3584) S21x5x4x3584 (W main_arg4) shapeCasts_S21x20x3584_S21x5x4x3584
    ∧ after hostOps0_4 W main_v18 = shapeCast (s := S_) S1 (W main_v9) shapeCasts_S_S1
    ∧ after hostOps0_4 W main_v19 = shapeCast (s := S96x1x3584) S96x3584 (W main_arg0) shapeCasts_S96x1x3584_S96x3584
    ∧ after hostOps0_4 W main_v20 = shapeCast (s := S96x1x8) S96x8 (W main_arg6) shapeCasts_S96x1x8_S96x8 := by
  unfold hostOps0_4; refine ⟨?_, ?_, ?_, ?_⟩ <;> after_results_simp <;> rfl

variable (m : (ℓ : Loc nD τ sig) → Buf (Elt F) ℓ) (c : Dev nD)

/-- The state before the kernel is the five stretches, one after the other. -/
theorem V_eq (b : Ref sig .tc) : V m c b = after hostOps0_4 (after hostOps0_3 (after hostOps0_2 (after hostOps0_1 (after hostOps0 (fun b => m (c, b)))))) b := by
  unfold V
  rw [List.flatten_cons, after_append, List.flatten_cons, after_append, List.flatten_cons, after_append, List.flatten_cons, after_append,
    List.flatten_cons, List.flatten_nil, List.append_nil]

/-- The identifiers of a launch memory, one row per token. -/
abbrev ids : IVec S96x8 32 := idsOf (fun b => m (c, b))

/-- The identifiers as the kernel reads them. -/
theorem V_v0 : V m c main_v0 = ids m c := by
  rw [V_eq, (s4_rest _).1, (s3_rest _).1, (s2_rest _).1, (s1_rest _).1, s0_v0]
/-- The count as the kernel reads it. -/
theorem V_v18 : V m c main_v18 = shapeCast S1 (countOf (presentOf (ids m c))) shapeCasts_S_S1 := by
  rw [V_eq, (s4_new _).2.1, (s3_rest _).2.1, (s2_rest _).2.1, (s1_rest _).2.1, s0_v9]
/-- The order as the kernel reads it. -/
theorem V_v16 : V m c main_v16 = Host.gather gather_S21_S21x1_S21_n_0_n_n_0_1_1
    (Host.sort2 S21 0 comparator_i1_i32_d0 (noti (presentOf (ids m c))) (iotaInDim S21 32 0)).2
    (broadcastInDim S21x1 ![0] bcast_S21_S21x1_0
      (minsi (iotaInDim S21 32 0) (broadcastInDim S21 ![] bcast_S_S21 (subi (countOf (presentOf (ids m c))) (constantI S_ 32 1#32))))) := by
  rw [V_eq, (s4_rest _).2, s3_v16, (s2_rest _).2.2.1, s2_v15, s1_v11, (s1_rest _).2.1, s0_v10, s0_v9]
/-- The down scales as the kernel reads them. -/
theorem V_v17 : V m c main_v17 = shapeCast (s := S21x20x3584) S21x5x4x3584 (m ((c.tc : Thread nD τ).loc main_arg4)) shapeCasts_S21x20x3584_S21x5x4x3584 := by
  rw [V_eq, (s4_new _).1, (s3_rest _).2.2.2.1, (s2_rest _).2.2.2.2.1, (s1_rest _).2.2.2.1, s0_a4]
/-- The activations as the kernel reads them. -/
theorem V_v19 : V m c main_v19 = shapeCast (s := S96x1x3584) S96x3584 (m ((c.tc : Thread nD τ).loc main_arg0)) shapeCasts_S96x1x3584_S96x3584 := by
  rw [V_eq, (s4_new _).2.2.1, (s3_rest _).2.2.1, (s2_rest _).2.2.2.1, (s1_rest _).2.2.1, s0_a0]
/-- The expert weights as the kernel reads them. -/
theorem V_v20 : V m c main_v20 = shapeCast (s := S96x1x8) S96x8 (m ((c.tc : Thread nD τ).loc main_arg6)) shapeCasts_S96x1x8_S96x8 := by
  rw [V_eq, (s4_new _).2.2.2, (s3_rest _).2.2.2.2, (s2_rest _).2.2.2.2.2, (s1_rest _).2.2.2.2, s0_a6]

end Cert.Kernel.HostVals
-- ==== Proof.OkKernel.lean ====
/- The side condition of the prefetched tables, for the program Kernel: whatever the launch memory holds, each block the
   index maps name by the expert order lies inside its array. -/
module

public import proofs.«01_k».proof.Defs
public import proofs.«01_k».proof.Proof.Gen.Kernel.Frame.Runs
public import proofs.«01_k».proof.Proof.Order
public import proofs.«01_k».proof.Proof.HostKernel

@[expose] public section

noncomputable section

namespace Cert.Kernel.OkProof

open Cert.Kernel Cert.Kernel.Gen
open Idealize.ShloMosaic Idealize.ShloMosaic.TcCoe

variable {F : FTy → Type} [FloatOps F]

/-- An expert's gate column block (0 to 4) lies inside the gate and up matrix. -/
theorem gate_in (v w : BitVec 32) (hv : v.toNat < 21) (hw : w.toNat < 5) (b : Nat) (a : Fin 3) :
    ((![v.toNat, (0#32).toNat, (Scalar.addi 0#32 w).toNat] : Fin 3 → Nat) a + 1) * (![1, b, 512] : Fin 3 → Nat) a ≤ (![21, b, 5120] : Fin 3 → Nat) a := by
  fin_cases a
  · show (v.toNat + 1) * 1 ≤ 21; omega
  · show ((0#32).toNat + 1) * b ≤ b; simp
  · show ((0#32 + w).toNat + 1) * 512 ≤ 5120
    rw [BitVec.toNat_add, show (0#32).toNat = 0 from rfl]; omega
/-- An expert's up column block (5 to 9) lies inside the gate and up matrix. -/
theorem up_in (v w : BitVec 32) (hv : v.toNat < 21) (hw : w.toNat < 5) (b : Nat) (a : Fin 3) :
    ((![v.toNat, (0#32).toNat, (Scalar.addi 5#32 w).toNat] : Fin 3 → Nat) a + 1) * (![1, b, 512] : Fin 3 → Nat) a ≤ (![21, b, 5120] : Fin 3 → Nat) a := by
  fin_cases a
  · show (v.toNat + 1) * 1 ≤ 21; omega
  · show ((0#32).toNat + 1) * b ≤ b; simp
  · show ((5#32 + w).toNat + 1) * 512 ≤ 5120
    rw [BitVec.toNat_add, show (5#32).toNat = 5 from rfl]; omega
/-- An expert's down row block (0 to 4) lies inside the down matrix. -/
theorem down_in (v w : BitVec 32) (hv : v.toNat < 21) (hw : w.toNat < 5) (a : Fin 3) :
    ((![v.toNat, w.toNat, (0#32).toNat] : Fin 3 → Nat) a + 1) * (![1, 256, 3584] : Fin 3 → Nat) a ≤ (![21, 1280, 3584] : Fin 3 → Nat) a := by
  fin_cases a
  · show (v.toNat + 1) * 1 ≤ 21; omega
  · show (w.toNat + 1) * 256 ≤ 1280; omega
  · show (0 + 1) * 3584 ≤ 3584; decide
/-- An expert's down scales lie inside their array. -/
theorem scale_in (v : BitVec 32) (hv : v.toNat < 21) (a : Fin 4) :
    ((![v.toNat, (0#32).toNat, (0#32).toNat, (0#32).toNat] : Fin 4 → Nat) a + 1) * (![1, 5, 4, 3584] : Fin 4 → Nat) a ≤ (![21, 5, 4, 3584] : Fin 4 → Nat) a := by
  fin_cases a
  · show (v.toNat + 1) * 1 ≤ 21; omega
  · show (0 + 1) * 5 ≤ 5; decide
  · show (0 + 1) * 4 ≤ 4; decide
  · show (0 + 1) * 3584 ≤ 3584; decide

/-- The side condition holds of any tables whose first one holds experts' numbers. -/
theorem ok_of_lt (pf : pre0.Contents (Elt F)) (h : ∀ x : S21.Idx, BitVec.toNat (w := 32) (pf 0 x) < 21) : ok0 (F := F) pf := by
  have h0 : ∀ (r : Rect S21) (hr : r.shape.numel = 1), BitVec.toNat (w := 32) (pf.at 0 r hr) < 21 := fun r hr => h _
  have h1 : ∀ (i : grid0.Coords) (c : BitVec 1), (Scalar.select c (BitVec.ofNat 32 (i 1).val) 4#32).toNat < 5 :=
    fun i c => Order.pick_lt c _ (i 1).isLt
  unfold ok0
  exact ⟨fun i => ⟨fun a => gate_in _ _ (h0 _ _) (h1 i _) 1792 a, .inr (Affine.block_words_dvd (of_decide_eq_true rfl) (by decide))⟩,
    fun i => ⟨fun a => up_in _ _ (h0 _ _) (h1 i _) 1792 a, .inr (Affine.block_words_dvd (of_decide_eq_true rfl) (by decide))⟩,
    fun i => ⟨fun a => gate_in _ _ (h0 _ _) (h1 i _) 28 a, .inr (Affine.block_words_rows (of_decide_eq_true rfl) (by decide))⟩,
    fun i => ⟨fun a => up_in _ _ (h0 _ _) (h1 i _) 28 a, .inr (Affine.block_words_rows (of_decide_eq_true rfl) (by decide))⟩,
    fun i => ⟨fun a => down_in _ _ (h0 _ _) (h1 i _) a, .inr (Affine.block_words_dvd (of_decide_eq_true rfl) (by decide))⟩,
    fun i => ⟨fun a => scale_in _ (h0 _ _) a, .inr (Affine.block_words_dvd (of_decide_eq_true rfl) (by decide))⟩⟩

variable (m : (ℓ : Loc nD τ sig) → Buf (Elt F) ℓ)

/-- The side condition holds at every launch memory. -/
theorem ok : Ok m := by
  refine ok_of_lt _ fun x => ?_
  show BitVec.toNat (w := 32) (V m (0 : Dev nD) main_v16 x) < 21
  rw [HostVals.V_v16]
  exact Order.gathered_lt (by decide) _ _ _ _ x

end Cert.Kernel.OkProof
-- ==== Proof.HostKernelIdeal.lean ====
/- What the host operations of the program KernelIdeal leave in the buffers the kernel reads: the expert flags, the count of
   active experts, the order of the experts, and the reshaped arguments. Each stretch of host operations is read over
   an arbitrary state before it; the last theorems chain the stretches. -/
module

public import proofs.«01_k».proof.Defs
public import proofs.«01_k».proof.Proof.Gen.KernelIdeal.Frame.Runs
public import Idealize.ShloMosaic.Lib.StableHlo.RunClose
public import Idealize.ShloMosaic.Lib.StableHlo.RunRead

@[expose] public section

noncomputable section

namespace Cert.KernelIdeal.HostVals

open Cert.KernelIdeal Cert.KernelIdeal.Gen
open Idealize.ShloMosaic Idealize.ShloMosaic.TcCoe Idealize.ShloMosaic.StableHlo

variable {F : FTy → Type} [FloatOps F]

/-- The identifiers, one row per token. -/
abbrev idsOf (W : Valuation τ sig (Elt F)) : IVec S96x8 32 := shapeCast (s := S96x1x8) S96x8 (W main_arg5) shapeCasts_S96x1x8_S96x8

/-- Whether each expert is named by some identifier. -/
abbrev presentOf (ids : IVec S96x8 32) : IVec S21 1 :=
  Host.reduce IntOp.ori
    (cmpi .eq (broadcastInDim S768x21 ![0, 1] bcast_S768x1_S768x21_0_1 (shapeCast S768x1 ids shapeCasts_S96x8_S768x1))
      (broadcastInDim S768x21 ![0, 1] bcast_S1x21_S768x21_0_1 (broadcastInDim S1x21 ![1] bcast_S21_S1x21_1 (iotaInDim S21 32 0))))
    (constantI S_ 1 0#1) reducesTo_S768x21_S21_d0 h_S_

/-- How many experts are named by some identifier. -/
abbrev countOf (p : IVec S21 1) : IVec S_ 32 :=
  Host.reduce IntOp.addi (extui 32 p natLt_1_32) (constantI S_ 32 0#32) reducesTo_S21_S_d0 h_S_

variable (W : Valuation τ sig (Elt F))

/-- The identifiers after the first stretch. -/
theorem s0_v0 : after hostOps0 W main_v0 = idsOf W := by
  unfold hostOps0; after_results_simp; rfl
/-- The negated expert flags after the first stretch. -/
theorem s0_v10 : after hostOps0 W main_v10 = noti (presentOf (idsOf W)) := by
  unfold hostOps0; after_results_simp; rfl
/-- The count after the first stretch. -/
theorem s0_v9 : after hostOps0 W main_v9 = countOf (presentOf (idsOf W)) := by
  unfold hostOps0; after_results_simp; rfl
/-- The first stretch leaves argument 0 alone. -/
theorem s0_a0 : after hostOps0 W main_arg0 = W main_arg0 := by
  unfold hostOps0; after_results_simp
/-- The first stretch leaves argument 4 alone. -/
theorem s0_a4 : after hostOps0 W main_arg4 = W main_arg4 := by
  unfold hostOps0; after_results_simp
/-- The first stretch leaves argument 6 alone. -/
theorem s0_a6 : after hostOps0 W main_arg6 = W main_arg6 := by
  unfold hostOps0; after_results_simp

/-- The sorted experts after the second stretch. -/
theorem s1_v11 : after hostOps0_1 W main_v11 = (Host.sort2 S21 0 comparator_i1_i32_d0 (W main_v10) (iotaInDim S21 32 0)).2 := by
  unfold hostOps0_1; after_results_simp; rfl
/-- The second stretch leaves the rest alone. -/
theorem s1_rest : after hostOps0_1 W main_v0 = W main_v0 ∧ after hostOps0_1 W main_v9 = W main_v9 ∧ after hostOps0_1 W main_arg0 = W main_arg0
    ∧ after hostOps0_1 W main_arg4 = W main_arg4 ∧ after hostOps0_1 W main_arg6 = W main_arg6 := by
  unfold hostOps0_1; refine ⟨?_, ?_, ?_, ?_, ?_⟩ <;> after_results_simp

/-- The clipped positions after the third stretch. -/
theorem s2_v15 : after hostOps0_2 W main_v15 = minsi (iotaInDim S21 32 0) (broadcastInDim S21 ![] bcast_S_S21 (subi (W main_v9) (constantI S_ 32 1#32))) := by
  unfold hostOps0_2; after_results_simp
/-- The third stretch leaves the rest alone. -/
theorem s2_rest : after hostOps0_2 W main_v0 = W main_v0 ∧ after hostOps0_2 W main_v9 = W main_v9 ∧ after hostOps0_2 W main_v11 = W main_v11
    ∧ after hostOps0_2 W main_arg0 = W main_arg0 ∧ after hostOps0_2 W main_arg4 = W main_arg4 ∧ after hostOps0_2 W main_arg6 = W main_arg6 := by
  unfold hostOps0_2; refine ⟨?_, ?_, ?_, ?_, ?_, ?_⟩ <;> after_results_simp

/-- The order after the fourth stretch. -/
theorem s3_v16 : after hostOps0_3 W main_v16 = Host.gather gather_S21_S21x1_S21_n_0_n_n_0_1_1 (W main_v11)
    (broadcastInDim S21x1 ![0] bcast_S21_S21x1_0 (W main_v15)) := by
  unfold hostOps0_3; after_results_simp; rfl
/-- The fourth stretch leaves the rest alone. -/
theorem s3_rest : after hostOps0_3 W main_v0 = W main_v0 ∧ after hostOps0_3 W main_v9 = W main_v9
    ∧ after hostOps0_3 W main_arg0 = W main_arg0 ∧ after hostOps0_3 W main_arg4 = W main_arg4 ∧ after hostOps0_3 W main_arg6 = W main_arg6 := by
  unfold hostOps0_3; refine ⟨?_, ?_, ?_, ?_, ?_⟩ <;> after_results_simp

/-- The last stretch leaves the identifiers and the order alone. -/
theorem s4_rest : after hostOps0_4 W main_v0 = W main_v0 ∧ after hostOps0_4 W main_v16 = W main_v16 := by
  unfold hostOps0_4; refine ⟨?_, ?_⟩ <;> after_results_simp
/-- The reshaped arguments and the count after the last stretch. -/
theorem s4_new : after hostOps0_4 W main_v17 = shapeCast (s := S21x20x3584) S21x5x4x3584 (W main_arg4) shapeCasts_S21x20x3584_S21x5x4x3584
    ∧ after hostOps0_4 W main_v18 = shapeCast (s := S_) S1 (W main_v9) shapeCasts_S_S1
    ∧ after hostOps0_4 W main_v19 = shapeCast (s := S96x1x3584) S96x3584 (W main_arg0) shapeCasts_S96x1x3584_S96x3584
    ∧ after hostOps0_4 W main_v20 = shapeCast (s := S96x1x8) S96x8 (W main_arg6) shapeCasts_S96x1x8_S96x8 := by
  unfold hostOps0_4; refine ⟨?_, ?_, ?_, ?_⟩ <;> after_results_simp <;> rfl

variable (m : (ℓ : Loc nD τ sig) → Buf (Elt F) ℓ) (c : Dev nD)

/-- The state before the kernel is the five stretches, one after the other. -/
theorem V_eq (b : Ref sig .tc) : V m c b = after hostOps0_4 (after hostOps0_3 (after hostOps0_2 (after hostOps0_1 (after hostOps0 (fun b => m (c, b)))))) b := by
  unfold V
  rw [List.flatten_cons, after_append, List.flatten_cons, after_append, List.flatten_cons, after_append, List.flatten_cons, after_append,
    List.flatten_cons, List.flatten_nil, List.append_nil]

/-- The identifiers of a launch memory, one row per token. -/
abbrev ids : IVec S96x8 32 := idsOf (fun b => m (c, b))

/-- The identifiers as the kernel reads them. -/
theorem V_v0 : V m c main_v0 = ids m c := by
  rw [V_eq, (s4_rest _).1, (s3_rest _).1, (s2_rest _).1, (s1_rest _).1, s0_v0]
/-- The count as the kernel reads it. -/
theorem V_v18 : V m c main_v18 = shapeCast S1 (countOf (presentOf (ids m c))) shapeCasts_S_S1 := by
  rw [V_eq, (s4_new _).2.1, (s3_rest _).2.1, (s2_rest _).2.1, (s1_rest _).2.1, s0_v9]
/-- The order as the kernel reads it. -/
theorem V_v16 : V m c main_v16 = Host.gather gather_S21_S21x1_S21_n_0_n_n_0_1_1
    (Host.sort2 S21 0 comparator_i1_i32_d0 (noti (presentOf (ids m c))) (iotaInDim S21 32 0)).2
    (broadcastInDim S21x1 ![0] bcast_S21_S21x1_0
      (minsi (iotaInDim S21 32 0) (broadcastInDim S21 ![] bcast_S_S21 (subi (countOf (presentOf (ids m c))) (constantI S_ 32 1#32))))) := by
  rw [V_eq, (s4_rest _).2, s3_v16, (s2_rest _).2.2.1, s2_v15, s1_v11, (s1_rest _).2.1, s0_v10, s0_v9]
/-- The down scales as the kernel reads them. -/
theorem V_v17 : V m c main_v17 = shapeCast (s := S21x20x3584) S21x5x4x3584 (m ((c.tc : Thread nD τ).loc main_arg4)) shapeCasts_S21x20x3584_S21x5x4x3584 := by
  rw [V_eq, (s4_new _).1, (s3_rest _).2.2.2.1, (s2_rest _).2.2.2.2.1, (s1_rest _).2.2.2.1, s0_a4]
/-- The activations as the kernel reads them. -/
theorem V_v19 : V m c main_v19 = shapeCast (s := S96x1x3584) S96x3584 (m ((c.tc : Thread nD τ).loc main_arg0)) shapeCasts_S96x1x3584_S96x3584 := by
  rw [V_eq, (s4_new _).2.2.1, (s3_rest _).2.2.1, (s2_rest _).2.2.2.1, (s1_rest _).2.2.1, s0_a0]
/-- The expert weights as the kernel reads them. -/
theorem V_v20 : V m c main_v20 = shapeCast (s := S96x1x8) S96x8 (m ((c.tc : Thread nD τ).loc main_arg6)) shapeCasts_S96x1x8_S96x8 := by
  rw [V_eq, (s4_new _).2.2.2, (s3_rest _).2.2.2.2, (s2_rest _).2.2.2.2.2, (s1_rest _).2.2.2.2, s0_a6]

end Cert.KernelIdeal.HostVals
-- ==== Proof.OkKernelIdeal.lean ====
/- The side condition of the prefetched tables, for the program KernelIdeal: whatever the launch memory holds, each block the
   index maps name by the expert order lies inside its array. -/
module

public import proofs.«01_k».proof.Defs
public import proofs.«01_k».proof.Proof.Gen.KernelIdeal.Frame.Runs
public import proofs.«01_k».proof.Proof.Order
public import proofs.«01_k».proof.Proof.HostKernelIdeal

@[expose] public section

noncomputable section

namespace Cert.KernelIdeal.OkProof

open Cert.KernelIdeal Cert.KernelIdeal.Gen
open Idealize.ShloMosaic Idealize.ShloMosaic.TcCoe

variable {F : FTy → Type} [FloatOps F]

/-- An expert's gate column block (0 to 4) lies inside the gate and up matrix. -/
theorem gate_in (v w : BitVec 32) (hv : v.toNat < 21) (hw : w.toNat < 5) (b : Nat) (a : Fin 3) :
    ((![v.toNat, (0#32).toNat, (Scalar.addi 0#32 w).toNat] : Fin 3 → Nat) a + 1) * (![1, b, 512] : Fin 3 → Nat) a ≤ (![21, b, 5120] : Fin 3 → Nat) a := by
  fin_cases a
  · show (v.toNat + 1) * 1 ≤ 21; omega
  · show ((0#32).toNat + 1) * b ≤ b; simp
  · show ((0#32 + w).toNat + 1) * 512 ≤ 5120
    rw [BitVec.toNat_add, show (0#32).toNat = 0 from rfl]; omega
/-- An expert's up column block (5 to 9) lies inside the gate and up matrix. -/
theorem up_in (v w : BitVec 32) (hv : v.toNat < 21) (hw : w.toNat < 5) (b : Nat) (a : Fin 3) :
    ((![v.toNat, (0#32).toNat, (Scalar.addi 5#32 w).toNat] : Fin 3 → Nat) a + 1) * (![1, b, 512] : Fin 3 → Nat) a ≤ (![21, b, 5120] : Fin 3 → Nat) a := by
  fin_cases a
  · show (v.toNat + 1) * 1 ≤ 21; omega
  · show ((0#32).toNat + 1) * b ≤ b; simp
  · show ((5#32 + w).toNat + 1) * 512 ≤ 5120
    rw [BitVec.toNat_add, show (5#32).toNat = 5 from rfl]; omega
/-- An expert's down row block (0 to 4) lies inside the down matrix. -/
theorem down_in (v w : BitVec 32) (hv : v.toNat < 21) (hw : w.toNat < 5) (a : Fin 3) :
    ((![v.toNat, w.toNat, (0#32).toNat] : Fin 3 → Nat) a + 1) * (![1, 256, 3584] : Fin 3 → Nat) a ≤ (![21, 1280, 3584] : Fin 3 → Nat) a := by
  fin_cases a
  · show (v.toNat + 1) * 1 ≤ 21; omega
  · show (w.toNat + 1) * 256 ≤ 1280; omega
  · show (0 + 1) * 3584 ≤ 3584; decide
/-- An expert's down scales lie inside their array. -/
theorem scale_in (v : BitVec 32) (hv : v.toNat < 21) (a : Fin 4) :
    ((![v.toNat, (0#32).toNat, (0#32).toNat, (0#32).toNat] : Fin 4 → Nat) a + 1) * (![1, 5, 4, 3584] : Fin 4 → Nat) a ≤ (![21, 5, 4, 3584] : Fin 4 → Nat) a := by
  fin_cases a
  · show (v.toNat + 1) * 1 ≤ 21; omega
  · show (0 + 1) * 5 ≤ 5; decide
  · show (0 + 1) * 4 ≤ 4; decide
  · show (0 + 1) * 3584 ≤ 3584; decide

/-- The side condition holds of any tables whose first one holds experts' numbers. -/
theorem ok_of_lt (pf : pre0.Contents (Elt F)) (h : ∀ x : S21.Idx, BitVec.toNat (w := 32) (pf 0 x) < 21) : ok0 (F := F) pf := by
  have h0 : ∀ (r : Rect S21) (hr : r.shape.numel = 1), BitVec.toNat (w := 32) (pf.at 0 r hr) < 21 := fun r hr => h _
  have h1 : ∀ (i : grid0.Coords) (c : BitVec 1), (Scalar.select c (BitVec.ofNat 32 (i 1).val) 4#32).toNat < 5 :=
    fun i c => Order.pick_lt c _ (i 1).isLt
  unfold ok0
  exact ⟨fun i => ⟨fun a => gate_in _ _ (h0 _ _) (h1 i _) 1792 a, .inr (Affine.block_words_dvd (of_decide_eq_true rfl) (by decide))⟩,
    fun i => ⟨fun a => up_in _ _ (h0 _ _) (h1 i _) 1792 a, .inr (Affine.block_words_dvd (of_decide_eq_true rfl) (by decide))⟩,
    fun i => ⟨fun a => gate_in _ _ (h0 _ _) (h1 i _) 28 a, .inr (Affine.block_words_rows (of_decide_eq_true rfl) (by decide))⟩,
    fun i => ⟨fun a => up_in _ _ (h0 _ _) (h1 i _) 28 a, .inr (Affine.block_words_rows (of_decide_eq_true rfl) (by decide))⟩,
    fun i => ⟨fun a => down_in _ _ (h0 _ _) (h1 i _) a, .inr (Affine.block_words_dvd (of_decide_eq_true rfl) (by decide))⟩,
    fun i => ⟨fun a => scale_in _ (h0 _ _) a, .inr (Affine.block_words_dvd (of_decide_eq_true rfl) (by decide))⟩⟩

variable (m : (ℓ : Loc nD τ sig) → Buf (Elt F) ℓ)

/-- The side condition holds at every launch memory. -/
theorem ok : Ok m := by
  refine ok_of_lt _ fun x => ?_
  show BitVec.toNat (w := 32) (V m (0 : Dev nD) main_v16 x) < 21
  rw [HostVals.V_v16]
  exact Order.gathered_lt (by decide) _ _ _ _ x

end Cert.KernelIdeal.OkProof
-- ==== Proof.Model.lean ====
module

public import proofs.«01_k».proof.Defs
public import Idealize.ShloMosaic.Lib.Pointwise

/-! The mixture of experts over the reals: the mathematics both programs are read against. -/

@[expose] public section
noncomputable section

namespace Cert.Model
open Idealize.ShloMosaic

/-- The arguments, with every float read as a real number. -/
structure Data where
  x : Fin 96 → Fin 3584 → ℝ
  w1 : Fin 21 → Fin 1792 → Fin 5120 → BitVec 8
  s1 : Fin 21 → Fin 28 → Fin 5120 → ℝ
  w2 : Fin 21 → Fin 1280 → Fin 3584 → BitVec 8
  s2 : Fin 21 → Fin 20 → Fin 3584 → ℝ
  ids : Fin 96 → Fin 8 → BitVec 32
  ew : Fin 96 → Fin 8 → ℝ

/-- The weight code row `p` of the unpacked array holds: the low four bits of the byte on even rows, the
    high four on odd ones, less the offset 8. -/
def nib (w : BitVec 8) (p : ℕ) : ℝ :=
  if p % 2 < 1 then ((w.toNat % 16 : ℕ) : ℝ) - 8 else ((w.toNat / 16 : ℕ) : ℝ) - 8

/-- `x * sigmoid x`. -/
def silu (g : ℝ) : ℝ := g * (1 + Real.exp (-g))⁻¹

namespace Data
variable (D : Data)

/-- The dequantised first weight. -/
def W1 (e : Fin 21) (d : Fin 3584) (n : Fin 5120) : ℝ :=
  nib (D.w1 e ⟨d.val / 2, by omega⟩ n) d.val * D.s1 e ⟨d.val / 128, by omega⟩ n

/-- The first product: gate columns, then up columns. -/
def G (e : Fin 21) (t : Fin 96) (n : Fin 5120) : ℝ := ∑ d : Fin 3584, D.x t d * D.W1 e d n

/-- The hidden layer. -/
def H (e : Fin 21) (t : Fin 96) (f : Fin 2560) : ℝ :=
  silu (D.G e t ⟨f.val, by omega⟩) * D.G e t ⟨2560 + f.val, by omega⟩

/-- The dequantised second weight. -/
def W2 (e : Fin 21) (f : Fin 2560) (d : Fin 3584) : ℝ :=
  nib (D.w2 e ⟨f.val / 2, by omega⟩ d) f.val * D.s2 e ⟨f.val / 128, by omega⟩ d

/-- What one expert gives on one token. -/
def Y (e : Fin 21) (t : Fin 96) (d : Fin 3584) : ℝ := ∑ f : Fin 2560, D.H e t f * D.W2 e f d

/-- The weight with which token `t` takes expert `e`: the sum of the routing weights of the slots that
    name it. -/
def cw (e : Fin 21) (t : Fin 96) : ℝ :=
  ∑ k : Fin 8, if D.ids t k = BitVec.ofNat 32 e.val then D.ew t k else 0

/-- The mixture at one token, by slots. -/
def Out (ex : Fin 96 → Fin 8 → Fin 21) (t : Fin 96) (d : Fin 3584) : ℝ :=
  ∑ k : Fin 8, D.ew t k * D.Y (ex t k) t d

end Data

/-- Summed over all experts, the expert's result times the token's weight for it is the mixture. -/
theorem sum_cw_Y (D : Data) (ex : Fin 96 → Fin 8 → Fin 21)
    (hex : ∀ t k, D.ids t k = BitVec.ofNat 32 (ex t k).val) (t : Fin 96) (d : Fin 3584) :
    ∑ e : Fin 21, D.cw e t * D.Y e t d = D.Out ex t d := by
  unfold Data.cw Data.Out
  simp only [Finset.sum_mul]
  rw [Finset.sum_comm]
  refine Finset.sum_congr rfl fun k _ => ?_
  rw [Finset.sum_eq_single (ex t k)]
  · rw [if_pos (hex t k)]
  · intro e _ he
    rw [if_neg, zero_mul]
    rw [hex t k]
    intro h
    have := congrArg BitVec.toNat h
    simp only [BitVec.toNat_ofNat] at this
    exact he (Fin.ext (by omega))
  · intro h; exact absurd (Finset.mem_univ _) h

/-- A finite sum of reals, read in the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The low four bits less 8. -/
theorem lo_toInt (w : BitVec 8) :
    (IntOp.subi (IntOp.andi (BitVec.setWidth 32 w) 15#32) 8#32).toInt = ((w.toNat % 16 : ℕ) : ℤ) - 8 := by
  revert w; decide +kernel

/-- The high four bits less 8. -/
theorem hi_toInt (w : BitVec 8) :
    (IntOp.subi (IntOp.shrsi .vector (BitVec.setWidth 32 w) 4#32) 8#32).toInt = ((w.toNat / 16 : ℕ) : ℤ) - 8 := by
  revert w; decide +kernel

/-- The unpacked code on an even row. -/
theorem lo_coe (w : BitVec 8) (p : ℕ) (h : p % 2 < 1) :
    FloatOps.sitofp (F := Ideal) FTy.bf16 (IntOp.subi (IntOp.andi (BitVec.setWidth 32 w) 15#32) 8#32)
      = ((nib w p : ℝ) : EReal) := by
  show ((((_ : BitVec 32).toInt : ℝ)) : EReal) = _
  rw [nib, if_pos h, lo_toInt]; push_cast; rfl

/-- The unpacked code on an odd row. -/
theorem hi_coe (w : BitVec 8) (p : ℕ) (h : ¬p % 2 < 1) :
    FloatOps.sitofp (F := Ideal) FTy.bf16 (IntOp.subi (IntOp.shrsi .vector (BitVec.setWidth 32 w) 4#32) 8#32)
      = ((nib w p : ℝ) : EReal) := by
  show ((((_ : BitVec 32).toInt : ℝ)) : EReal) = _
  rw [nib, if_neg h, hi_toInt]; push_cast; rfl

/-- The logistic of a real. -/
theorem logistic_coe (g : ℝ) : Ideal.logistic (g : EReal) = (((1 + Real.exp (-g))⁻¹ : ℝ) : EReal) := by
  have hpos : (0 : ℝ) < 1 + Real.exp (-g) := by positivity
  have h1 : (1 : EReal) + Ideal.exp (-(g : EReal)) = ((1 + Real.exp (-g) : ℝ) : EReal) := by
    rw [← EReal.coe_neg]; show (1 : EReal) + ((Real.exp (-g) : ℝ) : EReal) = _
    push_cast; rfl
  unfold Ideal.logistic Ideal.div
  rw [h1, if_neg (by exact_mod_cast hpos.ne'), one_mul, EReal.coe_inv]

end Cert.Model
-- ==== Proof.StepVal.lean ====
module

public import proofs.«01_k».proof.Defs
public import proofs.«01_k».proof.Proof.Gen.KernelIdeal.Skeleton
public import proofs.«01_k».proof.Proof.Model
public import Idealize.ShloMosaic.Lib.Pointwise

/-! What one active grid point of the kernel adds to the accumulator, over the reals. -/

@[expose] public section
set_option maxRecDepth 16384
noncomputable section

namespace Cert.KernelIdeal.StepVal
open Cert.KernelIdeal Cert.KernelIdeal.Gen
open Idealize.ShloMosaic
open Cert.Model

/-- Column `512 j + n` of the hidden layer. -/
def col (j : Fin 5) (n : Fin 512) : Fin 2560 := ⟨512 * j.val + n.val, by omega⟩

/-- What the point of expert `e`, hidden block `j` adds at token `t`, column `d`. -/
def contrib (D : Data) (e : Fin 21) (j : Fin 5) (t : Fin 96) (d : Fin 3584) : ℝ :=
  D.cw e t * ∑ n : Fin 512, D.H e t (col j n) * D.W2 e (col j n) d

/-- The routing weight the point computes. -/
theorem cw_apply (D : Data) (e : Fin 21) (idv : Vec Ideal S96x8 .i32) (o : Elt Ideal .i32) (ewv : Vec Ideal S96x8 .f32)
    (hid : ∀ t k, idv (ix2 t k) = D.ids t k) (ho : o = BitVec.ofNat 32 e.val)
    (hew : ∀ t k, ewv (ix2 t k) = ((D.ew t k : ℝ) : EReal)) (t : Fin 96) (u : Fin 1) :
    k0_pay5 (F := Ideal) idv o ewv (ix2 t u) = ((D.cw e t : ℝ) : EReal) := by
  pointwise [k0_pay5, k0_pay4]
  unfold Data.cw
  rw [coe_sum]
  refine Finset.sum_congr rfl fun k _ => ?_
  rw [hid, hew, ho]
  by_cases h : D.ids t k = BitVec.ofNat 32 e.val
  · simp [h, IntOp.cmpi, Scalar.select]
  · have hb : (D.ids t k == BitVec.ofNat 32 e.val) = false := by simpa using h
    simp [h, hb, IntOp.cmpi, Scalar.select]

/-- Where the point's mask is off, no slot of the token names the expert. -/
theorem cw_eq_zero (D : Data) (e : Fin 21) (idv : Vec Ideal S96x8 .i32) (o : Elt Ideal .i32)
    (hid : ∀ t k, idv (ix2 t k) = D.ids t k) (ho : o = BitVec.ofNat 32 e.val) (t : Fin 96)
    (h : k0_pay6 (F := Ideal) idv o (ix2 t 0) ≠ 1#1) : D.cw e t = 0 := by
  unfold Data.cw
  refine Finset.sum_eq_zero fun k _ => ?_
  rw [if_neg]
  intro hk
  apply h
  pointwise [k0_pay6, k0_pay4]
  have : (0 : EReal) < Finset.fold max (Ideal.ofBits FTy.f32 4286578688#32)
      (fun x => FloatOps.sitofp (F := Ideal) FTy.f32 (BitVec.setWidth 32 (IntOp.cmpi CmpIPredicate.eq (idv (ix2 t x)) o)))
      Finset.univ := by
    refine (Finset.lt_fold_max _).2 (.inr ⟨k, Finset.mem_univ _, ?_⟩)
    rw [hid, ho, hk]
    show (0 : EReal) < (((BitVec.toInt _ : ℤ) : ℝ) : EReal)
    simp [IntOp.cmpi]
  simp only [this, decide_true]
  rfl

/-- The gated product, of reals. -/
theorem silu_mul (a b : EReal) (g u : ℝ) (h1 : a = ((g : ℝ) : EReal)) (h2 : b = ((u : ℝ) : EReal)) :
    a * Ideal.logistic a * b = ((silu g * u : ℝ) : EReal) := by
  subst h1 h2
  rw [logistic_coe, ← EReal.coe_mul, ← EReal.coe_mul]
  rfl

/-- The hidden block of the point, where its mask is on. -/
theorem hidden_apply (D : Data) (e : Fin 21) (j : Fin 5) (msk : IVec S96x1 1) (xb : Vec Ideal S96x3584 .bf16)
    (wg wu : Vec Ideal S1x1792x512 .i8) (sg su : Vec Ideal S1x28x512 .bf16)
    (hx : ∀ t d, xb (ix2 t d) = ((D.x t d : ℝ) : EReal))
    (hwg : ∀ r n, wg (ix3 0 r n) = D.w1 e r ⟨(col j n).val, by have := (col j n).isLt; omega⟩)
    (hwu : ∀ r n, wu (ix3 0 r n) = D.w1 e r ⟨2560 + (col j n).val, by have := (col j n).isLt; omega⟩)
    (hsg : ∀ r n, sg (ix3 0 r n) = ((D.s1 e r ⟨(col j n).val, by have := (col j n).isLt; omega⟩ : ℝ) : EReal))
    (hsu : ∀ r n, su (ix3 0 r n) = ((D.s1 e r ⟨2560 + (col j n).val, by have := (col j n).isLt; omega⟩ : ℝ) : EReal))
    (t : Fin 96) (n : Fin 512) :
    k0_pay10 (F := Ideal) msk (k0_pay7 xb) (k0_pay8 wg) (k0_pay9 sg) wu su (ix2 t n)
      = Scalar.select (msk (ix2 t 0)) ((D.H e t (col j n) : ℝ) : EReal) 0 := by
  pointwise [k0_pay10, k0_pay7, k0_pay8, k0_pay9]
  refine congrArg (fun z => Scalar.select _ z (0 : EReal)) ?_
  refine silu_mul _ _ _ _ ?_ ?_
  · rw [Data.G, coe_sum]
    refine Finset.sum_congr rfl fun a _ => ?_
    rw [Data.W1]
    rw [EReal.coe_mul, EReal.coe_mul, ← hx t a, ← hsg]
    refine congrArg₂ (· * ·) rfl (congrArg (fun z : EReal => z * _) ?_)
    by_cases hp : a.val % 2 < 1
    · rw [dif_pos hp, hwg]; exact lo_coe _ _ hp
    · rw [dif_neg hp, hwg]; exact hi_coe _ _ hp
  · rw [Data.G, coe_sum]
    refine Finset.sum_congr rfl fun a _ => ?_
    rw [Data.W1]
    rw [EReal.coe_mul, EReal.coe_mul, ← hx t a, ← hsu]
    refine congrArg₂ (· * ·) rfl (congrArg (fun z : EReal => z * _) ?_)
    by_cases hp : a.val % 2 < 1
    · rw [dif_pos hp, hwu]; exact lo_coe _ _ hp
    · rw [dif_neg hp, hwu]; exact hi_coe _ _ hp

/-- The second scale block, its unit axes dropped. -/
theorem pay11_apply (sd : Vec Ideal S1x1x4x3584 .bf16) (r : Fin 4) (d : Fin 3584) :
    k0_pay11 (F := Ideal) sd (ix2 r d) = sd (ix4 0 0 r d) := by
  pointwise [k0_pay11]

/-- What an active point leaves in the accumulator. -/
theorem step_apply (D : Data) (e : Fin 21) (j : Fin 5) (idv : Vec Ideal S96x8 .i32) (o : Elt Ideal .i32)
    (ewv : Vec Ideal S96x8 .f32) (xb : Vec Ideal S96x3584 .bf16)
    (wg wu : Vec Ideal S1x1792x512 .i8) (sg su : Vec Ideal S1x28x512 .bf16)
    (wd : Vec Ideal S1x256x3584 .i8) (sd : Vec Ideal S1x1x4x3584 .bf16)
    (hid : ∀ t k, idv (ix2 t k) = D.ids t k) (ho : o = BitVec.ofNat 32 e.val)
    (hew : ∀ t k, ewv (ix2 t k) = ((D.ew t k : ℝ) : EReal))
    (hx : ∀ t d, xb (ix2 t d) = ((D.x t d : ℝ) : EReal))
    (hwg : ∀ r n, wg (ix3 0 r n) = D.w1 e r ⟨(col j n).val, by have := (col j n).isLt; omega⟩)
    (hwu : ∀ r n, wu (ix3 0 r n) = D.w1 e r ⟨2560 + (col j n).val, by have := (col j n).isLt; omega⟩)
    (hsg : ∀ r n, sg (ix3 0 r n) = ((D.s1 e r ⟨(col j n).val, by have := (col j n).isLt; omega⟩ : ℝ) : EReal))
    (hsu : ∀ r n, su (ix3 0 r n) = ((D.s1 e r ⟨2560 + (col j n).val, by have := (col j n).isLt; omega⟩ : ℝ) : EReal))
    (hwd : ∀ r d, wd (ix3 0 r d) = D.w2 e ⟨256 * j.val + r.val, by omega⟩ d)
    (hsd : ∀ r d, sd (ix4 0 0 r d) = ((D.s2 e ⟨4 * j.val + r.val, by omega⟩ d : ℝ) : EReal))
    (acc : Vec Ideal S96x3584 .f32) (a : Fin 96 → Fin 3584 → ℝ) (hacc : ∀ t d, acc (ix2 t d) = ((a t d : ℝ) : EReal))
    (t : Fin 96) (d : Fin 3584) :
    k0_pay2 (F := Ideal) (k0_pay5 idv o ewv)
      (k0_pay10 (k0_pay6 idv o) (k0_pay7 xb) (k0_pay8 wg) (k0_pay9 sg) wu su) (k0_pay11 sd) wd acc (ix2 t d)
      = ((a t d + contrib D e j t d : ℝ) : EReal) := by
  pointwise [k0_pay2]
  simp only [hidden_apply D e j _ xb wg wu sg su hx hwg hwu hsg hsu]
  rw [cw_apply D e idv o ewv hid ho hew, hacc, EReal.coe_add]
  congr 1
  unfold contrib
  by_cases h : k0_pay6 (F := Ideal) idv o (ix2 t 0) = 1#1
  · rw [h, EReal.coe_mul, coe_sum]
    refine congrArg (fun z => ((D.cw e t : ℝ) : EReal) * z) ?_
    refine Finset.sum_congr rfl fun n _ => ?_
    have hW : D.W2 e (col j n) d = nib (D.w2 e ⟨256 * j.val + n.val / 2, by omega⟩ d) n.val
        * D.s2 e ⟨4 * j.val + n.val / 128, by omega⟩ d := by
      unfold Data.W2 nib col
      have h1 : (512 * j.val + n.val) % 2 = n.val % 2 := by omega
      have h2 : (512 * j.val + n.val) / 2 = 256 * j.val + n.val / 2 := by omega
      have h3 : (512 * j.val + n.val) / 128 = 4 * j.val + n.val / 128 := by omega
      simp only [h1, h2, h3]
    rw [pay11_apply, hsd ⟨n.val / 128, by omega⟩ d, hW, EReal.coe_mul, EReal.coe_mul]
    refine congrArg₂ (· * ·) (if_pos rfl) (congrArg (fun z : EReal => z * _) ?_)
    by_cases hp : n.val % 2 < 1
    · rw [dif_pos hp, hwd]; exact lo_coe _ _ hp
    · rw [dif_neg hp, hwd]; exact hi_coe _ _ hp
  · rw [cw_eq_zero D e idv o hid ho t h]
    rw [zero_mul, EReal.coe_zero, zero_mul]

end Cert.KernelIdeal.StepVal
-- ==== Proof.Quant.lean ====
module

public import proofs.«01_k».proof.Proof.Model

/-! The quantiser's scale, the least power of two not below a block's largest entry over 448 in the quantiser's sense:
    the kernel counts exponents and shifts them into place, the reference takes the least of a list of powers. -/

@[expose] public section
set_option maxRecDepth 16384
noncomputable section

namespace Cert.Quant
open Idealize.ShloMosaic

/-- The power of two whose exponent field is `k`. -/
def P (k : ℕ) : ℝ := (2 : ℝ) ^ ((k : ℤ) - 127)

/-- Powers are positive. -/
theorem P_pos (k : ℕ) : 0 < P k := by unfold P; positivity

/-- Powers grow with the exponent. -/
theorem P_mono {a b : ℕ} (h : a ≤ b) : P a ≤ P b := by
  unfold P; exact zpow_le_zpow_right₀ (by norm_num) (by omega)

/-- The exponent field alone, shifted into place, is that power of two. -/
theorem ofBits_P (k : ℕ) (h1 : 1 ≤ k) (h2 : k ≤ 254) :
    Ideal.ofBits .f32 (IntOp.shli .vector (BitVec.ofNat 32 k) 23#32) = ((P k : ℝ) : EReal) := by
  have a1 : ∀ k : Fin 255, (BitVec.extractLsb' 23 8 (IntOp.shli .vector (BitVec.ofNat 32 k.val) 23#32)).toNat = k.val := by decide +kernel
  have a2 : ∀ k : Fin 255, (BitVec.extractLsb' 0 23 (IntOp.shli .vector (BitVec.ofNat 32 k.val) 23#32)).toNat = 0 := by decide +kernel
  have a3 : ∀ k : Fin 255, (BitVec.extractLsb' 31 1 (IntOp.shli .vector (BitVec.ofNat 32 k.val) 23#32) == 1#1) = false := by decide +kernel
  have b1 := a1 ⟨k, by omega⟩
  have b2 := a2 ⟨k, by omega⟩
  have b3 := a3 ⟨k, by omega⟩
  dsimp only at b1 b2 b3
  show Ideal.ieee 8 23 _ = _
  unfold Ideal.ieee
  dsimp only
  rw [b1, b2, b3, if_neg (by norm_num; omega), if_neg (by omega)]
  refine congrArg _ ?_
  unfold P
  have h2 : (2:ℝ) ≠ 0 := by norm_num
  rw [show ((k : ℤ) - (2 ^ (8 - 1) - 1) - ((23 : ℕ) : ℤ)) = ((k : ℤ) - 127) + (-23) by push_cast; ring, zpow_add₀ h2]
  norm_num
  ring

/-- The count of powers (exponent fields 1 to 246) not above `r`: the largest such field, or 0. -/
def K (r : ℝ) : ℕ := Finset.univ.sup (fun x : Fin 246 => if P (x.val + 1) ≤ r then x.val + 1 else 0)

/-- The exponent field is at most 246. -/
theorem K_le (r : ℝ) : K r ≤ 246 := by
  refine Finset.sup_le fun x _ => ?_
  have := x.isLt
  split <;> omega

/-- A power below the number bounds the exponent field. -/
theorem le_K {r : ℝ} {k : ℕ} (h1 : 1 ≤ k) (h2 : k ≤ 246) : k ≤ K r ↔ P k ≤ r := by
  constructor
  · intro h
    obtain ⟨x, _, hx⟩ := Finset.exists_mem_eq_sup Finset.univ ⟨(0 : Fin 246), Finset.mem_univ _⟩ (fun x : Fin 246 => if P (x.val + 1) ≤ r then x.val + 1 else 0)
    have hK : K r = if P (x.val + 1) ≤ r then x.val + 1 else 0 := hx
    by_cases hp : P (x.val + 1) ≤ r
    · rw [if_pos hp] at hK
      exact (P_mono (by omega)).trans hp
    · rw [if_neg hp] at hK; omega
  · intro h
    have := Finset.le_sup (f := fun x : Fin 246 => if P (x.val + 1) ≤ r then x.val + 1 else 0) (Finset.mem_univ (⟨k - 1, by omega⟩ : Fin 246))
    dsimp only at this
    rw [Nat.sub_add_cancel h1, if_pos h] at this
    exact this

/-- The signed maximum over words of small numbers. -/
theorem fold_maxsi {ι : Type*} [DecidableEq ι] (s : Finset ι) (g : ι → ℕ) (hg : ∀ x, g x < 1000) :
    s.fold IntOp.maxsi 2147483648#32 (fun x => BitVec.ofNat 32 (g x)) = if s = ∅ then 2147483648#32 else BitVec.ofNat 32 (s.sup g) := by
  induction s using Finset.induction_on with
  | empty => rfl
  | insert a s ha ih =>
    rw [Finset.fold_insert ha, ih, if_neg (Finset.insert_ne_empty _ _), Finset.sup_insert]
    have m1 : ∀ x : ℕ, x < 1000 → IntOp.maxsi (BitVec.ofNat 32 x) 2147483648#32 = BitVec.ofNat 32 x := by
      intro x hx
      have : ∀ x : Fin 1000, IntOp.maxsi (BitVec.ofNat 32 x.val) 2147483648#32 = BitVec.ofNat 32 x.val := by decide +kernel
      exact this ⟨x, hx⟩
    by_cases hs : s = ∅
    · rw [if_pos hs, hs, Finset.sup_empty, m1 _ (hg a)]
      simp
    · rw [if_neg hs]
      have hsup : s.sup g < 1000 := (Finset.sup_lt_iff (by norm_num)).2 fun x _ => hg x
      have ti : ∀ x : ℕ, x < 1000 → (BitVec.ofNat 32 x).toInt = x := by
        intro x hx
        have : ∀ x : Fin 1000, (BitVec.ofNat 32 x.val).toInt = x.val := by decide +kernel
        exact this ⟨x, hx⟩
      unfold IntOp.maxsi
      simp only [BitVec.slt, BitVec.sle, ti _ (hg a), ti _ hsup]
      rcases le_total (g a) (s.sup g) with h | h
      · rw [max_eq_right h]
        by_cases h' : g a = s.sup g
        · simp [h']
        · have : g a < s.sup g := by omega
          simp; omega
      · rw [max_eq_left h]
        by_cases h' : g a = s.sup g
        · simp [h']
        · have : s.sup g < g a := by omega
          simp; omega

/-- The factor `1/448`, as the quantiser rounds it. -/
def q : ℝ := 9586981 * (2 : ℝ) ^ (-32 : ℤ)

/-- The constant 1/448 as rounded. -/
theorem c448 : Ideal.ofBits .f32 0x3B124925#32 = ((q : ℝ) : EReal) := by
  unfold q
  simp [Ideal.ofBits, Ideal.ieee, -EReal.coe_mul]

/-- The constant 2 ^ 120. -/
theorem c120 : Ideal.ofBits .f32 0x7B800000#32 = ((P 247 : ℝ) : EReal) := by
  have h := ofBits_P 247 (by norm_num) (by norm_num)
  rw [← h]; rfl

/-- The constant 2. -/
theorem c2 : Ideal.ofBits .f32 0x40000000#32 = ((2 : ℝ) : EReal) := by
  simp [Ideal.ofBits, Ideal.ieee, -EReal.coe_mul]; norm_num

/-- The constant 1. -/
theorem c1 : Ideal.ofBits .f32 0x3F800000#32 = ((1 : ℝ) : EReal) := by
  simp [Ideal.ofBits, Ideal.ieee, -EReal.coe_mul]; norm_num

/-- The float word of infinity. -/
theorem ctop : Ideal.ofBits .f32 0x7F800000#32 = (⊤ : EReal) := by
  simp [Ideal.ofBits, Ideal.ieee]

/-- The float word of minus infinity. -/
theorem cbot : Ideal.ofBits .f32 0xFF800000#32 = (⊥ : EReal) := by
  simp [Ideal.ofBits, Ideal.ieee]

/-- The scale of a block whose largest entry is `a`. -/
def scale (a : ℝ) : ℝ := if a = 0 then 1 else P (K (a * q) + 1)

/-- Scales are positive. -/
theorem scale_pos (a : ℝ) : 0 < scale a := by
  unfold scale; split
  · norm_num
  · exact P_pos _

/-- The exponent the kernel counts. -/
def kexp (A : EReal) : BitVec 32 :=
  if A = 0 then 0#32
  else IntOp.subi (Finset.univ.fold IntOp.maxsi 2147483648#32 (fun x : Fin 246 =>
    if Ideal.ofBits .f32 (IntOp.shli .vector (IntOp.addi (BitVec.ofNat 32 x.val) 1#32) 23#32) ≤ A * Ideal.ofBits .f32 0x3B124925#32
      then IntOp.addi (BitVec.ofNat 32 x.val) 1#32 else 0#32)) 126#32

/-- The scale the kernel shifts into place. -/
def kscale (A : EReal) : EReal := Ideal.ofBits .f32 (IntOp.shli .vector (IntOp.addi (kexp A) 127#32) 23#32)

/-- The inverse scale the kernel shifts into place. -/
def kinv (A : EReal) : EReal := Ideal.ofBits .f32 (IntOp.shli .vector (IntOp.subi 127#32 (kexp A)) 23#32)

/-- The scale the reference picks out of its list of powers. -/
def rscale (A : EReal) : EReal :=
  if A = 0 then Ideal.ofBits .f32 0x3F800000#32
  else Finset.univ.fold min (Ideal.ofBits .f32 0x7F800000#32) (fun x : Fin 247 =>
    if A * Ideal.ofBits .f32 0x3B124925#32
        < Ideal.pow (Ideal.ofBits .f32 0x40000000#32) (FloatOps.sitofp (F := Ideal) FTy.f32 (IntOp.addi 4294967170#32 (BitVec.ofNat 32 x.val)))
      then Ideal.pow (Ideal.ofBits .f32 0x40000000#32) (FloatOps.sitofp (F := Ideal) FTy.f32 (IntOp.addi 4294967170#32 (BitVec.ofNat 32 x.val)))
      else Ideal.ofBits .f32 0x7B800000#32)

/-- Adding one to a small word. -/
theorem succ_word (x : Fin 246) : IntOp.addi (BitVec.ofNat 32 x.val) 1#32 = BitVec.ofNat 32 (x.val + 1) := by
  revert x; decide +kernel

/-- The kernel's exponent is the count less 126. -/
theorem kexp_coe (a : ℝ) : kexp (a : EReal) = if a = 0 then 0#32 else IntOp.subi (BitVec.ofNat 32 (K (a * q))) 126#32 := by
  unfold kexp
  by_cases h : a = 0
  · rw [if_pos (by rw [h]; rfl), if_pos h]
  · rw [if_neg (by exact_mod_cast h), if_neg h]
    refine congrArg (fun z => IntOp.subi z 126#32) ?_
    have hf : (fun x : Fin 246 => if Ideal.ofBits .f32 (IntOp.shli .vector (IntOp.addi (BitVec.ofNat 32 x.val) 1#32) 23#32)
          ≤ (a : EReal) * Ideal.ofBits .f32 0x3B124925#32 then IntOp.addi (BitVec.ofNat 32 x.val) 1#32 else 0#32)
        = fun x : Fin 246 => BitVec.ofNat 32 (if P (x.val + 1) ≤ a * q then x.val + 1 else 0) := by
      funext x
      have hx := x.isLt
      rw [succ_word, ofBits_P _ (by omega) (by omega), c448, ← EReal.coe_mul]
      by_cases hp : P (x.val + 1) ≤ a * q
      · rw [if_pos (by exact_mod_cast hp), if_pos hp]
      · rw [if_neg (by exact_mod_cast hp), if_neg hp]
    rw [hf, fold_maxsi _ _ (fun x => by have := x.isLt; split <;> omega), if_neg (Finset.univ_nonempty.ne_empty)]
    rfl

/-- The kernel's scale. -/
theorem kscale_coe (a : ℝ) : kscale (a : EReal) = ((scale a : ℝ) : EReal) := by
  unfold kscale scale
  rw [kexp_coe]
  by_cases h : a = 0
  · rw [if_pos h, if_pos h]
    have := ofBits_P 127 (by norm_num) (by norm_num)
    rw [show IntOp.addi 0#32 127#32 = BitVec.ofNat 32 127 from rfl, this]
    unfold P; norm_num
  · rw [if_neg h, if_neg h]
    have hk := K_le (a * q)
    have hw : ∀ k : Fin 247, IntOp.addi (IntOp.subi (BitVec.ofNat 32 k.val) 126#32) 127#32 = BitVec.ofNat 32 (k.val + 1) := by decide +kernel
    rw [hw ⟨K (a * q), by omega⟩, ofBits_P _ (by dsimp only; omega) (by dsimp only; omega)]

/-- The kernel's inverse scale. -/
theorem kinv_coe (a : ℝ) : kinv (a : EReal) = (((scale a)⁻¹ : ℝ) : EReal) := by
  unfold kinv scale
  rw [kexp_coe]
  by_cases h : a = 0
  · rw [if_pos h, if_pos h]
    have := ofBits_P 127 (by norm_num) (by norm_num)
    rw [show IntOp.subi 127#32 0#32 = BitVec.ofNat 32 127 from rfl, this]
    unfold P; norm_num
  · rw [if_neg h, if_neg h]
    have hk := K_le (a * q)
    have hw : ∀ k : Fin 247, IntOp.subi 127#32 (IntOp.subi (BitVec.ofNat 32 k.val) 126#32) = BitVec.ofNat 32 (253 - k.val) := by decide +kernel
    rw [hw ⟨K (a * q), by omega⟩, ofBits_P _ (by dsimp only; omega) (by dsimp only; omega)]
    refine congrArg _ ?_
    unfold P
    rw [← zpow_neg]
    refine congrArg _ ?_
    dsimp only
    push_cast [Nat.cast_sub (show K (a * q) ≤ 253 by omega)]
    ring

/-- The reference's powers. -/
theorem pow_word (x : Fin 247) : Ideal.pow (Ideal.ofBits .f32 0x40000000#32)
    (FloatOps.sitofp (F := Ideal) FTy.f32 (IntOp.addi 4294967170#32 (BitVec.ofNat 32 x.val))) = ((P (x.val + 1) : ℝ) : EReal) := by
  have hw : ∀ x : Fin 247, (IntOp.addi 4294967170#32 (BitVec.ofNat 32 x.val)).toInt = (x.val : ℤ) - 126 := by decide +kernel
  show Ideal.pow _ (((((_ : BitVec 32).toInt : ℝ)) : EReal)) = _
  rw [hw, c2]
  show ((Real.rpow 2 _ : ℝ) : EReal) = _
  refine congrArg _ ?_
  unfold P
  rw [show ((x.val + 1 : ℕ) : ℤ) - 127 = (x.val : ℤ) - 126 by push_cast; ring]
  exact Real.rpow_intCast 2 _

/-- The reference's scale. -/
theorem rscale_coe (a : ℝ) : rscale (a : EReal) = ((scale a : ℝ) : EReal) := by
  unfold rscale scale
  by_cases h : a = 0
  · rw [if_pos (by rw [h]; rfl), if_pos h, c1]
  · rw [if_neg (by exact_mod_cast h), if_neg h]
    have hk := K_le (a * q)
    have hf : (fun x : Fin 247 => if (a : EReal) * Ideal.ofBits .f32 0x3B124925#32
        < Ideal.pow (Ideal.ofBits .f32 0x40000000#32) (FloatOps.sitofp (F := Ideal) FTy.f32 (IntOp.addi 4294967170#32 (BitVec.ofNat 32 x.val)))
      then Ideal.pow (Ideal.ofBits .f32 0x40000000#32) (FloatOps.sitofp (F := Ideal) FTy.f32 (IntOp.addi 4294967170#32 (BitVec.ofNat 32 x.val)))
      else Ideal.ofBits .f32 0x7B800000#32) = fun x : Fin 247 => ((if a * q < P (x.val + 1) then P (x.val + 1) else P 247 : ℝ) : EReal) := by
      funext x
      rw [pow_word, c448, c120, ← EReal.coe_mul]
      by_cases hp : a * q < P (x.val + 1)
      · rw [if_pos (by exact_mod_cast hp), if_pos hp]
      · rw [if_neg (by exact_mod_cast hp), if_neg hp]
    rw [hf, ctop]
    refine le_antisymm ?_ ?_
    · refine (Finset.fold_min_le _).2 (.inr ⟨⟨K (a * q), by omega⟩, Finset.mem_univ _, ?_⟩)
      dsimp only
      rcases Nat.lt_or_ge (K (a * q)) 246 with h' | h'
      · rw [if_pos]
        by_contra hc
        have := (le_K (r := a * q) (k := K (a * q) + 1) (by omega) (by omega)).2 (not_lt.1 hc)
        omega
      · have h6 : K (a * q) = 246 := by omega
        have h7 : P 247 = P (K (a * q) + 1) := by rw [h6]
        refine EReal.coe_le_coe_iff.2 ?_
        split
        · exact le_refl _
        · exact h7.le
    · refine (Finset.le_fold_min _).2 ⟨le_top, fun x _ => ?_⟩
      have hx := x.isLt
      refine EReal.coe_le_coe_iff.2 ?_
      split
      · rename_i hp
        refine P_mono ?_
        by_contra hc
        exact absurd ((le_K (r := a * q) (k := x.val + 1) (by omega) (by omega)).1 (by omega)) (not_le.2 hp)
      · exact P_mono (by omega)

/-- The largest magnitude of finitely many reals is a real. -/
theorem amax_coe {n : ℕ} (f : Fin (n + 1) → ℝ) :
    ∃ a : ℝ, Finset.univ.fold max (Ideal.ofBits .f32 0xFF800000#32) (fun x => FloatOps.absf (F := Ideal) (φ := .f32) ((f x : ℝ) : EReal)) = ((a : ℝ) : EReal) := by
  have hf : (fun x => FloatOps.absf (F := Ideal) (φ := .f32) ((f x : ℝ) : EReal)) = fun x => ((|f x| : ℝ) : EReal) := by
    funext x
    show max ((f x : ℝ) : EReal) (-((f x : ℝ) : EReal)) = _
    rw [← EReal.coe_neg, abs_eq_max_neg]
    exact (EReal.coe_strictMono.monotone.map_max).symm
  refine ⟨Finset.univ.sup' Finset.univ_nonempty fun x => |f x|, ?_⟩
  rw [hf, cbot]
  refine le_antisymm ?_ ?_
  · refine (Finset.fold_max_le _).2 ⟨bot_le, fun x hx => EReal.coe_le_coe_iff.2 (Finset.le_sup' (fun x => |f x|) hx)⟩
  · obtain ⟨x, hx, h⟩ := Finset.exists_mem_eq_sup' Finset.univ_nonempty fun x => |f x|
    rw [h]
    exact (Finset.le_fold_max _).2 (.inr ⟨x, hx, le_refl _⟩)

/-- Dividing by the scale is multiplying by its inverse. -/
theorem div_scale (v : EReal) (a : ℝ) : Ideal.div v ((scale a : ℝ) : EReal) = v * (((scale a)⁻¹ : ℝ) : EReal) := by
  unfold Ideal.div
  rw [if_neg (by exact_mod_cast (scale_pos a).ne'), EReal.coe_inv]

end Cert.Quant
-- ==== Proof.StepRead.lean ====
module

public import proofs.«01_k».proof.Proof.KernelIdealFrame
public import proofs.«01_k».proof.Proof.StepVal
public import proofs.«01_k».proof.Proof.Quant
public import Idealize.ShloMosaic.Lib.Pipeline.ValueKit
public import Idealize.ShloMosaic.Lib.Pipeline.ReadBack

/-! What one grid point leaves in the accumulator and in the two results, as the kernel's own operations applied to the
    blocks it reads. -/

@[expose] public section
set_option maxRecDepth 16384
noncomputable section

namespace Cert.KernelIdeal.Gen
open Idealize.ShloMosaic Idealize.ShloMosaic.TcCoe Idealize.ShloMosaic.Pipeline
open Cert.KernelIdeal

variable {F : FTy → Type} [FloatOps F]

/-- The expert's number a point loads from the order table. -/
def ordWord (i : grid0.Coords) {c : Dev nD} (xt0 : TbBuf0 (F := F) c tbM0_0) : Elt F .i32 :=
  View.ld (View.read (Elt F) (View.whole main_v16) xt0) (Rect.unit (s := S21) (k0_off2 i) S1.size (k0_off2_inb i)) (Shape.Idx.first (numel1_S1.symm ▸ Nat.one_pos))

/-- What an active point leaves in the accumulator that held `acc`. -/
def accStep (i : grid0.Coords) {c : Dev nD} (x0 : Vec F S96x3584 .bf16) (x1 : Vec F S96x8 .i32) (x2 : Vec F S96x8 .f32) (x3 : Vec F S1x1792x512 .i8)
    (x4 : Vec F S1x1792x512 .i8) (x5 : Vec F S1x28x512 .bf16) (x6 : Vec F S1x28x512 .bf16) (x7 : Vec F S1x256x3584 .i8) (x8 : Vec F S1x5x4x3584 .bf16)
    (xt0 : TbBuf0 (F := F) c tbM0_0) (acc : Vec F S96x3584 .f32) : Vec F S96x3584 .f32 :=
  k0_pay2 (k0_pay5 x1 (ordWord i xt0) x2) (k0_pay10 (k0_pay6 x1 (ordWord i xt0)) (k0_pay7 x0) (k0_pay8 x3) (k0_pay9 x5) x4 x6)
    (k0_pay11 (View.ld x8 (Rect.unit (s := S1x5x4x3584) (k0_off3 i) S1x1x4x3584.size (k0_off3_inb i)))) x7 acc

/-- The first point, active, starts from zero. -/
theorem sout0_A_0_eq (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) : sout0_A_0 c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1 = accStep i x0 x1 x2 x3 x4 x5 x6 x7 x8 xt0 k0_pay1 := by
  unfold sout0_A_0
  frame_open
  try simp (disch := decide) only [↓ View.readCov_skip, ↓ View.readCov_cons_toLoadRect, ↓ View.readCov_fill]
  frame_out
  try simp only [read_unread_whole]
  all_goals rfl

/-- The first point, not active, leaves zero. -/
theorem sout0_B_0_eq (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) : sout0_B_0 c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 hc1 = k0_pay1 := by
  unfold sout0_B_0
  frame_open
  try simp (disch := decide) only [↓ View.readCov_skip, ↓ View.readCov_cons_toLoadRect, ↓ View.readCov_fill]
  frame_out
  try simp only [read_unread_whole]
  all_goals rfl

/-- A middle active point adds to what it found. -/
theorem sout0_C_0_eq (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : ¬cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) : sout0_C_0 c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1 = accStep i x0 x1 x2 x3 x4 x5 x6 x7 x8 xt0 xs0 := by
  unfold sout0_C_0
  frame_open
  try simp (disch := decide) only [↓ View.readCov_skip, ↓ View.readCov_cons_toLoadRect, ↓ View.readCov_fill]
  frame_out
  try simp only [read_unread_whole]
  all_goals rfl

/-- The last point, active, adds to what it found. -/
theorem sout0_E_0_eq (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec F S96x3584 .bf16) (x1 : Vec F S96x8 .i32) (x2 : Vec F S96x8 .f32) (x3 : Vec F S1x1792x512 .i8) (x4 : Vec F S1x1792x512 .i8) (x5 : Vec F S1x28x512 .bf16) (x6 : Vec F S1x28x512 .bf16) (x7 : Vec F S1x256x3584 .i8) (x8 : Vec F S1x5x4x3584 .bf16) (xt0 : TbBuf0 (F := F) c tbM0_0) (xt1 : TbBuf0 (F := F) c tbM0_1) (xs0 : Vec F S96x3584 .f32) (hc1 : cond0_1 i (tbM0_1.view.readAt (Elt F) (Rect.unit (s := S1) ![0] S1.size inb_S1_S1_0).toLoadRect xt1 (Shape.Idx.first (numel1_S1.symm ▸ Nat.one_pos)))) : sout0_E_0 c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1 = accStep i x0 x1 x2 x3 x4 x5 x6 x7 x8 xt0 xs0 := by
  unfold sout0_E_0
  frame_open
  try simp (disch := decide) only [↓ View.readCov_skip, ↓ View.readCov_cons_toLoadRect, ↓ View.readCov_fill]
  frame_out
  try simp only [read_unread_whole]
  all_goals rfl

end Cert.KernelIdeal.Gen
-- ==== Proof.KernelQuant.lean ====
module

public import proofs.«01_k».proof.Proof.StepRead

/-! What the last grid point stores: each block of 128 numbers of the accumulator, scaled by its power of two. -/

@[expose] public section
set_option maxRecDepth 16384
noncomputable section

namespace Cert.KernelIdeal.Gen
open Idealize.ShloMosaic Idealize.ShloMosaic.TcCoe Idealize.ShloMosaic.Pipeline
open Cert.KernelIdeal Cert.Quant

/-- The largest absolute value in block `b` of row `t`. -/
def blkmax (X : Vec Ideal S96x3584 .f32) (t : Fin 96) (b : Fin 28) : EReal :=
  (Finset.univ : Finset (Fin 128)).fold max (Ideal.ofBits .f32 0xFF800000#32)
    (fun x => FloatOps.absf (F := Ideal) (φ := .f32) (X (ix2 t ⟨b.val * 128 + x.val, by omega⟩)))

/-- The codes of an array: each number over its block's scale, clamped to ±448. -/
def kcodes (X : Vec Ideal S96x3584 .f32) : Vec Ideal S96x3584 .fp8e4m3 := fun y =>
  min (Ideal.ofBits .f32 0x43E00000#32) (max (Ideal.ofBits .f32 0xC3E00000#32)
    (X y * kinv (blkmax X (y 0) ⟨(y 1).val / 128, by have : (y 1).val < 3584 := (y 1).isLt; omega⟩)))

/-- The scales of an array, one a block. -/
def kscales (X : Vec Ideal S96x3584 .f32) : Vec Ideal S96x28 .f32 := fun y => kscale (blkmax X (y 0) (y 1))

/-- The scale of one column block: that of the largest magnitude in the row. -/
theorem pay13_apply (v : Vec Ideal S96x128 .f32) (t : Fin 96) (u : Fin 1) : k0_pay13 v (ix2 t u)
    = kscale ((Finset.univ : Finset (Fin 128)).fold max (Ideal.ofBits .f32 0xFF800000#32)
        (fun x => FloatOps.absf (F := Ideal) (φ := .f32) (v (ix2 t x)))) := by
  pointwise [k0_pay13, k0_pay12]
  rfl

/-- The codes of one column block: each number times the inverse scale, clamped. -/
theorem pay15_apply (v : Vec Ideal S96x128 .f32) (t : Fin 96) (n : Fin 128) : k0_pay15 (k0_pay14 v) (ix2 t n)
    = min (Ideal.ofBits .f32 0x43E00000#32) (max (Ideal.ofBits .f32 0xC3E00000#32) (v (ix2 t n) *
        kinv ((Finset.univ : Finset (Fin 128)).fold max (Ideal.ofBits .f32 0xFF800000#32)
        (fun x => FloatOps.absf (F := Ideal) (φ := .f32) (v (ix2 t x)))))) := by
  pointwise [k0_pay15, k0_pay14, k0_pay12]
  rfl

/-- Loading one column block of an array. -/
theorem ld_block (X : Vec Ideal S96x3584 .f32) (k o : ℕ) (ho : o = 128 * k) (hk : k < 28)
    (inb : ∀ a, (![0, o] : Fin 2 → ℕ) a + S96x128.size a ≤ S96x3584.size a) (t : Fin 96) (n : Fin 128) :
    View.ld X (Rect.unit (s := S96x3584) ![0, o] S96x128.size inb) (ix2 t n) = X (ix2 t ⟨k * 128 + n.val, by omega⟩) := by
  unfold View.ld
  refine congrArg X ?_
  funext a
  refine Fin.ext ?_
  fin_cases a
  · show 0 + 1 * t.val = t.val; omega
  · show o + 1 * n.val = k * 128 + n.val; omega

/-- The scale column of one block, as part of all scales. -/
theorem piece_scale (X : Vec Ideal S96x3584 .f32) (k o : ℕ) (ho : o = 128 * k) (hk : k < 28)
    (inb : ∀ a, (![0, o] : Fin 2 → ℕ) a + S96x128.size a ≤ S96x3584.size a) (x : S96x1.Idx) (y : S96x28.Idx)
    (h0 : (y 0).val = (x 0).val) (h1 : (y 1).val = k + (x 1).val) :
    k0_pay13 (View.ld X (Rect.unit (s := S96x3584) ![0, o] S96x128.size inb)) x = kscales X y := by
  obtain ⟨t, u, rfl⟩ : ∃ (t : Fin 96) (u : Fin 1), x = ix2 t u := ⟨x 0, x 1, eq_ix2 x⟩
  obtain ⟨t', b, rfl⟩ : ∃ (t : Fin 96) (b : Fin 28), y = ix2 t b := ⟨y 0, y 1, eq_ix2 y⟩
  obtain rfl : t' = t := Fin.ext h0
  obtain rfl : b = ⟨k, hk⟩ := Fin.ext (by have h1 : b.val = k + u.val := h1; show b.val = k; omega)
  rw [pay13_apply]
  simp only [ld_block X k o ho hk inb]
  rfl

/-- The codes of one block, as part of all codes. -/
theorem piece_code (X : Vec Ideal S96x3584 .f32) (k o : ℕ) (ho : o = 128 * k) (hk : k < 28)
    (inb : ∀ a, (![0, o] : Fin 2 → ℕ) a + S96x128.size a ≤ S96x3584.size a) (x : S96x128.Idx) (y : S96x3584.Idx)
    (h0 : (y 0).val = (x 0).val) (h1 : (y 1).val = o + (x 1).val) :
    k0_pay15 (k0_pay14 (View.ld X (Rect.unit (s := S96x3584) ![0, o] S96x128.size inb))) x = kcodes X y := by
  obtain ⟨t, n, rfl⟩ : ∃ (t : Fin 96) (n : Fin 128), x = ix2 t n := ⟨x 0, x 1, eq_ix2 x⟩
  obtain ⟨t', d, rfl⟩ : ∃ (t : Fin 96) (d : Fin 3584), y = ix2 t d := ⟨y 0, y 1, eq_ix2 y⟩
  obtain rfl : t' = t := Fin.ext h0
  have hb : k * 128 + n.val < 3584 := by have := n.isLt; omega
  obtain rfl : d = ⟨k * 128 + n.val, hb⟩ := Fin.ext (by have h1 : d.val = o + n.val := h1; show d.val = k * 128 + n.val; omega)
  have e1 : (⟨(k * 128 + n.val) / 128, by omega⟩ : Fin 28) = (⟨k, hk⟩ : Fin 28) :=
    Fin.ext (by show (k * 128 + n.val) / 128 = k; omega)
  rw [pay15_apply]
  simp only [ld_block X k o ho hk inb]
  show _ = min _ (max _ (X (ix2 t' _) * kinv (blkmax X t' (⟨(k * 128 + n.val) / 128, _⟩ : Fin 28))))
  rw [e1]
  rfl

/-- Codes left by a last point that is active. -/
theorem out0_E_9_eq (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec Ideal S96x3584 .bf16) (x1 : Vec Ideal S96x8 .i32) (x2 : Vec Ideal S96x8 .f32) (x3 : Vec Ideal S1x1792x512 .i8) (x4 : Vec Ideal S1x1792x512 .i8) (x5 : Vec Ideal S1x28x512 .bf16) (x6 : Vec Ideal S1x28x512 .bf16) (x7 : Vec Ideal S1x256x3584 .i8) (x8 : Vec Ideal S1x5x4x3584 .bf16) (xt0 : TbBuf0 (F := Ideal) c tbM0_0) (xt1 : TbBuf0 (F := Ideal) c tbM0_1) (xs0 : Vec Ideal S96x3584 .f32) (hc1 : cond0_1 i (tbM0_1.view.readAt (Elt Ideal) (Rect.unit (s := S1) ![0] S1.size inb_S1_S1_0).toLoadRect xt1 (Shape.Idx.first (numel1_S1.symm ▸ Nat.one_pos)))) : out0_E_9 c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1 = kcodes (accStep i x0 x1 x2 x3 x4 x5 x6 x7 x8 xt0 xs0) := by
  unfold out0_E_9
  frame_open
  try simp (disch := decide) only [↓ View.readCov_skip, ↓ View.readCov_cons_toLoadRect, ↓ View.readCov_fill]
  frame_out
  try simp only [read_unread_whole]
  obtain ⟨X, hX⟩ : ∃ X, X = accStep i x0 x1 x2 x3 x4 x5 x6 x7 x8 xt0 xs0 := ⟨_, rfl⟩
  rw [← hX]
  unfold accStep ordWord at hX
  rw [← hX]
  clear hX
  funext y
  canon_tiles x h
  · exact piece_code X 27 3456 rfl (by decide) inb_S96x3584_S96x128_0_3456 x y (by omega) (by omega)
  · exact piece_code X 26 3328 rfl (by decide) inb_S96x3584_S96x128_0_3328 x y (by omega) (by omega)
  · exact piece_code X 25 3200 rfl (by decide) inb_S96x3584_S96x128_0_3200 x y (by omega) (by omega)
  · exact piece_code X 24 3072 rfl (by decide) inb_S96x3584_S96x128_0_3072 x y (by omega) (by omega)
  · exact piece_code X 23 2944 rfl (by decide) inb_S96x3584_S96x128_0_2944 x y (by omega) (by omega)
  · exact piece_code X 22 2816 rfl (by decide) inb_S96x3584_S96x128_0_2816 x y (by omega) (by omega)
  · exact piece_code X 21 2688 rfl (by decide) inb_S96x3584_S96x128_0_2688 x y (by omega) (by omega)
  · exact piece_code X 20 2560 rfl (by decide) inb_S96x3584_S96x128_0_2560 x y (by omega) (by omega)
  · exact piece_code X 19 2432 rfl (by decide) inb_S96x3584_S96x128_0_2432 x y (by omega) (by omega)
  · exact piece_code X 18 2304 rfl (by decide) inb_S96x3584_S96x128_0_2304 x y (by omega) (by omega)
  · exact piece_code X 17 2176 rfl (by decide) inb_S96x3584_S96x128_0_2176 x y (by omega) (by omega)
  · exact piece_code X 16 2048 rfl (by decide) inb_S96x3584_S96x128_0_2048 x y (by omega) (by omega)
  · exact piece_code X 15 1920 rfl (by decide) inb_S96x3584_S96x128_0_1920 x y (by omega) (by omega)
  · exact piece_code X 14 1792 rfl (by decide) inb_S96x3584_S96x128_0_1792 x y (by omega) (by omega)
  · exact piece_code X 13 1664 rfl (by decide) inb_S96x3584_S96x128_0_1664 x y (by omega) (by omega)
  · exact piece_code X 12 1536 rfl (by decide) inb_S96x3584_S96x128_0_1536 x y (by omega) (by omega)
  · exact piece_code X 11 1408 rfl (by decide) inb_S96x3584_S96x128_0_1408 x y (by omega) (by omega)
  · exact piece_code X 10 1280 rfl (by decide) inb_S96x3584_S96x128_0_1280 x y (by omega) (by omega)
  · exact piece_code X 9 1152 rfl (by decide) inb_S96x3584_S96x128_0_1152 x y (by omega) (by omega)
  · exact piece_code X 8 1024 rfl (by decide) inb_S96x3584_S96x128_0_1024 x y (by omega) (by omega)
  · exact piece_code X 7 896 rfl (by decide) inb_S96x3584_S96x128_0_896 x y (by omega) (by omega)
  · exact piece_code X 6 768 rfl (by decide) inb_S96x3584_S96x128_0_768 x y (by omega) (by omega)
  · exact piece_code X 5 640 rfl (by decide) inb_S96x3584_S96x128_0_640 x y (by omega) (by omega)
  · exact piece_code X 4 512 rfl (by decide) inb_S96x3584_S96x128_0_512 x y (by omega) (by omega)
  · exact piece_code X 3 384 rfl (by decide) inb_S96x3584_S96x128_0_384 x y (by omega) (by omega)
  · exact piece_code X 2 256 rfl (by decide) inb_S96x3584_S96x128_0_256 x y (by omega) (by omega)
  · exact piece_code X 1 128 rfl (by decide) inb_S96x3584_S96x128_0_128 x y (by omega) (by omega)
  · exact piece_code X 0 0 rfl (by decide) inb_S96x3584_S96x128_0_0 x y (by omega) (by omega)

/-- Scales left by a last point that is active. -/
theorem out0_E_10_eq (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec Ideal S96x3584 .bf16) (x1 : Vec Ideal S96x8 .i32) (x2 : Vec Ideal S96x8 .f32) (x3 : Vec Ideal S1x1792x512 .i8) (x4 : Vec Ideal S1x1792x512 .i8) (x5 : Vec Ideal S1x28x512 .bf16) (x6 : Vec Ideal S1x28x512 .bf16) (x7 : Vec Ideal S1x256x3584 .i8) (x8 : Vec Ideal S1x5x4x3584 .bf16) (xt0 : TbBuf0 (F := Ideal) c tbM0_0) (xt1 : TbBuf0 (F := Ideal) c tbM0_1) (xs0 : Vec Ideal S96x3584 .f32) (hc1 : cond0_1 i (tbM0_1.view.readAt (Elt Ideal) (Rect.unit (s := S1) ![0] S1.size inb_S1_S1_0).toLoadRect xt1 (Shape.Idx.first (numel1_S1.symm ▸ Nat.one_pos)))) : out0_E_10 c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1 = kscales (accStep i x0 x1 x2 x3 x4 x5 x6 x7 x8 xt0 xs0) := by
  unfold out0_E_10
  frame_open
  try simp (disch := decide) only [↓ View.readCov_skip, ↓ View.readCov_cons_toLoadRect, ↓ View.readCov_fill]
  frame_out
  try simp only [read_unread_whole]
  obtain ⟨X, hX⟩ : ∃ X, X = accStep i x0 x1 x2 x3 x4 x5 x6 x7 x8 xt0 xs0 := ⟨_, rfl⟩
  rw [← hX]
  unfold accStep ordWord at hX
  rw [← hX]
  clear hX
  funext y
  canon_tiles x h
  · exact piece_scale X 27 3456 rfl (by decide) inb_S96x3584_S96x128_0_3456 x y (by omega) (by omega)
  · exact piece_scale X 26 3328 rfl (by decide) inb_S96x3584_S96x128_0_3328 x y (by omega) (by omega)
  · exact piece_scale X 25 3200 rfl (by decide) inb_S96x3584_S96x128_0_3200 x y (by omega) (by omega)
  · exact piece_scale X 24 3072 rfl (by decide) inb_S96x3584_S96x128_0_3072 x y (by omega) (by omega)
  · exact piece_scale X 23 2944 rfl (by decide) inb_S96x3584_S96x128_0_2944 x y (by omega) (by omega)
  · exact piece_scale X 22 2816 rfl (by decide) inb_S96x3584_S96x128_0_2816 x y (by omega) (by omega)
  · exact piece_scale X 21 2688 rfl (by decide) inb_S96x3584_S96x128_0_2688 x y (by omega) (by omega)
  · exact piece_scale X 20 2560 rfl (by decide) inb_S96x3584_S96x128_0_2560 x y (by omega) (by omega)
  · exact piece_scale X 19 2432 rfl (by decide) inb_S96x3584_S96x128_0_2432 x y (by omega) (by omega)
  · exact piece_scale X 18 2304 rfl (by decide) inb_S96x3584_S96x128_0_2304 x y (by omega) (by omega)
  · exact piece_scale X 17 2176 rfl (by decide) inb_S96x3584_S96x128_0_2176 x y (by omega) (by omega)
  · exact piece_scale X 16 2048 rfl (by decide) inb_S96x3584_S96x128_0_2048 x y (by omega) (by omega)
  · exact piece_scale X 15 1920 rfl (by decide) inb_S96x3584_S96x128_0_1920 x y (by omega) (by omega)
  · exact piece_scale X 14 1792 rfl (by decide) inb_S96x3584_S96x128_0_1792 x y (by omega) (by omega)
  · exact piece_scale X 13 1664 rfl (by decide) inb_S96x3584_S96x128_0_1664 x y (by omega) (by omega)
  · exact piece_scale X 12 1536 rfl (by decide) inb_S96x3584_S96x128_0_1536 x y (by omega) (by omega)
  · exact piece_scale X 11 1408 rfl (by decide) inb_S96x3584_S96x128_0_1408 x y (by omega) (by omega)
  · exact piece_scale X 10 1280 rfl (by decide) inb_S96x3584_S96x128_0_1280 x y (by omega) (by omega)
  · exact piece_scale X 9 1152 rfl (by decide) inb_S96x3584_S96x128_0_1152 x y (by omega) (by omega)
  · exact piece_scale X 8 1024 rfl (by decide) inb_S96x3584_S96x128_0_1024 x y (by omega) (by omega)
  · exact piece_scale X 7 896 rfl (by decide) inb_S96x3584_S96x128_0_896 x y (by omega) (by omega)
  · exact piece_scale X 6 768 rfl (by decide) inb_S96x3584_S96x128_0_768 x y (by omega) (by omega)
  · exact piece_scale X 5 640 rfl (by decide) inb_S96x3584_S96x128_0_640 x y (by omega) (by omega)
  · exact piece_scale X 4 512 rfl (by decide) inb_S96x3584_S96x128_0_512 x y (by omega) (by omega)
  · exact piece_scale X 3 384 rfl (by decide) inb_S96x3584_S96x128_0_384 x y (by omega) (by omega)
  · exact piece_scale X 2 256 rfl (by decide) inb_S96x3584_S96x128_0_256 x y (by omega) (by omega)
  · exact piece_scale X 1 128 rfl (by decide) inb_S96x3584_S96x128_0_128 x y (by omega) (by omega)
  · exact piece_scale X 0 0 rfl (by decide) inb_S96x3584_S96x128_0_0 x y (by omega) (by omega)

/-- Codes left by a last point at rest. -/
theorem out0_F_9_eq (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec Ideal S96x3584 .bf16) (x1 : Vec Ideal S96x8 .i32) (x2 : Vec Ideal S96x8 .f32) (x3 : Vec Ideal S1x1792x512 .i8) (x4 : Vec Ideal S1x1792x512 .i8) (x5 : Vec Ideal S1x28x512 .bf16) (x6 : Vec Ideal S1x28x512 .bf16) (x7 : Vec Ideal S1x256x3584 .i8) (x8 : Vec Ideal S1x5x4x3584 .bf16) (xt0 : TbBuf0 (F := Ideal) c tbM0_0) (xt1 : TbBuf0 (F := Ideal) c tbM0_1) (xs0 : Vec Ideal S96x3584 .f32) (hc1 : ¬cond0_1 i (tbM0_1.view.readAt (Elt Ideal) (Rect.unit (s := S1) ![0] S1.size inb_S1_S1_0).toLoadRect xt1 (Shape.Idx.first (numel1_S1.symm ▸ Nat.one_pos)))) : out0_F_9 c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1 = kcodes xs0 := by
  unfold out0_F_9
  frame_open
  try simp (disch := decide) only [↓ View.readCov_skip, ↓ View.readCov_cons_toLoadRect, ↓ View.readCov_fill]
  frame_out
  try simp only [read_unread_whole]
  obtain ⟨X, hX⟩ : ∃ X, X = xs0 := ⟨_, rfl⟩
  rw [← hX]
  clear hX
  funext y
  canon_tiles x h
  · exact piece_code X 27 3456 rfl (by decide) inb_S96x3584_S96x128_0_3456 x y (by omega) (by omega)
  · exact piece_code X 26 3328 rfl (by decide) inb_S96x3584_S96x128_0_3328 x y (by omega) (by omega)
  · exact piece_code X 25 3200 rfl (by decide) inb_S96x3584_S96x128_0_3200 x y (by omega) (by omega)
  · exact piece_code X 24 3072 rfl (by decide) inb_S96x3584_S96x128_0_3072 x y (by omega) (by omega)
  · exact piece_code X 23 2944 rfl (by decide) inb_S96x3584_S96x128_0_2944 x y (by omega) (by omega)
  · exact piece_code X 22 2816 rfl (by decide) inb_S96x3584_S96x128_0_2816 x y (by omega) (by omega)
  · exact piece_code X 21 2688 rfl (by decide) inb_S96x3584_S96x128_0_2688 x y (by omega) (by omega)
  · exact piece_code X 20 2560 rfl (by decide) inb_S96x3584_S96x128_0_2560 x y (by omega) (by omega)
  · exact piece_code X 19 2432 rfl (by decide) inb_S96x3584_S96x128_0_2432 x y (by omega) (by omega)
  · exact piece_code X 18 2304 rfl (by decide) inb_S96x3584_S96x128_0_2304 x y (by omega) (by omega)
  · exact piece_code X 17 2176 rfl (by decide) inb_S96x3584_S96x128_0_2176 x y (by omega) (by omega)
  · exact piece_code X 16 2048 rfl (by decide) inb_S96x3584_S96x128_0_2048 x y (by omega) (by omega)
  · exact piece_code X 15 1920 rfl (by decide) inb_S96x3584_S96x128_0_1920 x y (by omega) (by omega)
  · exact piece_code X 14 1792 rfl (by decide) inb_S96x3584_S96x128_0_1792 x y (by omega) (by omega)
  · exact piece_code X 13 1664 rfl (by decide) inb_S96x3584_S96x128_0_1664 x y (by omega) (by omega)
  · exact piece_code X 12 1536 rfl (by decide) inb_S96x3584_S96x128_0_1536 x y (by omega) (by omega)
  · exact piece_code X 11 1408 rfl (by decide) inb_S96x3584_S96x128_0_1408 x y (by omega) (by omega)
  · exact piece_code X 10 1280 rfl (by decide) inb_S96x3584_S96x128_0_1280 x y (by omega) (by omega)
  · exact piece_code X 9 1152 rfl (by decide) inb_S96x3584_S96x128_0_1152 x y (by omega) (by omega)
  · exact piece_code X 8 1024 rfl (by decide) inb_S96x3584_S96x128_0_1024 x y (by omega) (by omega)
  · exact piece_code X 7 896 rfl (by decide) inb_S96x3584_S96x128_0_896 x y (by omega) (by omega)
  · exact piece_code X 6 768 rfl (by decide) inb_S96x3584_S96x128_0_768 x y (by omega) (by omega)
  · exact piece_code X 5 640 rfl (by decide) inb_S96x3584_S96x128_0_640 x y (by omega) (by omega)
  · exact piece_code X 4 512 rfl (by decide) inb_S96x3584_S96x128_0_512 x y (by omega) (by omega)
  · exact piece_code X 3 384 rfl (by decide) inb_S96x3584_S96x128_0_384 x y (by omega) (by omega)
  · exact piece_code X 2 256 rfl (by decide) inb_S96x3584_S96x128_0_256 x y (by omega) (by omega)
  · exact piece_code X 1 128 rfl (by decide) inb_S96x3584_S96x128_0_128 x y (by omega) (by omega)
  · exact piece_code X 0 0 rfl (by decide) inb_S96x3584_S96x128_0_0 x y (by omega) (by omega)

/-- Scales left by a last point at rest. -/
theorem out0_F_10_eq (c : Dev nD) (i : grid0.Coords) (arg4 : Memref sig .tc .vmem S96x3584 .bf16) (harg4 : arg4.IsWhole) (arg5 : Memref sig .tc .vmem S96x8 .i32) (harg5 : arg5.IsWhole) (arg6 : Memref sig .tc .vmem S96x8 .f32) (harg6 : arg6.IsWhole) (arg7 : Memref sig .tc .vmem S1x1792x512 .i8) (harg7 : arg7.IsWhole) (arg8 : Memref sig .tc .vmem S1x1792x512 .i8) (harg8 : arg8.IsWhole) (arg9 : Memref sig .tc .vmem S1x28x512 .bf16) (harg9 : arg9.IsWhole) (arg10 : Memref sig .tc .vmem S1x28x512 .bf16) (harg10 : arg10.IsWhole) (arg11 : Memref sig .tc .vmem S1x256x3584 .i8) (harg11 : arg11.IsWhole) (arg12 : Memref sig .tc .vmem S1x5x4x3584 .bf16) (harg12 : arg12.IsWhole) (arg13 : Memref sig .tc .vmem S96x3584 .fp8e4m3) (harg13 : arg13.IsWhole) (arg14 : Memref sig .tc .vmem S96x28 .f32) (harg14 : arg14.IsWhole) (arg15 : Memref sig .tc .vmem S96x3584 .f32) (harg15 : arg15.IsWhole) (hc0 : ¬cond0_0 i) (hc2 : cond0_2 i)
    (x0 : Vec Ideal S96x3584 .bf16) (x1 : Vec Ideal S96x8 .i32) (x2 : Vec Ideal S96x8 .f32) (x3 : Vec Ideal S1x1792x512 .i8) (x4 : Vec Ideal S1x1792x512 .i8) (x5 : Vec Ideal S1x28x512 .bf16) (x6 : Vec Ideal S1x28x512 .bf16) (x7 : Vec Ideal S1x256x3584 .i8) (x8 : Vec Ideal S1x5x4x3584 .bf16) (xt0 : TbBuf0 (F := Ideal) c tbM0_0) (xt1 : TbBuf0 (F := Ideal) c tbM0_1) (xs0 : Vec Ideal S96x3584 .f32) (hc1 : ¬cond0_1 i (tbM0_1.view.readAt (Elt Ideal) (Rect.unit (s := S1) ![0] S1.size inb_S1_S1_0).toLoadRect xt1 (Shape.Idx.first (numel1_S1.symm ▸ Nat.one_pos)))) : out0_F_10 c i arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xt0 xt1 xs0 hc1 = kscales xs0 := by
  unfold out0_F_10
  frame_open
  try simp (disch := decide) only [↓ View.readCov_skip, ↓ View.readCov_cons_toLoadRect, ↓ View.readCov_fill]
  frame_out
  try simp only [read_unread_whole]
  obtain ⟨X, hX⟩ : ∃ X, X = xs0 := ⟨_, rfl⟩
  rw [← hX]
  clear hX
  funext y
  canon_tiles x h
  · exact piece_scale X 27 3456 rfl (by decide) inb_S96x3584_S96x128_0_3456 x y (by omega) (by omega)
  · exact piece_scale X 26 3328 rfl (by decide) inb_S96x3584_S96x128_0_3328 x y (by omega) (by omega)
  · exact piece_scale X 25 3200 rfl (by decide) inb_S96x3584_S96x128_0_3200 x y (by omega) (by omega)
  · exact piece_scale X 24 3072 rfl (by decide) inb_S96x3584_S96x128_0_3072 x y (by omega) (by omega)
  · exact piece_scale X 23 2944 rfl (by decide) inb_S96x3584_S96x128_0_2944 x y (by omega) (by omega)
  · exact piece_scale X 22 2816 rfl (by decide) inb_S96x3584_S96x128_0_2816 x y (by omega) (by omega)
  · exact piece_scale X 21 2688 rfl (by decide) inb_S96x3584_S96x128_0_2688 x y (by omega) (by omega)
  · exact piece_scale X 20 2560 rfl (by decide) inb_S96x3584_S96x128_0_2560 x y (by omega) (by omega)
  · exact piece_scale X 19 2432 rfl (by decide) inb_S96x3584_S96x128_0_2432 x y (by omega) (by omega)
  · exact piece_scale X 18 2304 rfl (by decide) inb_S96x3584_S96x128_0_2304 x y (by omega) (by omega)
  · exact piece_scale X 17 2176 rfl (by decide) inb_S96x3584_S96x128_0_2176 x y (by omega) (by omega)
  · exact piece_scale X 16 2048 rfl (by decide) inb_S96x3584_S96x128_0_2048 x y (by omega) (by omega)
  · exact piece_scale X 15 1920 rfl (by decide) inb_S96x3584_S96x128_0_1920 x y (by omega) (by omega)
  · exact piece_scale X 14 1792 rfl (by decide) inb_S96x3584_S96x128_0_1792 x y (by omega) (by omega)
  · exact piece_scale X 13 1664 rfl (by decide) inb_S96x3584_S96x128_0_1664 x y (by omega) (by omega)
  · exact piece_scale X 12 1536 rfl (by decide) inb_S96x3584_S96x128_0_1536 x y (by omega) (by omega)
  · exact piece_scale X 11 1408 rfl (by decide) inb_S96x3584_S96x128_0_1408 x y (by omega) (by omega)
  · exact piece_scale X 10 1280 rfl (by decide) inb_S96x3584_S96x128_0_1280 x y (by omega) (by omega)
  · exact piece_scale X 9 1152 rfl (by decide) inb_S96x3584_S96x128_0_1152 x y (by omega) (by omega)
  · exact piece_scale X 8 1024 rfl (by decide) inb_S96x3584_S96x128_0_1024 x y (by omega) (by omega)
  · exact piece_scale X 7 896 rfl (by decide) inb_S96x3584_S96x128_0_896 x y (by omega) (by omega)
  · exact piece_scale X 6 768 rfl (by decide) inb_S96x3584_S96x128_0_768 x y (by omega) (by omega)
  · exact piece_scale X 5 640 rfl (by decide) inb_S96x3584_S96x128_0_640 x y (by omega) (by omega)
  · exact piece_scale X 4 512 rfl (by decide) inb_S96x3584_S96x128_0_512 x y (by omega) (by omega)
  · exact piece_scale X 3 384 rfl (by decide) inb_S96x3584_S96x128_0_384 x y (by omega) (by omega)
  · exact piece_scale X 2 256 rfl (by decide) inb_S96x3584_S96x128_0_256 x y (by omega) (by omega)
  · exact piece_scale X 1 128 rfl (by decide) inb_S96x3584_S96x128_0_128 x y (by omega) (by omega)
  · exact piece_scale X 0 0 rfl (by decide) inb_S96x3584_S96x128_0_0 x y (by omega) (by omega)

end Cert.KernelIdeal.Gen
-- ==== Proof.Tables.lean ====
module

public import proofs.«01_k».proof.Proof.HostKernelIdeal
public import Idealize.ShloMosaic.Lib.Pointwise
public import Idealize.ShloMosaic.Lib.Routing.Ops
public import Idealize.ShloMosaic.Lib.Routing.OpsOrder
public import Idealize.ShloMosaic.Lib.Routing.OpsSet
public import Idealize.ShloMosaic.Lib.SortFacts
public import Idealize.ShloMosaic.Lib.IndicatorCount

/-! The two tables the kernel is launched with: the experts some token names come first, each once, and their number. -/

@[expose] public section
set_option maxRecDepth 16384
noncomputable section

namespace Cert.KernelIdeal.Tables
open Idealize.ShloMosaic Idealize.ShloMosaic.TcCoe
open Cert.KernelIdeal Cert.KernelIdeal.Gen Cert.KernelIdeal.HostVals

/-- Comparing words for equality. -/
theorem IntOp_eq (a b : BitVec 32) : IntOp.cmpi .eq a b = 1#1 ↔ a = b := by
  show BitVec.ofBool (a == b) = 1#1 ↔ a = b
  by_cases h : a = b
  · simp [h]
  · rw [show (a == b) = false from by simpa using h]
    exact ⟨fun h1 => absurd h1 (by decide), fun h1 => absurd h1 h⟩

/-- An expert is present exactly when some slot of some token names it. -/
theorem present_iff (ids : IVec S96x8 32) (e : Fin 21) :
    presentOf ids (ix1 e) = 1#1 ↔ ∃ (t : Fin 96) (k : Fin 8), ids (ix2 t k) = BitVec.ofNat 32 e.val := by
  have h : presentOf ids (ix1 e) = (Finset.univ : Finset (Fin 768)).fold IntOp.ori 0#1
      (fun q => IntOp.cmpi .eq (ids (ix2 ⟨q.val / 8, by omega⟩ ⟨q.val % 8, by omega⟩)) (BitVec.ofNat 32 e.val)) := by
    unfold presentOf
    pointwise
  rw [h, Routing.fold_ori]
  constructor
  · rintro ⟨q, -, hq⟩
    exact ⟨_, _, (IntOp_eq _ _).1 hq⟩
  · rintro ⟨t, k, hk⟩
    refine ⟨⟨t.val * 8 + k.val, by omega⟩, Finset.mem_univ _, (IntOp_eq _ _).2 ?_⟩
    rw [← hk]
    refine congrArg ids (congrArg₂ ix2 (Fin.ext ?_) (Fin.ext ?_))
    · show (t.val * 8 + k.val) / 8 = t.val; omega
    · show (t.val * 8 + k.val) % 8 = k.val; omega

/-- The number of ones. -/
theorem count_eq (p : IVec S21 1) : countOf p ValueIdx.ix0 = BitVec.ofNat 32 ((Finset.univ : Finset (Fin 21)).filter fun e => p (ix1 e) = 1#1).card := by
  rw [← IndicatorCount.fold_addi_setWidth_eq_card]
  unfold countOf
  pointwise

/-- The permutation the sort carries the expert numbers by. -/
def perm (p : IVec S21 1) (k : Fin 21) : Fin 21 :=
  sortedFrom (fun a b => IntOp.cmpi .ult (noti p (ix1 a)) (noti p (ix1 b)) == 1#1) k

/-- The order names each expert once. -/
theorem perm_injective (p : IVec S21 1) : Function.Injective (perm p) := sortedFrom_injective _

/-- The sorted experts, as words. -/
theorem sorted_eq (p : IVec S21 1) (k : Fin 21) :
    (Host.sort2 S21 0 comparator_i1_i32_d0 (noti p) (iotaInDim S21 32 0)).2 (ix1 k) = BitVec.ofNat 32 (perm p k).val := by
  unfold Host.sort2
  rw [dif_pos (Nat.zero_lt_one : 0 < S21.rank)]
  show iotaInDim S21 32 0 _ = _
  have hi : ∀ a : Fin 21, iotaInDim S21 32 0 (Shape.Idx.ofFin a : S21.Idx) = BitVec.ofNat 32 a.val := fun a => rfl
  refine (congrArg (iotaInDim S21 32 0) (Shape.Idx.along_rank1 (n := 21) _ _)).trans ((hi _).trans ?_)
  refine congrArg (fun f => BitVec.ofNat 32 (sortedFrom (n := 21) f k).val) (funext fun a => funext fun b => ?_)
  have ha : ∀ a : Fin 21, Shape.Idx.along (s := S21) (ix1 k) (0 : Fin 1) a = (ix1 a : S21.Idx) := fun a =>
    (Shape.Idx.along_rank1 (n := 21) _ _).trans (Routing.ofFin_eq_ix1 a)
  exact congrArg₂ (fun x y : S21.Idx => IntOp.cmpi .ult (noti p x) (noti p y) == 1#1) (ha a) (ha b)

/-- Present experts come before absent ones. -/
theorem perm_sorted (p : IVec S21 1) (i j : Fin 21) (hij : i < j) (hj : p (ix1 (perm p j)) = 1#1) : p (ix1 (perm p i)) = 1#1 := by
  have key : ∀ a b : BitVec 1, (IntOp.cmpi .ult (~~~a) (~~~b) == 1#1) = (a.getLsbD 0 && !b.getLsbD 0) := by decide
  have h := sortedFrom_noInversion (fun a b : Fin 21 => IntOp.cmpi .ult (noti p (ix1 a)) (noti p (ix1 b)) == 1#1)
    (fun a b : Fin 21 => IntOp.cmpi .ult (noti p (ix1 a)) (noti p (ix1 b)) == 1#1) (fun a b h => ?_) (fun _ _ h => h) (fun a b c h1 h2 => ?_) i j hij
  · change (IntOp.cmpi .ult (~~~(p (ix1 (perm p j)))) (~~~(p (ix1 (perm p i)))) == 1#1) = false at h
    rw [key, hj] at h
    rcases BitVec.eq_zero_or_eq_one (p (ix1 (perm p i))) with hc | hc
    · rw [hc] at h
      exact absurd h (by decide)
    · exact hc
  · change (IntOp.cmpi .ult (~~~(p (ix1 a))) (~~~(p (ix1 b))) == 1#1) = true at h
    change (IntOp.cmpi .ult (~~~(p (ix1 b))) (~~~(p (ix1 a))) == 1#1) = false
    revert h
    generalize p (ix1 a) = u
    generalize p (ix1 b) = v
    revert u v
    decide
  · change (IntOp.cmpi .ult (~~~(p (ix1 a))) (~~~(p (ix1 b))) == 1#1) = false at h1
    change (IntOp.cmpi .ult (~~~(p (ix1 b))) (~~~(p (ix1 c))) == 1#1) = false at h2
    change (IntOp.cmpi .ult (~~~(p (ix1 a))) (~~~(p (ix1 c))) == 1#1) = false
    revert h1 h2
    generalize p (ix1 a) = u
    generalize p (ix1 b) = v
    generalize p (ix1 c) = w
    revert u v w
    decide

/-- How many experts are present. -/
def num (p : IVec S21 1) : ℕ := ((Finset.univ : Finset (Fin 21)).filter fun e => p (ix1 e) = 1#1).card

/-- At most 21 experts are present. -/
theorem num_le (p : IVec S21 1) : num p ≤ 21 := (Finset.card_le_univ _).trans (by simp)

/-- The first `num` places of the order hold the present experts. -/
theorem present_perm (p : IVec S21 1) (j : Fin 21) : p (ix1 (perm p j)) = 1#1 ↔ j.val < num p := by
  have hc : num p = ((Finset.univ : Finset (Fin 21)).filter fun j => p (ix1 (perm p j)) = 1#1).card := by
    unfold num
    refine (Finset.card_bij (fun j _ => perm p j) (fun j hj => ?_) (fun a _ b _ h => perm_injective p h) (fun e he => ?_)).symm
    · simpa using hj
    · obtain ⟨j, rfl⟩ := (Finite.injective_iff_surjective.mp (perm_injective p)) e
      exact ⟨j, by simpa using he, rfl⟩
  constructor
  · intro hj
    have hs : (Finset.univ : Finset (Fin 21)).filter (fun i => i ≤ j) ⊆ (Finset.univ : Finset (Fin 21)).filter fun j => p (ix1 (perm p j)) = 1#1 := by
      intro i hi
      simp only [Finset.mem_filter, Finset.mem_univ, true_and] at hi ⊢
      rcases hi.lt_or_eq with h | h
      · exact perm_sorted p i j h hj
      · rw [h]; exact hj
    have h1 := Finset.card_le_card hs
    rw [← hc] at h1
    have h2 : ((Finset.univ : Finset (Fin 21)).filter (fun i => i ≤ j)).card = j.val + 1 := by
      rw [show (Finset.univ : Finset (Fin 21)).filter (fun i => i ≤ j) = Finset.Iic j by ext; simp, Fin.card_Iic]
    omega
  · intro hj
    by_contra hn
    have hs : ((Finset.univ : Finset (Fin 21)).filter fun j => p (ix1 (perm p j)) = 1#1) ⊆ (Finset.univ : Finset (Fin 21)).filter (fun i => i < j) := by
      intro i hi
      simp only [Finset.mem_filter, Finset.mem_univ, true_and] at hi ⊢
      by_contra hle
      rcases (not_lt.1 hle).lt_or_eq with h | h
      · exact hn (perm_sorted p j i h hi)
      · exact hn (by rw [h]; exact hi)
    have h1 := Finset.card_le_card hs
    rw [← hc] at h1
    have h2 : ((Finset.univ : Finset (Fin 21)).filter (fun i => i < j)).card = j.val := by
      rw [show (Finset.univ : Finset (Fin 21)).filter (fun i => i < j) = Finset.Iio j by ext; simp, Fin.card_Iio]
    omega

/-- A sum over the active places of the order is a sum over all experts, when absent experts count for nothing. -/
theorem sum_perm (p : IVec S21 1) (f : Fin 21 → ℝ) (hf : ∀ e, p (ix1 e) ≠ 1#1 → f e = 0) :
    ∑ j : Fin 21, (if j.val < num p then f (perm p j) else 0) = ∑ e, f e := by
  have h : ∀ j : Fin 21, (if j.val < num p then f (perm p j) else 0) = f (perm p j) := by
    intro j
    split
    · rfl
    · rename_i hj
      exact (hf _ fun h => hj ((present_perm p j).1 h)).symm
  simp only [h]
  exact Function.Bijective.sum_comp ⟨perm_injective p, Finite.injective_iff_surjective.mp (perm_injective p)⟩ f

/-- The order table: the present experts, then the last of them again. -/
theorem order_eq (p : IVec S21 1) (hn : 1 ≤ num p) (j : Fin 21) :
    Host.gather gather_S21_S21x1_S21_n_0_n_n_0_1_1
      (Host.sort2 S21 0 comparator_i1_i32_d0 (noti p) (iotaInDim S21 32 0)).2
      (broadcastInDim S21x1 ![0] bcast_S21_S21x1_0
        (minsi (iotaInDim S21 32 0) (broadcastInDim S21 ![] bcast_S_S21 (subi (countOf p) (constantI S_ 32 1#32))))) (ix1 j)
      = BitVec.ofNat 32 (perm p ⟨min j.val (num p - 1), by omega⟩).val := by
  refine (Routing.gather_take1 _ rfl rfl rfl rfl _ _ j ⟨min j.val (num p - 1), by omega⟩ ?_ (by decide)).trans (sorted_eq p _)
  have hl := num_le p
  have hc : countOf p ValueIdx.ix0 = BitVec.ofNat 32 (num p) := count_eq p
  generalize countOf p = n at hc ⊢
  pointwise
  have hm : ∀ (j : Fin 21) (n : Fin 22), 1 ≤ n.val → IntOp.minsi (BitVec.ofNat 32 j.val) (IntOp.subi (BitVec.ofNat 32 n.val) 1#32)
      = BitVec.ofNat 32 (min j.val (n.val - 1)) := by decide +kernel
  refine Eq.trans ?_ (hm j ⟨num p, by omega⟩ hn)
  exact congrArg₂ IntOp.minsi rfl (congrArg₂ IntOp.subi hc rfl)

end Cert.KernelIdeal.Tables
-- ==== Proof.BlockVal.lean ====
module

public import proofs.«01_k».proof.Proof.KernelQuant
public import proofs.«01_k».proof.Proof.Tables

/-! What the blocks of a grid point hold, in terms of the arrays the program was given. -/

@[expose] public section
set_option maxRecDepth 16384
noncomputable section

namespace Cert.KernelIdeal.Gen
open Idealize.ShloMosaic Idealize.ShloMosaic.TcCoe Idealize.ShloMosaic.Pipeline
open Cert.KernelIdeal Cert.KernelIdeal.Facts₀ Cert.KernelIdeal.HostVals

variable {F : FTy → Type} [FloatOps F] (m : (ℓ : Loc nD τ sig) → Buf (Elt F) ℓ) (hO : Ok m) (c : Dev nD)

/-- The grid's coordinates: the expert slot and the column block. -/
theorem coords_eq : ∀ t : Fin grid0.N, (grid0.coords t 0).val = t.val / 5 ∧ (grid0.coords t 1).val = t.val % 5 := by decide +kernel

/-- The word of the order that a step reads. -/
theorem at_order (pf : pre0.Contents (Elt F)) (i : grid0.Coords) (e : Fin 21) (he : (i 0).val = e.val) :
    pf.at 0 (Rect.unit (s := S21) (k0_off1 i) S1.size (k0_off1_inb i)) numel1_S1 = pf 0 (ix1 e) := by
  have hl : (i 0).val < 21 := (i 0).isLt
  refine congrArg (pf 0) (funext fun a => ?_)
  fin_cases a
  apply Fin.ext
  show (BitVec.ofNat 32 (i 0).val).toNat + 1 * 0 = e.val
  rw [BitVec.toNat_ofNat]; omega

/-- The count that a step reads. -/
theorem at_count (pf : pre0.Contents (Elt F)) (h1 : S1.numel = 1) (hb : ∀ a, (![0] : Fin 1 → Nat) a + S1.size a ≤ S1.size a) :
    pf.at 1 (Rect.unit (s := S1) ![0] S1.size hb) h1 = pf 1 (ix1 0) := by
  refine congrArg (pf 1) (funext fun a => ?_)
  fin_cases a
  rfl

/-- A step is active when its slot lies below the count. -/
theorem slt_ofNat : ∀ a n : Fin 22, Scalar.cmpi .slt (BitVec.ofNat 32 a.val) (BitVec.ofNat 32 n.val) = if a.val < n.val then 1#1 else 0#1 := by
  decide +kernel

/-- What the tables hold, at one grid point that is active: slot `i`, expert `e`, column block `j`, `n` active slots. -/
structure At (pf : pre0.Contents (Elt F)) (g : grid0.Coords) (e : Fin 21) (j : Fin 5) (i : Fin 21) (n : Nat) : Prop where
  slot : (g 0).val = i.val
  blk : (g 1).val = j.val
  order : pf 0 (ix1 i) = BitVec.ofNat 32 e.val
  count : pf 1 (ix1 0) = BitVec.ofNat 32 n
  le : n ≤ 21
  lt : i.val < n

variable {pf : pre0.Contents (Elt F)} {g : grid0.Coords} {e : Fin 21} {j : Fin 5} {i : Fin 21} {n : Nat}

/-- At an active point the column block is the second coordinate. -/
theorem At.pick (h : At pf g e j i n) :
    Scalar.select (Scalar.cmpi .slt (BitVec.ofNat 32 (g 0).val) (pf.at 1 (Rect.unit (s := S1) ![0] S1.size inb_S1_S1_0) numel1_S1)) (BitVec.ofNat 32 (g 1).val) 4#32 = BitVec.ofNat 32 j.val := by
  rw [at_count, h.count, h.slot, h.blk, slt_ofNat ⟨i.val, by have := i.isLt; omega⟩ ⟨n, by have := h.le; omega⟩, if_pos h.lt]
  rfl

/-- Adding zero to a column block, as numbers. -/
theorem add0 : ∀ j : Fin 5, (Scalar.addi 0#32 (BitVec.ofNat 32 j.val)).toNat = j.val := by decide
/-- Adding five to a column block, as numbers. -/
theorem add5 : ∀ j : Fin 5, (Scalar.addi 5#32 (BitVec.ofNat 32 j.val)).toNat = 5 + j.val := by decide
/-- The word of a column block, as a number. -/
theorem nat5 : ∀ j : Fin 5, (BitVec.ofNat 32 j.val).toNat = j.val := by decide
/-- The word of an expert, as a number. -/
theorem nat21 : ∀ j : Fin 21, (BitVec.ofNat 32 j.val).toNat = j.val := by decide

/-- The gate block of the first matrix. -/
theorem At.ix3 (h : At pf g e j i n) : cc0_transform_3 inb_S1_S1_0 numel1_S1 k0_off1_inb pf g = (![e.val, 0, j.val] : Fin 3 → Nat) := by
  funext a
  fin_cases a
  · exact (congrArg BitVec.toNat ((at_order pf g i h.slot).trans h.order)).trans (nat21 e)
  · rfl
  · exact (congrArg (fun w => (Scalar.addi 0#32 w).toNat) h.pick).trans (add0 j)
/-- The up block of the first matrix. -/
theorem At.ix4 (h : At pf g e j i n) : cc0_transform_4 inb_S1_S1_0 numel1_S1 k0_off1_inb pf g = (![e.val, 0, 5 + j.val] : Fin 3 → Nat) := by
  funext a
  fin_cases a
  · exact (congrArg BitVec.toNat ((at_order pf g i h.slot).trans h.order)).trans (nat21 e)
  · rfl
  · exact (congrArg (fun w => (Scalar.addi 5#32 w).toNat) h.pick).trans (add5 j)
/-- The gate block of the first scales. -/
theorem At.ix5 (h : At pf g e j i n) : cc0_transform_5 inb_S1_S1_0 numel1_S1 k0_off1_inb pf g = (![e.val, 0, j.val] : Fin 3 → Nat) := by
  funext a
  fin_cases a
  · exact (congrArg BitVec.toNat ((at_order pf g i h.slot).trans h.order)).trans (nat21 e)
  · rfl
  · exact (congrArg (fun w => (Scalar.addi 0#32 w).toNat) h.pick).trans (add0 j)
/-- The up block of the first scales. -/
theorem At.ix6 (h : At pf g e j i n) : cc0_transform_6 inb_S1_S1_0 numel1_S1 k0_off1_inb pf g = (![e.val, 0, 5 + j.val] : Fin 3 → Nat) := by
  funext a
  fin_cases a
  · exact (congrArg BitVec.toNat ((at_order pf g i h.slot).trans h.order)).trans (nat21 e)
  · rfl
  · exact (congrArg (fun w => (Scalar.addi 5#32 w).toNat) h.pick).trans (add5 j)
/-- The row block of the second matrix. -/
theorem At.ix7 (h : At pf g e j i n) : cc0_transform_7 inb_S1_S1_0 numel1_S1 k0_off1_inb pf g = (![e.val, j.val, 0] : Fin 3 → Nat) := by
  funext a
  fin_cases a
  · exact (congrArg BitVec.toNat ((at_order pf g i h.slot).trans h.order)).trans (nat21 e)
  · exact (congrArg BitVec.toNat h.pick).trans (nat5 j)
  · rfl
/-- The expert's second scales. -/
theorem At.ix8 (h : At pf g e j i n) : cc0_transform_8 inb_S1_S1_0 numel1_S1 k0_off1_inb pf g = (![e.val, 0, 0, 0] : Fin 4 → Nat) := by
  funext a
  fin_cases a
  · exact (congrArg BitVec.toNat ((at_order pf g i h.slot).trans h.order)).trans (nat21 e)
  · rfl
  · rfl
  · rfl

/-- The word a step loads from the order is its slot's entry. -/
theorem ordWord_of (c : Dev nD) (g : grid0.Coords) (x : IVec S21 32) (i : Fin 21) (hi : (g 0).val = i.val) : ordWord (F := F) (c := c) g x = x (ix1 i) := by
  unfold ordWord
  refine congrArg x (funext fun a => ?_)
  fin_cases a
  apply Fin.ext
  show (BitVec.ofNat 32 (g 0).val).toNat + 1 * 0 = i.val
  rw [hi, nat21]; omega

variable {t : Fin (cfgM m hO).N} (h : At (tbl m) (grid0.coords t) e j i n)
include h

/-- At an active point that word is the expert. -/
theorem At.word : ordWord (F := F) (c := c) (grid0.coords t) (tbl m 0) = BitVec.ofNat 32 e.val :=
  (ordWord_of c _ _ i h.slot).trans h.order

omit h in
/-- Window 0 holds its whole array. -/
theorem blk0 (a : Fin 96) (d : Fin 3584) : iblk m hO c 0 t (ix2 a d) = V m c main_v19 (ix2 a d) := by
  have hI : (pcfg0.win (adm m hO) 0).index t = (![0, 0] : Fin 2 → Nat) := by
    funext a; fin_cases a <;> rfl
  unfold iblk
  show V m c main_v19 _ = _
  generalize V m c main_v19 = v
  blk_ext []
  all_goals rw [hI]
  all_goals simp

omit h in
/-- Window 1 holds its whole array. -/
theorem blk1 (a : Fin 96) (d : Fin 8) : iblk m hO c 1 t (ix2 a d) = V m c main_v0 (ix2 a d) := by
  have hI : (pcfg0.win (adm m hO) 1).index t = (![0, 0] : Fin 2 → Nat) := by
    funext a; fin_cases a <;> rfl
  unfold iblk
  show V m c main_v0 _ = _
  generalize V m c main_v0 = v
  blk_ext []
  all_goals rw [hI]
  all_goals simp

omit h in
/-- Window 2 holds its whole array. -/
theorem blk2 (a : Fin 96) (d : Fin 8) : iblk m hO c 2 t (ix2 a d) = V m c main_v20 (ix2 a d) := by
  have hI : (pcfg0.win (adm m hO) 2).index t = (![0, 0] : Fin 2 → Nat) := by
    funext a; fin_cases a <;> rfl
  unfold iblk
  show V m c main_v20 _ = _
  generalize V m c main_v20 = v
  blk_ext []
  all_goals rw [hI]
  all_goals simp

/-- Window 3's block. -/
theorem blk3 (a : Fin 1792) (d : Fin 512) (q : Fin 5120) (hq : q.val = j.val * 512 + d.val) :
    iblk m hO c 3 t (ix3 0 a d) = V m c main_arg1 (ix3 e a q) := by
  have hI : (pcfg0.win (adm m hO) 3).index t = (![e.val, 0, j.val] : Fin 3 → Nat) := At.ix3 h
  unfold iblk
  show V m c main_arg1 _ = _
  generalize V m c main_arg1 = v
  blk_ext []
  all_goals rw [hI]
  all_goals simp <;> omega

/-- Window 4's block. -/
theorem blk4 (a : Fin 1792) (d : Fin 512) (q : Fin 5120) (hq : q.val = (5 + j.val) * 512 + d.val) :
    iblk m hO c 4 t (ix3 0 a d) = V m c main_arg1 (ix3 e a q) := by
  have hI : (pcfg0.win (adm m hO) 4).index t = (![e.val, 0, 5 + j.val] : Fin 3 → Nat) := At.ix4 h
  unfold iblk
  show V m c main_arg1 _ = _
  generalize V m c main_arg1 = v
  blk_ext []
  all_goals rw [hI]
  all_goals simp <;> omega

/-- Window 5's block. -/
theorem blk5 (a : Fin 28) (d : Fin 512) (q : Fin 5120) (hq : q.val = j.val * 512 + d.val) :
    iblk m hO c 5 t (ix3 0 a d) = V m c main_arg2 (ix3 e a q) := by
  have hI : (pcfg0.win (adm m hO) 5).index t = (![e.val, 0, j.val] : Fin 3 → Nat) := At.ix5 h
  unfold iblk
  show V m c main_arg2 _ = _
  generalize V m c main_arg2 = v
  blk_ext []
  all_goals rw [hI]
  all_goals simp <;> omega

/-- Window 6's block. -/
theorem blk6 (a : Fin 28) (d : Fin 512) (q : Fin 5120) (hq : q.val = (5 + j.val) * 512 + d.val) :
    iblk m hO c 6 t (ix3 0 a d) = V m c main_arg2 (ix3 e a q) := by
  have hI : (pcfg0.win (adm m hO) 6).index t = (![e.val, 0, 5 + j.val] : Fin 3 → Nat) := At.ix6 h
  unfold iblk
  show V m c main_arg2 _ = _
  generalize V m c main_arg2 = v
  blk_ext []
  all_goals rw [hI]
  all_goals simp <;> omega

/-- Window 7's block. -/
theorem blk7 (a : Fin 256) (d : Fin 3584) (q : Fin 1280) (hq : q.val = j.val * 256 + a.val) :
    iblk m hO c 7 t (ix3 0 a d) = V m c main_arg3 (ix3 e q d) := by
  have hI : (pcfg0.win (adm m hO) 7).index t = (![e.val, j.val, 0] : Fin 3 → Nat) := At.ix7 h
  unfold iblk
  show V m c main_arg3 _ = _
  generalize V m c main_arg3 = v
  blk_ext []
  all_goals rw [hI]
  all_goals simp <;> omega

/-- Window 8's block. -/
theorem blk8 (r : Fin 5) (a : Fin 4) (d : Fin 3584) : iblk m hO c 8 t (ix4 0 r a d) = V m c main_v17 (ix4 e r a d) := by
  have hI : (pcfg0.win (adm m hO) 8).index t = (![e.val, 0, 0, 0] : Fin 4 → Nat) := At.ix8 h
  unfold iblk
  show V m c main_v17 _ = _
  generalize V m c main_v17 = v
  blk_ext []
  all_goals rw [hI]
  all_goals simp <;> omega

omit h in
/-- The row of the second scales that a step loads. -/
theorem ld_scales (x : Vec F S1x5x4x3584 .bf16) (g : grid0.Coords) (j : Fin 5) (hj : (g 1).val = j.val) (a : Fin 4) (d : Fin 3584) :
    View.ld x (Rect.unit (s := S1x5x4x3584) (k0_off3 g) S1x1x4x3584.size (k0_off3_inb g)) (ix4 0 0 a d) = x (ix4 0 j a d) := by
  refine congrArg x (funext fun b => ?_)
  fin_cases b <;> apply Fin.ext
  · rfl
  · show (BitVec.ofNat 32 (g 1).val).toNat + 1 * 0 = j.val
    rw [hj, nat5]; omega
  · show 0 + 1 * a.val = a.val; omega
  · show 0 + 1 * d.val = d.val; omega

end Cert.KernelIdeal.Gen
-- ==== Proof.HostReferenceIdeal.lean ====
/- What the host operations of the program ReferenceIdeal leave in the buffers the last kernel reads, stretch by stretch:
   each stretch is read over an arbitrary state before it, and the last theorems chain the stretches. -/
module

public import proofs.«01_k».proof.Defs
public import proofs.«01_k».proof.Proof.Gen.ReferenceIdeal.Frame
public import Idealize.ShloMosaic.Lib.StableHlo.RunClose
public import Idealize.ShloMosaic.Lib.StableHlo.RunRead

@[expose] public section

noncomputable section

namespace Cert.ReferenceIdeal.HostVals

open Cert.ReferenceIdeal Cert.ReferenceIdeal.Gen
open Idealize.ShloMosaic Idealize.ShloMosaic.TcCoe Idealize.ShloMosaic.StableHlo

variable {F : FTy → Type} [FloatOps F]

/-- Stretch A of the first host operations. -/
abbrev opsA : List (HloOp τ sig (Elt F)) :=
  ( StableHlo.reshape main_arg5 main_v0 (rfl : (.i32 : EltTy) = .i32) shapeCasts_S96x1x8_S96x8
  :: StableHlo.reshape main_arg6 main_v1 (rfl : (.f32 : EltTy) = .f32) shapeCasts_S96x1x8_S96x8x1
  :: StableHlo.unary main_arg2 main_v2 (broadcastInDim S21x28x64x5120 ![0, 1, 3] bcast_S21x28x5120_S21x28x64x5120_0_1_3 : (⟨S21x28x5120, .bf16⟩ : BufTy).Contents (Elt F) → (⟨S21x28x64x5120, .bf16⟩ : BufTy).Contents (Elt F))
  :: StableHlo.reshape main_v2 main_v3 (rfl : (.bf16 : EltTy) = .bf16) shapeCasts_S21x28x64x5120_S21x1792x5120
  :: StableHlo.unary main_arg1 main_v4 ((extui 32 · natLt_8_32) : (⟨S21x1792x5120, .i8⟩ : BufTy).Contents (Elt F) → (⟨S21x1792x5120, .i32⟩ : BufTy).Contents (Elt F))
  :: StableHlo.nullary main_c (constantI S_ 32 15#32)
  :: StableHlo.unary main_c main_v5 (broadcastInDim S21x1792x5120 ![] bcast_S_S21x1792x5120 : (⟨S_, .i32⟩ : BufTy).Contents (Elt F) → (⟨S21x1792x5120, .i32⟩ : BufTy).Contents (Elt F))
  :: StableHlo.binary main_v4 main_v5 main_v6 (andi : (⟨S21x1792x5120, .i32⟩ : BufTy).Contents (Elt F) → (⟨S21x1792x5120, .i32⟩ : BufTy).Contents (Elt F) → (⟨S21x1792x5120, .i32⟩ : BufTy).Contents (Elt F))
  :: StableHlo.unary main_v6 main_v7 (sitofp .bf16 : (⟨S21x1792x5120, .i32⟩ : BufTy).Contents (Elt F) → (⟨S21x1792x5120, .bf16⟩ : BufTy).Contents (Elt F))
  :: StableHlo.nullary main_cst (constant S_ .bf16 0x4100#16)
  :: StableHlo.unary main_cst main_v8 (broadcastInDim S21x1792x5120 ![] bcast_S_S21x1792x5120 : (⟨S_, .bf16⟩ : BufTy).Contents (Elt F) → (⟨S21x1792x5120, .bf16⟩ : BufTy).Contents (Elt F))
  :: StableHlo.binary main_v7 main_v8 main_v9 (subf : (⟨S21x1792x5120, .bf16⟩ : BufTy).Contents (Elt F) → (⟨S21x1792x5120, .bf16⟩ : BufTy).Contents (Elt F) → (⟨S21x1792x5120, .bf16⟩ : BufTy).Contents (Elt F))
  :: StableHlo.binary main_v9 main_v3 main_v10 (mulf : (⟨S21x1792x5120, .bf16⟩ : BufTy).Contents (Elt F) → (⟨S21x1792x5120, .bf16⟩ : BufTy).Contents (Elt F) → (⟨S21x1792x5120, .bf16⟩ : BufTy).Contents (Elt F))
  :: StableHlo.nullary main_c_0 (constantI S_ 32 4#32)
  :: StableHlo.unary main_c_0 main_v11 (broadcastInDim S21x1792x5120 ![] bcast_S_S21x1792x5120 : (⟨S_, .i32⟩ : BufTy).Contents (Elt F) → (⟨S21x1792x5120, .i32⟩ : BufTy).Contents (Elt F))
  :: StableHlo.binary main_v4 main_v11 main_v12 (Host.shrsi : (⟨S21x1792x5120, .i32⟩ : BufTy).Contents (Elt F) → (⟨S21x1792x5120, .i32⟩ : BufTy).Contents (Elt F) → (⟨S21x1792x5120, .i32⟩ : BufTy).Contents (Elt F))
  :: StableHlo.unary main_v12 main_v13 (sitofp .bf16 : (⟨S21x1792x5120, .i32⟩ : BufTy).Contents (Elt F) → (⟨S21x1792x5120, .bf16⟩ : BufTy).Contents (Elt F))
  :: StableHlo.nullary main_cst_1 (constant S_ .bf16 0x4100#16)
  :: StableHlo.unary main_cst_1 main_v14 (broadcastInDim S21x1792x5120 ![] bcast_S_S21x1792x5120 : (⟨S_, .bf16⟩ : BufTy).Contents (Elt F) → (⟨S21x1792x5120, .bf16⟩ : BufTy).Contents (Elt F))
  :: StableHlo.binary main_v13 main_v14 main_v15 (subf : (⟨S21x1792x5120, .bf16⟩ : BufTy).Contents (Elt F) → (⟨S21x1792x5120, .bf16⟩ : BufTy).Contents (Elt F) → (⟨S21x1792x5120, .bf16⟩ : BufTy).Contents (Elt F))
  :: StableHlo.binary main_v15 main_v3 main_v16 (mulf : (⟨S21x1792x5120, .bf16⟩ : BufTy).Contents (Elt F) → (⟨S21x1792x5120, .bf16⟩ : BufTy).Contents (Elt F) → (⟨S21x1792x5120, .bf16⟩ : BufTy).Contents (Elt F))
  :: [] )

/-- Stretch B of the first host operations. -/
abbrev opsB : List (HloOp τ sig (Elt F)) :=
  ( StableHlo.unary main_arg4 main_v17 (broadcastInDim S21x20x64x3584 ![0, 1, 3] bcast_S21x20x3584_S21x20x64x3584_0_1_3 : (⟨S21x20x3584, .bf16⟩ : BufTy).Contents (Elt F) → (⟨S21x20x64x3584, .bf16⟩ : BufTy).Contents (Elt F))
  :: StableHlo.reshape main_v17 main_v18 (rfl : (.bf16 : EltTy) = .bf16) shapeCasts_S21x20x64x3584_S21x1280x3584
  :: StableHlo.unary main_arg3 main_v19 ((extui 32 · natLt_8_32) : (⟨S21x1280x3584, .i8⟩ : BufTy).Contents (Elt F) → (⟨S21x1280x3584, .i32⟩ : BufTy).Contents (Elt F))
  :: StableHlo.nullary main_c_2 (constantI S_ 32 15#32)
  :: StableHlo.unary main_c_2 main_v20 (broadcastInDim S21x1280x3584 ![] bcast_S_S21x1280x3584 : (⟨S_, .i32⟩ : BufTy).Contents (Elt F) → (⟨S21x1280x3584, .i32⟩ : BufTy).Contents (Elt F))
  :: StableHlo.binary main_v19 main_v20 main_v21 (andi : (⟨S21x1280x3584, .i32⟩ : BufTy).Contents (Elt F) → (⟨S21x1280x3584, .i32⟩ : BufTy).Contents (Elt F) → (⟨S21x1280x3584, .i32⟩ : BufTy).Contents (Elt F))
  :: StableHlo.unary main_v21 main_v22 (sitofp .bf16 : (⟨S21x1280x3584, .i32⟩ : BufTy).Contents (Elt F) → (⟨S21x1280x3584, .bf16⟩ : BufTy).Contents (Elt F))
  :: StableHlo.nullary main_cst_3 (constant S_ .bf16 0x4100#16)
  :: StableHlo.unary main_cst_3 main_v23 (broadcastInDim S21x1280x3584 ![] bcast_S_S21x1280x3584 : (⟨S_, .bf16⟩ : BufTy).Contents (Elt F) → (⟨S21x1280x3584, .bf16⟩ : BufTy).Contents (Elt F))
  :: StableHlo.binary main_v22 main_v23 main_v24 (subf : (⟨S21x1280x3584, .bf16⟩ : BufTy).Contents (Elt F) → (⟨S21x1280x3584, .bf16⟩ : BufTy).Contents (Elt F) → (⟨S21x1280x3584, .bf16⟩ : BufTy).Contents (Elt F))
  :: StableHlo.binary main_v24 main_v18 main_v25 (mulf : (⟨S21x1280x3584, .bf16⟩ : BufTy).Contents (Elt F) → (⟨S21x1280x3584, .bf16⟩ : BufTy).Contents (Elt F) → (⟨S21x1280x3584, .bf16⟩ : BufTy).Contents (Elt F))
  :: StableHlo.nullary main_c_4 (constantI S_ 32 4#32)
  :: StableHlo.unary main_c_4 main_v26 (broadcastInDim S21x1280x3584 ![] bcast_S_S21x1280x3584 : (⟨S_, .i32⟩ : BufTy).Contents (Elt F) → (⟨S21x1280x3584, .i32⟩ : BufTy).Contents (Elt F))
  :: StableHlo.binary main_v19 main_v26 main_v27 (Host.shrsi : (⟨S21x1280x3584, .i32⟩ : BufTy).Contents (Elt F) → (⟨S21x1280x3584, .i32⟩ : BufTy).Contents (Elt F) → (⟨S21x1280x3584, .i32⟩ : BufTy).Contents (Elt F))
  :: StableHlo.unary main_v27 main_v28 (sitofp .bf16 : (⟨S21x1280x3584, .i32⟩ : BufTy).Contents (Elt F) → (⟨S21x1280x3584, .bf16⟩ : BufTy).Contents (Elt F))
  :: StableHlo.nullary main_cst_5 (constant S_ .bf16 0x4100#16)
  :: StableHlo.unary main_cst_5 main_v29 (broadcastInDim S21x1280x3584 ![] bcast_S_S21x1280x3584 : (⟨S_, .bf16⟩ : BufTy).Contents (Elt F) → (⟨S21x1280x3584, .bf16⟩ : BufTy).Contents (Elt F))
  :: StableHlo.binary main_v28 main_v29 main_v30 (subf : (⟨S21x1280x3584, .bf16⟩ : BufTy).Contents (Elt F) → (⟨S21x1280x3584, .bf16⟩ : BufTy).Contents (Elt F) → (⟨S21x1280x3584, .bf16⟩ : BufTy).Contents (Elt F))
  :: StableHlo.binary main_v30 main_v18 main_v31 (mulf : (⟨S21x1280x3584, .bf16⟩ : BufTy).Contents (Elt F) → (⟨S21x1280x3584, .bf16⟩ : BufTy).Contents (Elt F) → (⟨S21x1280x3584, .bf16⟩ : BufTy).Contents (Elt F))
  :: [] )

/-- Stretch C of the first host operations. -/
abbrev opsC : List (HloOp τ sig (Elt F)) :=
  ( StableHlo.reshape main_arg0 main_v32 (rfl : (.bf16 : EltTy) = .bf16) shapeCasts_S96x1x3584_S96x3584
  :: StableHlo.unary main_v32 main_v33 ((Host.slice S96x1792 ![0, 0] ![1, 2] · slicesBy_S96x3584_S96x1792_0s1_0s2) : (⟨S96x3584, .bf16⟩ : BufTy).Contents (Elt F) → (⟨S96x1792, .bf16⟩ : BufTy).Contents (Elt F))
  :: StableHlo.nullary main_c_6 (constantI S_ 32 0#32)
  :: StableHlo.unary main_c_6 main_v34 (broadcastInDim S96x8 ![] bcast_S_S96x8 : (⟨S_, .i32⟩ : BufTy).Contents (Elt F) → (⟨S96x8, .i32⟩ : BufTy).Contents (Elt F))
  :: StableHlo.binary main_v0 main_v34 main_v35 (cmpi .slt : (⟨S96x8, .i32⟩ : BufTy).Contents (Elt F) → (⟨S96x8, .i32⟩ : BufTy).Contents (Elt F) → (⟨S96x8, .i1⟩ : BufTy).Contents (Elt F))
  :: StableHlo.nullary main_c_7 (constantI S_ 32 21#32)
  :: StableHlo.unary main_c_7 main_v36 (broadcastInDim S96x8 ![] bcast_S_S96x8 : (⟨S_, .i32⟩ : BufTy).Contents (Elt F) → (⟨S96x8, .i32⟩ : BufTy).Contents (Elt F))
  :: StableHlo.binary main_v0 main_v36 main_v37 (addi : (⟨S96x8, .i32⟩ : BufTy).Contents (Elt F) → (⟨S96x8, .i32⟩ : BufTy).Contents (Elt F) → (⟨S96x8, .i32⟩ : BufTy).Contents (Elt F))
  :: StableHlo.ternary main_v35 main_v37 main_v0 main_v38 (select : (⟨S96x8, .i1⟩ : BufTy).Contents (Elt F) → (⟨S96x8, .i32⟩ : BufTy).Contents (Elt F) → (⟨S96x8, .i32⟩ : BufTy).Contents (Elt F) → (⟨S96x8, .i32⟩ : BufTy).Contents (Elt F))
  :: StableHlo.unary main_v38 main_v39 (broadcastInDim S96x8x1 ![0, 1] bcast_S96x8_S96x8x1_0_1 : (⟨S96x8, .i32⟩ : BufTy).Contents (Elt F) → (⟨S96x8x1, .i32⟩ : BufTy).Contents (Elt F))
  :: StableHlo.binary main_v10 main_v39 main_v40 ((fun x i => Host.gather gather_S21x1792x5120_S96x8x1_S96x8x1792x5120_23_0_n_n_0_2_117925120 x i) : (⟨S21x1792x5120, .bf16⟩ : BufTy).Contents (Elt F) → (⟨S96x8x1, .i32⟩ : BufTy).Contents (Elt F) → (⟨S96x8x1792x5120, .bf16⟩ : BufTy).Contents (Elt F))
  :: StableHlo.binary main_v33 main_v40 main_v41 ((fun l r => Host.dotGeneral dot_S96x1792_S96x8x1792x5120_S96x8x5120_1_2_n_13_0_0 none l r) : (⟨S96x1792, .bf16⟩ : BufTy).Contents (Elt F) → (⟨S96x8x1792x5120, .bf16⟩ : BufTy).Contents (Elt F) → (⟨S96x8x5120, .f32⟩ : BufTy).Contents (Elt F))
  :: [] )

/-- Stretch D of the first host operations. -/
abbrev opsD : List (HloOp τ sig (Elt F)) :=
  ( StableHlo.unary main_v32 main_v42 ((Host.slice S96x1792 ![0, 1] ![1, 2] · slicesBy_S96x3584_S96x1792_0s1_1s2) : (⟨S96x3584, .bf16⟩ : BufTy).Contents (Elt F) → (⟨S96x1792, .bf16⟩ : BufTy).Contents (Elt F))
  :: StableHlo.nullary main_c_8 (constantI S_ 32 0#32)
  :: StableHlo.unary main_c_8 main_v43 (broadcastInDim S96x8 ![] bcast_S_S96x8 : (⟨S_, .i32⟩ : BufTy).Contents (Elt F) → (⟨S96x8, .i32⟩ : BufTy).Contents (Elt F))
  :: StableHlo.binary main_v0 main_v43 main_v44 (cmpi .slt : (⟨S96x8, .i32⟩ : BufTy).Contents (Elt F) → (⟨S96x8, .i32⟩ : BufTy).Contents (Elt F) → (⟨S96x8, .i1⟩ : BufTy).Contents (Elt F))
  :: StableHlo.nullary main_c_9 (constantI S_ 32 21#32)
  :: StableHlo.unary main_c_9 main_v45 (broadcastInDim S96x8 ![] bcast_S_S96x8 : (⟨S_, .i32⟩ : BufTy).Contents (Elt F) → (⟨S96x8, .i32⟩ : BufTy).Contents (Elt F))
  :: StableHlo.binary main_v0 main_v45 main_v46 (addi : (⟨S96x8, .i32⟩ : BufTy).Contents (Elt F) → (⟨S96x8, .i32⟩ : BufTy).Contents (Elt F) → (⟨S96x8, .i32⟩ : BufTy).Contents (Elt F))
  :: StableHlo.ternary main_v44 main_v46 main_v0 main_v47 (select : (⟨S96x8, .i1⟩ : BufTy).Contents (Elt F) → (⟨S96x8, .i32⟩ : BufTy).Contents (Elt F) → (⟨S96x8, .i32⟩ : BufTy).Contents (Elt F) → (⟨S96x8, .i32⟩ : BufTy).Contents (Elt F))
  :: StableHlo.unary main_v47 main_v48 (broadcastInDim S96x8x1 ![0, 1] bcast_S96x8_S96x8x1_0_1 : (⟨S96x8, .i32⟩ : BufTy).Contents (Elt F) → (⟨S96x8x1, .i32⟩ : BufTy).Contents (Elt F))
  :: StableHlo.binary main_v16 main_v48 main_v49 ((fun x i => Host.gather gather_S21x1792x5120_S96x8x1_S96x8x1792x5120_23_0_n_n_0_2_117925120 x i) : (⟨S21x1792x5120, .bf16⟩ : BufTy).Contents (Elt F) → (⟨S96x8x1, .i32⟩ : BufTy).Contents (Elt F) → (⟨S96x8x1792x5120, .bf16⟩ : BufTy).Contents (Elt F))
  :: StableHlo.binary main_v42 main_v49 main_v50 ((fun l r => Host.dotGeneral dot_S96x1792_S96x8x1792x5120_S96x8x5120_1_2_n_13_0_0 none l r) : (⟨S96x1792, .bf16⟩ : BufTy).Contents (Elt F) → (⟨S96x8x1792x5120, .bf16⟩ : BufTy).Contents (Elt F) → (⟨S96x8x5120, .f32⟩ : BufTy).Contents (Elt F))
  :: StableHlo.binary main_v41 main_v50 main_v51 (addf : (⟨S96x8x5120, .f32⟩ : BufTy).Contents (Elt F) → (⟨S96x8x5120, .f32⟩ : BufTy).Contents (Elt F) → (⟨S96x8x5120, .f32⟩ : BufTy).Contents (Elt F))
  :: [] )

/-- Stretch E of the first host operations. -/
abbrev opsE : List (HloOp τ sig (Elt F)) :=
  ( StableHlo.unary main_v51 main_v52 ((extractStridedSlice S96x8x2560 ![0, 0, 0] · slices_S96x8x5120_S96x8x2560_0_0_0) : (⟨S96x8x5120, .f32⟩ : BufTy).Contents (Elt F) → (⟨S96x8x2560, .f32⟩ : BufTy).Contents (Elt F))
  :: StableHlo.unary main_v51 main_v53 ((extractStridedSlice S96x8x2560 ![0, 0, 2560] · slices_S96x8x5120_S96x8x2560_0_0_2560) : (⟨S96x8x5120, .f32⟩ : BufTy).Contents (Elt F) → (⟨S96x8x2560, .f32⟩ : BufTy).Contents (Elt F))
  :: StableHlo.unary main_v52 main_v54 (Host.negf : (⟨S96x8x2560, .f32⟩ : BufTy).Contents (Elt F) → (⟨S96x8x2560, .f32⟩ : BufTy).Contents (Elt F))
  :: StableHlo.unary main_v54 main_v55 (Host.exp : (⟨S96x8x2560, .f32⟩ : BufTy).Contents (Elt F) → (⟨S96x8x2560, .f32⟩ : BufTy).Contents (Elt F))
  :: StableHlo.nullary main_cst_10 (constant S_ .f32 0x3F800000#32)
  :: StableHlo.unary main_cst_10 main_v56 (broadcastInDim S96x8x2560 ![] bcast_S_S96x8x2560 : (⟨S_, .f32⟩ : BufTy).Contents (Elt F) → (⟨S96x8x2560, .f32⟩ : BufTy).Contents (Elt F))
  :: StableHlo.binary main_v56 main_v55 main_v57 (addf : (⟨S96x8x2560, .f32⟩ : BufTy).Contents (Elt F) → (⟨S96x8x2560, .f32⟩ : BufTy).Contents (Elt F) → (⟨S96x8x2560, .f32⟩ : BufTy).Contents (Elt F))
  :: StableHlo.nullary main_cst_11 (constant S_ .f32 0x3F800000#32)
  :: StableHlo.unary main_cst_11 main_v58 (broadcastInDim S96x8x2560 ![] bcast_S_S96x8x2560 : (⟨S_, .f32⟩ : BufTy).Contents (Elt F) → (⟨S96x8x2560, .f32⟩ : BufTy).Contents (Elt F))
  :: StableHlo.binary main_v58 main_v57 main_v59 (Host.divf : (⟨S96x8x2560, .f32⟩ : BufTy).Contents (Elt F) → (⟨S96x8x2560, .f32⟩ : BufTy).Contents (Elt F) → (⟨S96x8x2560, .f32⟩ : BufTy).Contents (Elt F))
  :: StableHlo.binary main_v52 main_v59 main_v60 (mulf : (⟨S96x8x2560, .f32⟩ : BufTy).Contents (Elt F) → (⟨S96x8x2560, .f32⟩ : BufTy).Contents (Elt F) → (⟨S96x8x2560, .f32⟩ : BufTy).Contents (Elt F))
  :: StableHlo.binary main_v60 main_v53 main_v61 (mulf : (⟨S96x8x2560, .f32⟩ : BufTy).Contents (Elt F) → (⟨S96x8x2560, .f32⟩ : BufTy).Contents (Elt F) → (⟨S96x8x2560, .f32⟩ : BufTy).Contents (Elt F))
  :: StableHlo.unary main_v61 main_v62 ((truncf .bf16 · bitsLt_bf16_f32) : (⟨S96x8x2560, .f32⟩ : BufTy).Contents (Elt F) → (⟨S96x8x2560, .bf16⟩ : BufTy).Contents (Elt F))
  :: [] )

/-- Stretch F of the first host operations. -/
abbrev opsF : List (HloOp τ sig (Elt F)) :=
  ( StableHlo.unary main_v62 main_v63 ((Host.slice S96x8x1280 ![0, 0, 0] ![1, 1, 2] · slicesBy_S96x8x2560_S96x8x1280_0s1_0s1_0s2) : (⟨S96x8x2560, .bf16⟩ : BufTy).Contents (Elt F) → (⟨S96x8x1280, .bf16⟩ : BufTy).Contents (Elt F))
  :: StableHlo.nullary main_c_12 (constantI S_ 32 0#32)
  :: StableHlo.unary main_c_12 main_v64 (broadcastInDim S96x8 ![] bcast_S_S96x8 : (⟨S_, .i32⟩ : BufTy).Contents (Elt F) → (⟨S96x8, .i32⟩ : BufTy).Contents (Elt F))
  :: StableHlo.binary main_v0 main_v64 main_v65 (cmpi .slt : (⟨S96x8, .i32⟩ : BufTy).Contents (Elt F) → (⟨S96x8, .i32⟩ : BufTy).Contents (Elt F) → (⟨S96x8, .i1⟩ : BufTy).Contents (Elt F))
  :: StableHlo.nullary main_c_13 (constantI S_ 32 21#32)
  :: StableHlo.unary main_c_13 main_v66 (broadcastInDim S96x8 ![] bcast_S_S96x8 : (⟨S_, .i32⟩ : BufTy).Contents (Elt F) → (⟨S96x8, .i32⟩ : BufTy).Contents (Elt F))
  :: StableHlo.binary main_v0 main_v66 main_v67 (addi : (⟨S96x8, .i32⟩ : BufTy).Contents (Elt F) → (⟨S96x8, .i32⟩ : BufTy).Contents (Elt F) → (⟨S96x8, .i32⟩ : BufTy).Contents (Elt F))
  :: StableHlo.ternary main_v65 main_v67 main_v0 main_v68 (select : (⟨S96x8, .i1⟩ : BufTy).Contents (Elt F) → (⟨S96x8, .i32⟩ : BufTy).Contents (Elt F) → (⟨S96x8, .i32⟩ : BufTy).Contents (Elt F) → (⟨S96x8, .i32⟩ : BufTy).Contents (Elt F))
  :: StableHlo.unary main_v68 main_v69 (broadcastInDim S96x8x1 ![0, 1] bcast_S96x8_S96x8x1_0_1 : (⟨S96x8, .i32⟩ : BufTy).Contents (Elt F) → (⟨S96x8x1, .i32⟩ : BufTy).Contents (Elt F))
  :: StableHlo.binary main_v25 main_v69 main_v70 ((fun x i => Host.gather gather_S21x1280x3584_S96x8x1_S96x8x1280x3584_23_0_n_n_0_2_112803584 x i) : (⟨S21x1280x3584, .bf16⟩ : BufTy).Contents (Elt F) → (⟨S96x8x1, .i32⟩ : BufTy).Contents (Elt F) → (⟨S96x8x1280x3584, .bf16⟩ : BufTy).Contents (Elt F))
  :: StableHlo.binary main_v63 main_v70 main_v71 ((fun l r => Host.dotGeneral dot_S96x8x1280_S96x8x1280x3584_S96x8x3584_2_2_n_3_01_01 none l r) : (⟨S96x8x1280, .bf16⟩ : BufTy).Contents (Elt F) → (⟨S96x8x1280x3584, .bf16⟩ : BufTy).Contents (Elt F) → (⟨S96x8x3584, .f32⟩ : BufTy).Contents (Elt F))
  :: [] )

/-- Stretch G of the first host operations. -/
abbrev opsG : List (HloOp τ sig (Elt F)) :=
  ( StableHlo.unary main_v62 main_v72 ((Host.slice S96x8x1280 ![0, 0, 1] ![1, 1, 2] · slicesBy_S96x8x2560_S96x8x1280_0s1_0s1_1s2) : (⟨S96x8x2560, .bf16⟩ : BufTy).Contents (Elt F) → (⟨S96x8x1280, .bf16⟩ : BufTy).Contents (Elt F))
  :: StableHlo.nullary main_c_14 (constantI S_ 32 0#32)
  :: StableHlo.unary main_c_14 main_v73 (broadcastInDim S96x8 ![] bcast_S_S96x8 : (⟨S_, .i32⟩ : BufTy).Contents (Elt F) → (⟨S96x8, .i32⟩ : BufTy).Contents (Elt F))
  :: StableHlo.binary main_v0 main_v73 main_v74 (cmpi .slt : (⟨S96x8, .i32⟩ : BufTy).Contents (Elt F) → (⟨S96x8, .i32⟩ : BufTy).Contents (Elt F) → (⟨S96x8, .i1⟩ : BufTy).Contents (Elt F))
  :: StableHlo.nullary main_c_15 (constantI S_ 32 21#32)
  :: StableHlo.unary main_c_15 main_v75 (broadcastInDim S96x8 ![] bcast_S_S96x8 : (⟨S_, .i32⟩ : BufTy).Contents (Elt F) → (⟨S96x8, .i32⟩ : BufTy).Contents (Elt F))
  :: StableHlo.binary main_v0 main_v75 main_v76 (addi : (⟨S96x8, .i32⟩ : BufTy).Contents (Elt F) → (⟨S96x8, .i32⟩ : BufTy).Contents (Elt F) → (⟨S96x8, .i32⟩ : BufTy).Contents (Elt F))
  :: StableHlo.ternary main_v74 main_v76 main_v0 main_v77 (select : (⟨S96x8, .i1⟩ : BufTy).Contents (Elt F) → (⟨S96x8, .i32⟩ : BufTy).Contents (Elt F) → (⟨S96x8, .i32⟩ : BufTy).Contents (Elt F) → (⟨S96x8, .i32⟩ : BufTy).Contents (Elt F))
  :: StableHlo.unary main_v77 main_v78 (broadcastInDim S96x8x1 ![0, 1] bcast_S96x8_S96x8x1_0_1 : (⟨S96x8, .i32⟩ : BufTy).Contents (Elt F) → (⟨S96x8x1, .i32⟩ : BufTy).Contents (Elt F))
  :: StableHlo.binary main_v31 main_v78 main_v79 ((fun x i => Host.gather gather_S21x1280x3584_S96x8x1_S96x8x1280x3584_23_0_n_n_0_2_112803584 x i) : (⟨S21x1280x3584, .bf16⟩ : BufTy).Contents (Elt F) → (⟨S96x8x1, .i32⟩ : BufTy).Contents (Elt F) → (⟨S96x8x1280x3584, .bf16⟩ : BufTy).Contents (Elt F))
  :: StableHlo.binary main_v72 main_v79 main_v80 ((fun l r => Host.dotGeneral dot_S96x8x1280_S96x8x1280x3584_S96x8x3584_2_2_n_3_01_01 none l r) : (⟨S96x8x1280, .bf16⟩ : BufTy).Contents (Elt F) → (⟨S96x8x1280x3584, .bf16⟩ : BufTy).Contents (Elt F) → (⟨S96x8x3584, .f32⟩ : BufTy).Contents (Elt F))
  :: StableHlo.binary main_v71 main_v80 main_v81 (addf : (⟨S96x8x3584, .f32⟩ : BufTy).Contents (Elt F) → (⟨S96x8x3584, .f32⟩ : BufTy).Contents (Elt F) → (⟨S96x8x3584, .f32⟩ : BufTy).Contents (Elt F))
  :: [] )

/-- Stretch H of the first host operations. -/
abbrev opsH : List (HloOp τ sig (Elt F)) :=
  ( StableHlo.unary main_v1 main_v82 (broadcastInDim S96x8x3584 ![0, 1, 2] bcast_S96x8x1_S96x8x3584_0_1_2 : (⟨S96x8x1, .f32⟩ : BufTy).Contents (Elt F) → (⟨S96x8x3584, .f32⟩ : BufTy).Contents (Elt F))
  :: StableHlo.binary main_v82 main_v81 main_v83 (mulf : (⟨S96x8x3584, .f32⟩ : BufTy).Contents (Elt F) → (⟨S96x8x3584, .f32⟩ : BufTy).Contents (Elt F) → (⟨S96x8x3584, .f32⟩ : BufTy).Contents (Elt F))
  :: StableHlo.nullary main_cst_16 (constant S_ .f32 0x00000000#32)
  :: StableHlo.binary main_v83 main_cst_16 main_v84 ((fun x v => Host.reduceAdd x v reducesTo_S96x8x3584_S96x3584_d1 h_S_) : (⟨S96x8x3584, .f32⟩ : BufTy).Contents (Elt F) → (⟨S_, .f32⟩ : BufTy).Contents (Elt F) → (⟨S96x3584, .f32⟩ : BufTy).Contents (Elt F))
  :: StableHlo.reshape main_v84 main_v85 (rfl : (.f32 : EltTy) = .f32) shapeCasts_S96x3584_S96x28x128
  :: [] )

/-- Stretch I of the first host operations. -/
abbrev opsI : List (HloOp τ sig (Elt F)) :=
  ( StableHlo.unary main_v85 main_v86 (Host.absf : (⟨S96x28x128, .f32⟩ : BufTy).Contents (Elt F) → (⟨S96x28x128, .f32⟩ : BufTy).Contents (Elt F))
  :: StableHlo.nullary main_cst_17 (constant S_ .f32 0xFF800000#32)
  :: StableHlo.binary main_v86 main_cst_17 main_v87 ((fun x v => Host.reduce FloatOps.maximumf x v reducesTo_S96x28x128_S96x28_d2 h_S_) : (⟨S96x28x128, .f32⟩ : BufTy).Contents (Elt F) → (⟨S_, .f32⟩ : BufTy).Contents (Elt F) → (⟨S96x28, .f32⟩ : BufTy).Contents (Elt F))
  :: StableHlo.unary main_v87 main_v88 (broadcastInDim S96x28x1 ![0, 1] bcast_S96x28_S96x28x1_0_1 : (⟨S96x28, .f32⟩ : BufTy).Contents (Elt F) → (⟨S96x28x1, .f32⟩ : BufTy).Contents (Elt F))
  :: StableHlo.nullary main_v89 (iotaInDim S247 32 0)
  :: StableHlo.nullary main_c_18 (constantI S_ 32 4294967170#32)
  :: StableHlo.unary main_c_18 main_v90 (broadcastInDim S247 ![] bcast_S_S247 : (⟨S_, .i32⟩ : BufTy).Contents (Elt F) → (⟨S247, .i32⟩ : BufTy).Contents (Elt F))
  :: StableHlo.binary main_v90 main_v89 main_v91 (addi : (⟨S247, .i32⟩ : BufTy).Contents (Elt F) → (⟨S247, .i32⟩ : BufTy).Contents (Elt F) → (⟨S247, .i32⟩ : BufTy).Contents (Elt F))
  :: StableHlo.unary main_v91 main_v92 (sitofp .f32 : (⟨S247, .i32⟩ : BufTy).Contents (Elt F) → (⟨S247, .f32⟩ : BufTy).Contents (Elt F))
  :: StableHlo.nullary main_cst_19 (constant S_ .f32 0x40000000#32)
  :: StableHlo.unary main_cst_19 main_v93 (broadcastInDim S247 ![] bcast_S_S247 : (⟨S_, .f32⟩ : BufTy).Contents (Elt F) → (⟨S247, .f32⟩ : BufTy).Contents (Elt F))
  :: StableHlo.binary main_v93 main_v92 main_v94 (Host.powf : (⟨S247, .f32⟩ : BufTy).Contents (Elt F) → (⟨S247, .f32⟩ : BufTy).Contents (Elt F) → (⟨S247, .f32⟩ : BufTy).Contents (Elt F))
  :: StableHlo.nullary main_cst_20 (constant S_ .f32 0x3B124925#32)
  :: StableHlo.unary main_cst_20 main_v95 (broadcastInDim S96x28x1 ![] bcast_S_S96x28x1 : (⟨S_, .f32⟩ : BufTy).Contents (Elt F) → (⟨S96x28x1, .f32⟩ : BufTy).Contents (Elt F))
  :: StableHlo.binary main_v88 main_v95 main_v96 (mulf : (⟨S96x28x1, .f32⟩ : BufTy).Contents (Elt F) → (⟨S96x28x1, .f32⟩ : BufTy).Contents (Elt F) → (⟨S96x28x1, .f32⟩ : BufTy).Contents (Elt F))
  :: StableHlo.unary main_v94 main_v97 (broadcastInDim S1x1x247 ![2] bcast_S247_S1x1x247_2 : (⟨S247, .f32⟩ : BufTy).Contents (Elt F) → (⟨S1x1x247, .f32⟩ : BufTy).Contents (Elt F))
  :: StableHlo.unary main_v97 main_v98 (broadcastInDim S96x28x247 ![0, 1, 2] bcast_S1x1x247_S96x28x247_0_1_2 : (⟨S1x1x247, .f32⟩ : BufTy).Contents (Elt F) → (⟨S96x28x247, .f32⟩ : BufTy).Contents (Elt F))
  :: StableHlo.unary main_v96 main_v99 (broadcastInDim S96x28x247 ![0, 1, 2] bcast_S96x28x1_S96x28x247_0_1_2 : (⟨S96x28x1, .f32⟩ : BufTy).Contents (Elt F) → (⟨S96x28x247, .f32⟩ : BufTy).Contents (Elt F))
  :: StableHlo.binary main_v98 main_v99 main_v100 (cmpf .ogt : (⟨S96x28x247, .f32⟩ : BufTy).Contents (Elt F) → (⟨S96x28x247, .f32⟩ : BufTy).Contents (Elt F) → (⟨S96x28x247, .i1⟩ : BufTy).Contents (Elt F))
  :: StableHlo.nullary main_cst_21 (constant S_ .f32 0x7B800000#32)
  :: [] )

/-- Buffer v0 in terms of the buffers before its stretch. -/
def f_v0 (arg5 : (IVec S96x1x8 32)) : (IVec S96x8 32) :=
  (shapeCast (s := S96x1x8) S96x8 arg5 shapeCasts_S96x1x8_S96x8)

/-- Buffer v1 in terms of the buffers before its stretch. -/
def f_v1 (arg6 : (FVec Ideal S96x1x8 .f32)) : (FVec Ideal S96x8x1 .f32) :=
  (shapeCast (s := S96x1x8) S96x8x1 arg6 shapeCasts_S96x1x8_S96x8x1)

/-- Buffer v10 in terms of the buffers before its stretch. -/
def f_v10 (arg1 : (IVec S21x1792x5120 8)) (arg2 : (FVec Ideal S21x28x5120 .bf16)) : (FVec Ideal S21x1792x5120 .bf16) :=
  ((mulf : (FVec Ideal S21x1792x5120 .bf16) → (FVec Ideal S21x1792x5120 .bf16) → (FVec Ideal S21x1792x5120 .bf16)) ((subf : (FVec Ideal S21x1792x5120 .bf16) → (FVec Ideal S21x1792x5120 .bf16) → (FVec Ideal S21x1792x5120 .bf16)) ((sitofp .bf16 : (IVec S21x1792x5120 32) → (FVec Ideal S21x1792x5120 .bf16)) ((andi : (IVec S21x1792x5120 32) → (IVec S21x1792x5120 32) → (IVec S21x1792x5120 32)) (((extui 32 · natLt_8_32) : (IVec S21x1792x5120 8) → (IVec S21x1792x5120 32)) arg1) ((broadcastInDim S21x1792x5120 ![] bcast_S_S21x1792x5120 : (IVec S_ 32) → (IVec S21x1792x5120 32)) ((constantI S_ 32 15#32))))) ((broadcastInDim S21x1792x5120 ![] bcast_S_S21x1792x5120 : (FVec Ideal S_ .bf16) → (FVec Ideal S21x1792x5120 .bf16)) ((constant S_ .bf16 0x4100#16)))) (shapeCast (s := S21x28x64x5120) S21x1792x5120 ((broadcastInDim S21x28x64x5120 ![0, 1, 3] bcast_S21x28x5120_S21x28x64x5120_0_1_3 : (FVec Ideal S21x28x5120 .bf16) → (FVec Ideal S21x28x64x5120 .bf16)) arg2) shapeCasts_S21x28x64x5120_S21x1792x5120))

/-- Buffer v16 in terms of the buffers before its stretch. -/
def f_v16 (arg1 : (IVec S21x1792x5120 8)) (arg2 : (FVec Ideal S21x28x5120 .bf16)) : (FVec Ideal S21x1792x5120 .bf16) :=
  ((mulf : (FVec Ideal S21x1792x5120 .bf16) → (FVec Ideal S21x1792x5120 .bf16) → (FVec Ideal S21x1792x5120 .bf16)) ((subf : (FVec Ideal S21x1792x5120 .bf16) → (FVec Ideal S21x1792x5120 .bf16) → (FVec Ideal S21x1792x5120 .bf16)) ((sitofp .bf16 : (IVec S21x1792x5120 32) → (FVec Ideal S21x1792x5120 .bf16)) ((Host.shrsi : (IVec S21x1792x5120 32) → (IVec S21x1792x5120 32) → (IVec S21x1792x5120 32)) (((extui 32 · natLt_8_32) : (IVec S21x1792x5120 8) → (IVec S21x1792x5120 32)) arg1) ((broadcastInDim S21x1792x5120 ![] bcast_S_S21x1792x5120 : (IVec S_ 32) → (IVec S21x1792x5120 32)) ((constantI S_ 32 4#32))))) ((broadcastInDim S21x1792x5120 ![] bcast_S_S21x1792x5120 : (FVec Ideal S_ .bf16) → (FVec Ideal S21x1792x5120 .bf16)) ((constant S_ .bf16 0x4100#16)))) (shapeCast (s := S21x28x64x5120) S21x1792x5120 ((broadcastInDim S21x28x64x5120 ![0, 1, 3] bcast_S21x28x5120_S21x28x64x5120_0_1_3 : (FVec Ideal S21x28x5120 .bf16) → (FVec Ideal S21x28x64x5120 .bf16)) arg2) shapeCasts_S21x28x64x5120_S21x1792x5120))

/-- Buffer v25 in terms of the buffers before its stretch. -/
def f_v25 (arg3 : (IVec S21x1280x3584 8)) (arg4 : (FVec Ideal S21x20x3584 .bf16)) : (FVec Ideal S21x1280x3584 .bf16) :=
  ((mulf : (FVec Ideal S21x1280x3584 .bf16) → (FVec Ideal S21x1280x3584 .bf16) → (FVec Ideal S21x1280x3584 .bf16)) ((subf : (FVec Ideal S21x1280x3584 .bf16) → (FVec Ideal S21x1280x3584 .bf16) → (FVec Ideal S21x1280x3584 .bf16)) ((sitofp .bf16 : (IVec S21x1280x3584 32) → (FVec Ideal S21x1280x3584 .bf16)) ((andi : (IVec S21x1280x3584 32) → (IVec S21x1280x3584 32) → (IVec S21x1280x3584 32)) (((extui 32 · natLt_8_32) : (IVec S21x1280x3584 8) → (IVec S21x1280x3584 32)) arg3) ((broadcastInDim S21x1280x3584 ![] bcast_S_S21x1280x3584 : (IVec S_ 32) → (IVec S21x1280x3584 32)) ((constantI S_ 32 15#32))))) ((broadcastInDim S21x1280x3584 ![] bcast_S_S21x1280x3584 : (FVec Ideal S_ .bf16) → (FVec Ideal S21x1280x3584 .bf16)) ((constant S_ .bf16 0x4100#16)))) (shapeCast (s := S21x20x64x3584) S21x1280x3584 ((broadcastInDim S21x20x64x3584 ![0, 1, 3] bcast_S21x20x3584_S21x20x64x3584_0_1_3 : (FVec Ideal S21x20x3584 .bf16) → (FVec Ideal S21x20x64x3584 .bf16)) arg4) shapeCasts_S21x20x64x3584_S21x1280x3584))

/-- Buffer v31 in terms of the buffers before its stretch. -/
def f_v31 (arg3 : (IVec S21x1280x3584 8)) (arg4 : (FVec Ideal S21x20x3584 .bf16)) : (FVec Ideal S21x1280x3584 .bf16) :=
  ((mulf : (FVec Ideal S21x1280x3584 .bf16) → (FVec Ideal S21x1280x3584 .bf16) → (FVec Ideal S21x1280x3584 .bf16)) ((subf : (FVec Ideal S21x1280x3584 .bf16) → (FVec Ideal S21x1280x3584 .bf16) → (FVec Ideal S21x1280x3584 .bf16)) ((sitofp .bf16 : (IVec S21x1280x3584 32) → (FVec Ideal S21x1280x3584 .bf16)) ((Host.shrsi : (IVec S21x1280x3584 32) → (IVec S21x1280x3584 32) → (IVec S21x1280x3584 32)) (((extui 32 · natLt_8_32) : (IVec S21x1280x3584 8) → (IVec S21x1280x3584 32)) arg3) ((broadcastInDim S21x1280x3584 ![] bcast_S_S21x1280x3584 : (IVec S_ 32) → (IVec S21x1280x3584 32)) ((constantI S_ 32 4#32))))) ((broadcastInDim S21x1280x3584 ![] bcast_S_S21x1280x3584 : (FVec Ideal S_ .bf16) → (FVec Ideal S21x1280x3584 .bf16)) ((constant S_ .bf16 0x4100#16)))) (shapeCast (s := S21x20x64x3584) S21x1280x3584 ((broadcastInDim S21x20x64x3584 ![0, 1, 3] bcast_S21x20x3584_S21x20x64x3584_0_1_3 : (FVec Ideal S21x20x3584 .bf16) → (FVec Ideal S21x20x64x3584 .bf16)) arg4) shapeCasts_S21x20x64x3584_S21x1280x3584))

/-- Buffer v32 in terms of the buffers before its stretch. -/
def f_v32 (arg0 : (FVec Ideal S96x1x3584 .bf16)) : (FVec Ideal S96x3584 .bf16) :=
  (shapeCast (s := S96x1x3584) S96x3584 arg0 shapeCasts_S96x1x3584_S96x3584)

/-- Buffer v41 in terms of the buffers before its stretch. -/
def f_v41 (arg0 : (FVec Ideal S96x1x3584 .bf16)) (v0 : (IVec S96x8 32)) (v10 : (FVec Ideal S21x1792x5120 .bf16)) : (FVec Ideal S96x8x5120 .f32) :=
  (((fun l r => Host.dotGeneral dot_S96x1792_S96x8x1792x5120_S96x8x5120_1_2_n_13_0_0 none l r) : (FVec Ideal S96x1792 .bf16) → (FVec Ideal S96x8x1792x5120 .bf16) → (FVec Ideal S96x8x5120 .f32)) (((Host.slice S96x1792 ![0, 0] ![1, 2] · slicesBy_S96x3584_S96x1792_0s1_0s2) : (FVec Ideal S96x3584 .bf16) → (FVec Ideal S96x1792 .bf16)) (shapeCast (s := S96x1x3584) S96x3584 arg0 shapeCasts_S96x1x3584_S96x3584)) (((fun x i => Host.gather gather_S21x1792x5120_S96x8x1_S96x8x1792x5120_23_0_n_n_0_2_117925120 x i) : (FVec Ideal S21x1792x5120 .bf16) → (IVec S96x8x1 32) → (FVec Ideal S96x8x1792x5120 .bf16)) v10 ((broadcastInDim S96x8x1 ![0, 1] bcast_S96x8_S96x8x1_0_1 : (IVec S96x8 32) → (IVec S96x8x1 32)) ((select : (IVec S96x8 1) → (IVec S96x8 32) → (IVec S96x8 32) → (IVec S96x8 32)) ((cmpi .slt : (IVec S96x8 32) → (IVec S96x8 32) → (IVec S96x8 1)) v0 ((broadcastInDim S96x8 ![] bcast_S_S96x8 : (IVec S_ 32) → (IVec S96x8 32)) ((constantI S_ 32 0#32)))) ((addi : (IVec S96x8 32) → (IVec S96x8 32) → (IVec S96x8 32)) v0 ((broadcastInDim S96x8 ![] bcast_S_S96x8 : (IVec S_ 32) → (IVec S96x8 32)) ((constantI S_ 32 21#32)))) v0))))

/-- Buffer v51 in terms of the buffers before its stretch. -/
def f_v51 (v0 : (IVec S96x8 32)) (v16 : (FVec Ideal S21x1792x5120 .bf16)) (v32 : (FVec Ideal S96x3584 .bf16)) (v41 : (FVec Ideal S96x8x5120 .f32)) : (FVec Ideal S96x8x5120 .f32) :=
  ((addf : (FVec Ideal S96x8x5120 .f32) → (FVec Ideal S96x8x5120 .f32) → (FVec Ideal S96x8x5120 .f32)) v41 (((fun l r => Host.dotGeneral dot_S96x1792_S96x8x1792x5120_S96x8x5120_1_2_n_13_0_0 none l r) : (FVec Ideal S96x1792 .bf16) → (FVec Ideal S96x8x1792x5120 .bf16) → (FVec Ideal S96x8x5120 .f32)) (((Host.slice S96x1792 ![0, 1] ![1, 2] · slicesBy_S96x3584_S96x1792_0s1_1s2) : (FVec Ideal S96x3584 .bf16) → (FVec Ideal S96x1792 .bf16)) v32) (((fun x i => Host.gather gather_S21x1792x5120_S96x8x1_S96x8x1792x5120_23_0_n_n_0_2_117925120 x i) : (FVec Ideal S21x1792x5120 .bf16) → (IVec S96x8x1 32) → (FVec Ideal S96x8x1792x5120 .bf16)) v16 ((broadcastInDim S96x8x1 ![0, 1] bcast_S96x8_S96x8x1_0_1 : (IVec S96x8 32) → (IVec S96x8x1 32)) ((select : (IVec S96x8 1) → (IVec S96x8 32) → (IVec S96x8 32) → (IVec S96x8 32)) ((cmpi .slt : (IVec S96x8 32) → (IVec S96x8 32) → (IVec S96x8 1)) v0 ((broadcastInDim S96x8 ![] bcast_S_S96x8 : (IVec S_ 32) → (IVec S96x8 32)) ((constantI S_ 32 0#32)))) ((addi : (IVec S96x8 32) → (IVec S96x8 32) → (IVec S96x8 32)) v0 ((broadcastInDim S96x8 ![] bcast_S_S96x8 : (IVec S_ 32) → (IVec S96x8 32)) ((constantI S_ 32 21#32)))) v0)))))

/-- Buffer v62 in terms of the buffers before its stretch. -/
def f_v62 (v51 : (FVec Ideal S96x8x5120 .f32)) : (FVec Ideal S96x8x2560 .bf16) :=
  (((truncf .bf16 · bitsLt_bf16_f32) : (FVec Ideal S96x8x2560 .f32) → (FVec Ideal S96x8x2560 .bf16)) ((mulf : (FVec Ideal S96x8x2560 .f32) → (FVec Ideal S96x8x2560 .f32) → (FVec Ideal S96x8x2560 .f32)) ((mulf : (FVec Ideal S96x8x2560 .f32) → (FVec Ideal S96x8x2560 .f32) → (FVec Ideal S96x8x2560 .f32)) (((extractStridedSlice S96x8x2560 ![0, 0, 0] · slices_S96x8x5120_S96x8x2560_0_0_0) : (FVec Ideal S96x8x5120 .f32) → (FVec Ideal S96x8x2560 .f32)) v51) ((Host.divf : (FVec Ideal S96x8x2560 .f32) → (FVec Ideal S96x8x2560 .f32) → (FVec Ideal S96x8x2560 .f32)) ((broadcastInDim S96x8x2560 ![] bcast_S_S96x8x2560 : (FVec Ideal S_ .f32) → (FVec Ideal S96x8x2560 .f32)) ((constant S_ .f32 0x3F800000#32))) ((addf : (FVec Ideal S96x8x2560 .f32) → (FVec Ideal S96x8x2560 .f32) → (FVec Ideal S96x8x2560 .f32)) ((broadcastInDim S96x8x2560 ![] bcast_S_S96x8x2560 : (FVec Ideal S_ .f32) → (FVec Ideal S96x8x2560 .f32)) ((constant S_ .f32 0x3F800000#32))) ((Host.exp : (FVec Ideal S96x8x2560 .f32) → (FVec Ideal S96x8x2560 .f32)) ((Host.negf : (FVec Ideal S96x8x2560 .f32) → (FVec Ideal S96x8x2560 .f32)) (((extractStridedSlice S96x8x2560 ![0, 0, 0] · slices_S96x8x5120_S96x8x2560_0_0_0) : (FVec Ideal S96x8x5120 .f32) → (FVec Ideal S96x8x2560 .f32)) v51)))))) (((extractStridedSlice S96x8x2560 ![0, 0, 2560] · slices_S96x8x5120_S96x8x2560_0_0_2560) : (FVec Ideal S96x8x5120 .f32) → (FVec Ideal S96x8x2560 .f32)) v51)))

/-- Buffer v71 in terms of the buffers before its stretch. -/
def f_v71 (v0 : (IVec S96x8 32)) (v25 : (FVec Ideal S21x1280x3584 .bf16)) (v62 : (FVec Ideal S96x8x2560 .bf16)) : (FVec Ideal S96x8x3584 .f32) :=
  (((fun l r => Host.dotGeneral dot_S96x8x1280_S96x8x1280x3584_S96x8x3584_2_2_n_3_01_01 none l r) : (FVec Ideal S96x8x1280 .bf16) → (FVec Ideal S96x8x1280x3584 .bf16) → (FVec Ideal S96x8x3584 .f32)) (((Host.slice S96x8x1280 ![0, 0, 0] ![1, 1, 2] · slicesBy_S96x8x2560_S96x8x1280_0s1_0s1_0s2) : (FVec Ideal S96x8x2560 .bf16) → (FVec Ideal S96x8x1280 .bf16)) v62) (((fun x i => Host.gather gather_S21x1280x3584_S96x8x1_S96x8x1280x3584_23_0_n_n_0_2_112803584 x i) : (FVec Ideal S21x1280x3584 .bf16) → (IVec S96x8x1 32) → (FVec Ideal S96x8x1280x3584 .bf16)) v25 ((broadcastInDim S96x8x1 ![0, 1] bcast_S96x8_S96x8x1_0_1 : (IVec S96x8 32) → (IVec S96x8x1 32)) ((select : (IVec S96x8 1) → (IVec S96x8 32) → (IVec S96x8 32) → (IVec S96x8 32)) ((cmpi .slt : (IVec S96x8 32) → (IVec S96x8 32) → (IVec S96x8 1)) v0 ((broadcastInDim S96x8 ![] bcast_S_S96x8 : (IVec S_ 32) → (IVec S96x8 32)) ((constantI S_ 32 0#32)))) ((addi : (IVec S96x8 32) → (IVec S96x8 32) → (IVec S96x8 32)) v0 ((broadcastInDim S96x8 ![] bcast_S_S96x8 : (IVec S_ 32) → (IVec S96x8 32)) ((constantI S_ 32 21#32)))) v0))))

/-- Buffer v81 in terms of the buffers before its stretch. -/
def f_v81 (v0 : (IVec S96x8 32)) (v31 : (FVec Ideal S21x1280x3584 .bf16)) (v62 : (FVec Ideal S96x8x2560 .bf16)) (v71 : (FVec Ideal S96x8x3584 .f32)) : (FVec Ideal S96x8x3584 .f32) :=
  ((addf : (FVec Ideal S96x8x3584 .f32) → (FVec Ideal S96x8x3584 .f32) → (FVec Ideal S96x8x3584 .f32)) v71 (((fun l r => Host.dotGeneral dot_S96x8x1280_S96x8x1280x3584_S96x8x3584_2_2_n_3_01_01 none l r) : (FVec Ideal S96x8x1280 .bf16) → (FVec Ideal S96x8x1280x3584 .bf16) → (FVec Ideal S96x8x3584 .f32)) (((Host.slice S96x8x1280 ![0, 0, 1] ![1, 1, 2] · slicesBy_S96x8x2560_S96x8x1280_0s1_0s1_1s2) : (FVec Ideal S96x8x2560 .bf16) → (FVec Ideal S96x8x1280 .bf16)) v62) (((fun x i => Host.gather gather_S21x1280x3584_S96x8x1_S96x8x1280x3584_23_0_n_n_0_2_112803584 x i) : (FVec Ideal S21x1280x3584 .bf16) → (IVec S96x8x1 32) → (FVec Ideal S96x8x1280x3584 .bf16)) v31 ((broadcastInDim S96x8x1 ![0, 1] bcast_S96x8_S96x8x1_0_1 : (IVec S96x8 32) → (IVec S96x8x1 32)) ((select : (IVec S96x8 1) → (IVec S96x8 32) → (IVec S96x8 32) → (IVec S96x8 32)) ((cmpi .slt : (IVec S96x8 32) → (IVec S96x8 32) → (IVec S96x8 1)) v0 ((broadcastInDim S96x8 ![] bcast_S_S96x8 : (IVec S_ 32) → (IVec S96x8 32)) ((constantI S_ 32 0#32)))) ((addi : (IVec S96x8 32) → (IVec S96x8 32) → (IVec S96x8 32)) v0 ((broadcastInDim S96x8 ![] bcast_S_S96x8 : (IVec S_ 32) → (IVec S96x8 32)) ((constantI S_ 32 21#32)))) v0)))))

/-- Buffer v85 in terms of the buffers before its stretch. -/
def f_v85 (v1 : (FVec Ideal S96x8x1 .f32)) (v81 : (FVec Ideal S96x8x3584 .f32)) : (FVec Ideal S96x28x128 .f32) :=
  (shapeCast (s := S96x3584) S96x28x128 (((fun x v => Host.reduceAdd x v reducesTo_S96x8x3584_S96x3584_d1 h_S_) : (FVec Ideal S96x8x3584 .f32) → (FVec Ideal S_ .f32) → (FVec Ideal S96x3584 .f32)) ((mulf : (FVec Ideal S96x8x3584 .f32) → (FVec Ideal S96x8x3584 .f32) → (FVec Ideal S96x8x3584 .f32)) ((broadcastInDim S96x8x3584 ![0, 1, 2] bcast_S96x8x1_S96x8x3584_0_1_2 : (FVec Ideal S96x8x1 .f32) → (FVec Ideal S96x8x3584 .f32)) v1) v81) ((constant S_ .f32 0x00000000#32))) shapeCasts_S96x3584_S96x28x128)

/-- Buffer v88 in terms of the buffers before its stretch. -/
def f_v88 (v85 : (FVec Ideal S96x28x128 .f32)) : (FVec Ideal S96x28x1 .f32) :=
  ((broadcastInDim S96x28x1 ![0, 1] bcast_S96x28_S96x28x1_0_1 : (FVec Ideal S96x28 .f32) → (FVec Ideal S96x28x1 .f32)) (((fun x v => Host.reduce FloatOps.maximumf x v reducesTo_S96x28x128_S96x28_d2 h_S_) : (FVec Ideal S96x28x128 .f32) → (FVec Ideal S_ .f32) → (FVec Ideal S96x28 .f32)) ((Host.absf : (FVec Ideal S96x28x128 .f32) → (FVec Ideal S96x28x128 .f32)) v85) ((constant S_ .f32 0xFF800000#32))))

/-- Buffer v94 in terms of the buffers before its stretch. -/
def f_v94  : (FVec Ideal S247 .f32) :=
  ((Host.powf : (FVec Ideal S247 .f32) → (FVec Ideal S247 .f32) → (FVec Ideal S247 .f32)) ((broadcastInDim S247 ![] bcast_S_S247 : (FVec Ideal S_ .f32) → (FVec Ideal S247 .f32)) ((constant S_ .f32 0x40000000#32))) ((sitofp .f32 : (IVec S247 32) → (FVec Ideal S247 .f32)) ((addi : (IVec S247 32) → (IVec S247 32) → (IVec S247 32)) ((broadcastInDim S247 ![] bcast_S_S247 : (IVec S_ 32) → (IVec S247 32)) ((constantI S_ 32 4294967170#32))) ((iotaInDim S247 32 0)))))

/-- Buffer v100 in terms of the buffers before its stretch. -/
def f_v100 (v85 : (FVec Ideal S96x28x128 .f32)) : (IVec S96x28x247 1) :=
  ((cmpf .ogt : (FVec Ideal S96x28x247 .f32) → (FVec Ideal S96x28x247 .f32) → (IVec S96x28x247 1)) ((broadcastInDim S96x28x247 ![0, 1, 2] bcast_S1x1x247_S96x28x247_0_1_2 : (FVec Ideal S1x1x247 .f32) → (FVec Ideal S96x28x247 .f32)) ((broadcastInDim S1x1x247 ![2] bcast_S247_S1x1x247_2 : (FVec Ideal S247 .f32) → (FVec Ideal S1x1x247 .f32)) ((Host.powf : (FVec Ideal S247 .f32) → (FVec Ideal S247 .f32) → (FVec Ideal S247 .f32)) ((broadcastInDim S247 ![] bcast_S_S247 : (FVec Ideal S_ .f32) → (FVec Ideal S247 .f32)) ((constant S_ .f32 0x40000000#32))) ((sitofp .f32 : (IVec S247 32) → (FVec Ideal S247 .f32)) ((addi : (IVec S247 32) → (IVec S247 32) → (IVec S247 32)) ((broadcastInDim S247 ![] bcast_S_S247 : (IVec S_ 32) → (IVec S247 32)) ((constantI S_ 32 4294967170#32))) ((iotaInDim S247 32 0))))))) ((broadcastInDim S96x28x247 ![0, 1, 2] bcast_S96x28x1_S96x28x247_0_1_2 : (FVec Ideal S96x28x1 .f32) → (FVec Ideal S96x28x247 .f32)) ((mulf : (FVec Ideal S96x28x1 .f32) → (FVec Ideal S96x28x1 .f32) → (FVec Ideal S96x28x1 .f32)) ((broadcastInDim S96x28x1 ![0, 1] bcast_S96x28_S96x28x1_0_1 : (FVec Ideal S96x28 .f32) → (FVec Ideal S96x28x1 .f32)) (((fun x v => Host.reduce FloatOps.maximumf x v reducesTo_S96x28x128_S96x28_d2 h_S_) : (FVec Ideal S96x28x128 .f32) → (FVec Ideal S_ .f32) → (FVec Ideal S96x28 .f32)) ((Host.absf : (FVec Ideal S96x28x128 .f32) → (FVec Ideal S96x28x128 .f32)) v85) ((constant S_ .f32 0xFF800000#32)))) ((broadcastInDim S96x28x1 ![] bcast_S_S96x28x1 : (FVec Ideal S_ .f32) → (FVec Ideal S96x28x1 .f32)) ((constant S_ .f32 0x3B124925#32))))))

/-- Buffer cst_21 in terms of the buffers before its stretch. -/
def f_cst_21  : (FVec Ideal S_ .f32) :=
  ((constant S_ .f32 0x7B800000#32))

/-- Buffer v101 in terms of the buffers before its stretch. -/
def f_v101 (v94 : (FVec Ideal S247 .f32)) (v100 : (IVec S96x28x247 1)) (cst_21 : (FVec Ideal S_ .f32)) : (FVec Ideal S96x28x247 .f32) :=
  ((select : (IVec S96x28x247 1) → (FVec Ideal S96x28x247 .f32) → (FVec Ideal S96x28x247 .f32) → (FVec Ideal S96x28x247 .f32)) v100 (((broadcastInDim S96x28x247 ![2] bcast_S247_S96x28x247_2) : (FVec Ideal S247 .f32) → (FVec Ideal S96x28x247 .f32)) v94) (((broadcastInDim S96x28x247 ![] bcast_S_S96x28x247) : (FVec Ideal S_ .f32) → (FVec Ideal S96x28x247 .f32)) ((id : (FVec Ideal S_ .f32) → (FVec Ideal S_ .f32)) cst_21)))

/-- Buffer v103 in terms of the buffers before its stretch. -/
def f_v103 (v101 : (FVec Ideal S96x28x247 .f32)) : (FVec Ideal S96x28x1 .f32) :=
  ((broadcastInDim S96x28x1 ![0, 1] bcast_S96x28_S96x28x1_0_1 : (FVec Ideal S96x28 .f32) → (FVec Ideal S96x28x1 .f32)) (((fun x v => Host.reduce FloatOps.minimumf x v reducesTo_S96x28x247_S96x28_d2 h_S_) : (FVec Ideal S96x28x247 .f32) → (FVec Ideal S_ .f32) → (FVec Ideal S96x28 .f32)) v101 ((constant S_ .f32 0x7F800000#32))))

/-- Buffer v105 in terms of the buffers before its stretch. -/
def f_v105 (v88 : (FVec Ideal S96x28x1 .f32)) : (IVec S96x28x1 1) :=
  ((cmpf .oeq : (FVec Ideal S96x28x1 .f32) → (FVec Ideal S96x28x1 .f32) → (IVec S96x28x1 1)) v88 ((broadcastInDim S96x28x1 ![] bcast_S_S96x28x1 : (FVec Ideal S_ .f32) → (FVec Ideal S96x28x1 .f32)) ((constant S_ .f32 0x00000000#32))))

/-- Buffer cst_24 in terms of the buffers before its stretch. -/
def f_cst_24  : (FVec Ideal S_ .f32) :=
  ((constant S_ .f32 0x3F800000#32))

/-- Buffer v106 in terms of the buffers before its stretch. -/
def f_v106 (v103 : (FVec Ideal S96x28x1 .f32)) (v105 : (IVec S96x28x1 1)) (cst_24 : (FVec Ideal S_ .f32)) : (FVec Ideal S96x28x1 .f32) :=
  ((select : (IVec S96x28x1 1) → (FVec Ideal S96x28x1 .f32) → (FVec Ideal S96x28x1 .f32) → (FVec Ideal S96x28x1 .f32)) v105 (((broadcastInDim S96x28x1 ![] bcast_S_S96x28x1) : (FVec Ideal S_ .f32) → (FVec Ideal S96x28x1 .f32)) ((id : (FVec Ideal S_ .f32) → (FVec Ideal S_ .f32)) cst_24)) v103)

/-- Buffer v108 in terms of the buffers before its stretch. -/
def f_v108 (v85 : (FVec Ideal S96x28x128 .f32)) (v106 : (FVec Ideal S96x28x1 .f32)) : (FVec Ideal S96x28x128 .f32) :=
  ((Host.divf : (FVec Ideal S96x28x128 .f32) → (FVec Ideal S96x28x128 .f32) → (FVec Ideal S96x28x128 .f32)) v85 ((broadcastInDim S96x28x128 ![0, 1, 2] bcast_S96x28x1_S96x28x128_0_1_2 : (FVec Ideal S96x28x1 .f32) → (FVec Ideal S96x28x128 .f32)) v106))

/-- Buffer cst_25 in terms of the buffers before its stretch. -/
def f_cst_25  : (FVec Ideal S_ .f32) :=
  ((constant S_ .f32 0xC3E00000#32))

/-- Buffer cst_26 in terms of the buffers before its stretch. -/
def f_cst_26  : (FVec Ideal S_ .f32) :=
  ((constant S_ .f32 0x43E00000#32))

/-- Buffer v109 in terms of the buffers before its stretch. -/
def f_v109 (v108 : (FVec Ideal S96x28x128 .f32)) (cst_25 : (FVec Ideal S_ .f32)) (cst_26 : (FVec Ideal S_ .f32)) : (FVec Ideal S96x28x128 .f32) :=
  ((minimumf : (FVec Ideal S96x28x128 .f32) → (FVec Ideal S96x28x128 .f32) → (FVec Ideal S96x28x128 .f32)) (((broadcastInDim S96x28x128 ![] bcast_S_S96x28x128) : (FVec Ideal S_ .f32) → (FVec Ideal S96x28x128 .f32)) ((id : (FVec Ideal S_ .f32) → (FVec Ideal S_ .f32)) cst_26)) ((maximumf : (FVec Ideal S96x28x128 .f32) → (FVec Ideal S96x28x128 .f32) → (FVec Ideal S96x28x128 .f32)) (((broadcastInDim S96x28x128 ![] bcast_S_S96x28x128) : (FVec Ideal S_ .f32) → (FVec Ideal S96x28x128 .f32)) ((id : (FVec Ideal S_ .f32) → (FVec Ideal S_ .f32)) cst_25)) v108))

/-- Buffer v110 in terms of the buffers before its stretch. -/
def f_v110 (v109 : (FVec Ideal S96x28x128 .f32)) : (FVec Ideal S96x3584 .f32) :=
  (shapeCast (s := S96x28x128) S96x3584 v109 shapeCasts_S96x28x128_S96x3584)

/-- Buffer v111 in terms of the buffers before its stretch. -/
def f_v111 (v106 : (FVec Ideal S96x28x1 .f32)) : (FVec Ideal S96x28 .f32) :=
  (shapeCast (s := S96x28x1) S96x28 v106 shapeCasts_S96x28x1_S96x28)

variable (W : Valuation τ sig (Elt Ideal))

/-- Buffer v0 after its stretch. -/
theorem s_v0 : after opsA W main_v0 = f_v0 (W main_arg5) := by
  unfold opsA; after_results_simp; rfl

/-- Buffer v1 after its stretch. -/
theorem s_v1 : after opsA W main_v1 = f_v1 (W main_arg6) := by
  unfold opsA; after_results_simp; rfl

/-- Buffer v10 after its stretch. -/
theorem s_v10 : after opsA W main_v10 = f_v10 (W main_arg1) (W main_arg2) := by
  unfold opsA; after_results_simp; rfl

/-- Buffer v16 after its stretch. -/
theorem s_v16 : after opsA W main_v16 = f_v16 (W main_arg1) (W main_arg2) := by
  unfold opsA; after_results_simp; rfl

/-- Buffer v25 after its stretch. -/
theorem s_v25 : after opsB W main_v25 = f_v25 (W main_arg3) (W main_arg4) := by
  unfold opsB; after_results_simp; rfl

/-- Buffer v31 after its stretch. -/
theorem s_v31 : after opsB W main_v31 = f_v31 (W main_arg3) (W main_arg4) := by
  unfold opsB; after_results_simp; rfl

/-- Buffer v32 after its stretch. -/
theorem s_v32 : after opsC W main_v32 = f_v32 (W main_arg0) := by
  unfold opsC; after_results_simp; rfl

/-- Buffer v41 after its stretch. -/
theorem s_v41 : after opsC W main_v41 = f_v41 (W main_arg0) (W main_v0) (W main_v10) := by
  unfold opsC; after_results_simp; rfl

/-- Buffer v51 after its stretch. -/
theorem s_v51 : after opsD W main_v51 = f_v51 (W main_v0) (W main_v16) (W main_v32) (W main_v41) := by
  unfold opsD; after_results_simp; rfl

/-- Buffer v62 after its stretch. -/
theorem s_v62 : after opsE W main_v62 = f_v62 (W main_v51) := by
  unfold opsE; after_results_simp; rfl

/-- Buffer v71 after its stretch. -/
theorem s_v71 : after opsF W main_v71 = f_v71 (W main_v0) (W main_v25) (W main_v62) := by
  unfold opsF; after_results_simp; rfl

/-- Buffer v81 after its stretch. -/
theorem s_v81 : after opsG W main_v81 = f_v81 (W main_v0) (W main_v31) (W main_v62) (W main_v71) := by
  unfold opsG; after_results_simp; rfl

/-- Buffer v85 after its stretch. -/
theorem s_v85 : after opsH W main_v85 = f_v85 (W main_v1) (W main_v81) := by
  unfold opsH; after_results_simp; rfl

/-- Buffer v88 after its stretch. -/
theorem s_v88 : after opsI W main_v88 = f_v88 (W main_v85) := by
  unfold opsI; after_results_simp; rfl

/-- Buffer v94 after its stretch. -/
theorem s_v94 : after opsI W main_v94 = f_v94  := by
  unfold opsI; after_results_simp; rfl

/-- Buffer v100 after its stretch. -/
theorem s_v100 : after opsI W main_v100 = f_v100 (W main_v85) := by
  unfold opsI; after_results_simp; rfl

/-- Buffer cst_21 after its stretch. -/
theorem s_cst_21 : after opsI W main_cst_21 = f_cst_21  := by
  unfold opsI; after_results_simp; rfl

/-- Buffer v101 after its stretch. -/
theorem s_v101 : after hostOps0_1 W main_v101 = f_v101 (W main_v94) (W main_v100) (W main_cst_21) := by
  unfold hostOps0_1; after_results_simp; rfl

/-- Buffer v103 after its stretch. -/
theorem s_v103 : after hostOps0_2 W main_v103 = f_v103 (W main_v101) := by
  unfold hostOps0_2; after_results_simp; rfl

/-- Buffer v105 after its stretch. -/
theorem s_v105 : after hostOps0_2 W main_v105 = f_v105 (W main_v88) := by
  unfold hostOps0_2; after_results_simp; rfl

/-- Buffer cst_24 after its stretch. -/
theorem s_cst_24 : after hostOps0_2 W main_cst_24 = f_cst_24  := by
  unfold hostOps0_2; after_results_simp; rfl

/-- Buffer v106 after its stretch. -/
theorem s_v106 : after hostOps0_3 W main_v106 = f_v106 (W main_v103) (W main_v105) (W main_cst_24) := by
  unfold hostOps0_3; after_results_simp; rfl

/-- Buffer v108 after its stretch. -/
theorem s_v108 : after hostOps0_4 W main_v108 = f_v108 (W main_v85) (W main_v106) := by
  unfold hostOps0_4; after_results_simp; rfl

/-- Buffer cst_25 after its stretch. -/
theorem s_cst_25 : after hostOps0_4 W main_cst_25 = f_cst_25  := by
  unfold hostOps0_4; after_results_simp; rfl

/-- Buffer cst_26 after its stretch. -/
theorem s_cst_26 : after hostOps0_4 W main_cst_26 = f_cst_26  := by
  unfold hostOps0_4; after_results_simp; rfl

/-- Buffer v109 after its stretch. -/
theorem s_v109 : after hostOps0_5 W main_v109 = f_v109 (W main_v108) (W main_cst_25) (W main_cst_26) := by
  unfold hostOps0_5; after_results_simp; rfl

/-- Buffer v110 after its stretch. -/
theorem s_v110 : after hostOps0_6 W main_v110 = f_v110 (W main_v109) := by
  unfold hostOps0_6; after_results_simp; rfl

/-- Buffer v111 after its stretch. -/
theorem s_v111 : after hostOps0_6 W main_v111 = f_v111 (W main_v106) := by
  unfold hostOps0_6; after_results_simp; rfl

/-- What stretch opsA leaves alone. -/
theorem rest_0 : after opsA W main_arg0 = W main_arg0 ∧ after opsA W main_arg3 = W main_arg3 ∧ after opsA W main_arg4 = W main_arg4 := by
  unfold opsA; refine ⟨?_, ?_, ?_⟩ <;> after_results_simp

/-- What stretch opsB leaves alone. -/
theorem rest_1 : after opsB W main_arg0 = W main_arg0 ∧ after opsB W main_v0 = W main_v0 ∧ after opsB W main_v1 = W main_v1 ∧ after opsB W main_v10 = W main_v10 ∧ after opsB W main_v16 = W main_v16 := by
  unfold opsB; refine ⟨?_, ?_, ?_, ?_, ?_⟩ <;> after_results_simp

/-- What stretch opsC leaves alone. -/
theorem rest_2 : after opsC W main_v0 = W main_v0 ∧ after opsC W main_v1 = W main_v1 ∧ after opsC W main_v16 = W main_v16 ∧ after opsC W main_v25 = W main_v25 ∧ after opsC W main_v31 = W main_v31 := by
  unfold opsC; refine ⟨?_, ?_, ?_, ?_, ?_⟩ <;> after_results_simp

/-- What stretch opsD leaves alone. -/
theorem rest_3 : after opsD W main_v0 = W main_v0 ∧ after opsD W main_v1 = W main_v1 ∧ after opsD W main_v25 = W main_v25 ∧ after opsD W main_v31 = W main_v31 := by
  unfold opsD; refine ⟨?_, ?_, ?_, ?_⟩ <;> after_results_simp

/-- What stretch opsE leaves alone. -/
theorem rest_4 : after opsE W main_v0 = W main_v0 ∧ after opsE W main_v1 = W main_v1 ∧ after opsE W main_v25 = W main_v25 ∧ after opsE W main_v31 = W main_v31 := by
  unfold opsE; refine ⟨?_, ?_, ?_, ?_⟩ <;> after_results_simp

/-- What stretch opsF leaves alone. -/
theorem rest_5 : after opsF W main_v0 = W main_v0 ∧ after opsF W main_v1 = W main_v1 ∧ after opsF W main_v31 = W main_v31 ∧ after opsF W main_v62 = W main_v62 := by
  unfold opsF; refine ⟨?_, ?_, ?_, ?_⟩ <;> after_results_simp

/-- What stretch opsG leaves alone. -/
theorem rest_6 : after opsG W main_v1 = W main_v1 := by
  unfold opsG; after_results_simp

/-- What stretch opsI leaves alone. -/
theorem rest_8 : after opsI W main_v85 = W main_v85 := by
  unfold opsI; after_results_simp

/-- What stretch hostOps0_1 leaves alone. -/
theorem rest_9 : after hostOps0_1 W main_v85 = W main_v85 ∧ after hostOps0_1 W main_v88 = W main_v88 := by
  unfold hostOps0_1; refine ⟨?_, ?_⟩ <;> after_results_simp

/-- What stretch hostOps0_2 leaves alone. -/
theorem rest_10 : after hostOps0_2 W main_v85 = W main_v85 := by
  unfold hostOps0_2; after_results_simp

/-- What stretch hostOps0_3 leaves alone. -/
theorem rest_11 : after hostOps0_3 W main_v85 = W main_v85 := by
  unfold hostOps0_3; after_results_simp

/-- What stretch hostOps0_4 leaves alone. -/
theorem rest_12 : after hostOps0_4 W main_v106 = W main_v106 := by
  unfold hostOps0_4; after_results_simp

/-- What stretch hostOps0_5 leaves alone. -/
theorem rest_13 : after hostOps0_5 W main_v106 = W main_v106 := by
  unfold hostOps0_5; after_results_simp

variable (m : (ℓ : Loc nD τ sig) → Buf (Elt Ideal) ℓ) (c : Dev nD)

/-- The state after stretch 0. -/
abbrev st0 : Valuation τ sig (Elt Ideal) := after opsA (fun b => m (c, b))

/-- The state after stretch 1. -/
abbrev st1 : Valuation τ sig (Elt Ideal) := after opsB (st0 m c)

/-- The state after stretch 2. -/
abbrev st2 : Valuation τ sig (Elt Ideal) := after opsC (st1 m c)

/-- The state after stretch 3. -/
abbrev st3 : Valuation τ sig (Elt Ideal) := after opsD (st2 m c)

/-- The state after stretch 4. -/
abbrev st4 : Valuation τ sig (Elt Ideal) := after opsE (st3 m c)

/-- The state after stretch 5. -/
abbrev st5 : Valuation τ sig (Elt Ideal) := after opsF (st4 m c)

/-- The state after stretch 6. -/
abbrev st6 : Valuation τ sig (Elt Ideal) := after opsG (st5 m c)

/-- The state after stretch 7. -/
abbrev st7 : Valuation τ sig (Elt Ideal) := after opsH (st6 m c)

/-- The state after stretch 8. -/
abbrev st8 : Valuation τ sig (Elt Ideal) := after opsI (st7 m c)

/-- The state after stretch 9. -/
abbrev st9 : Valuation τ sig (Elt Ideal) := after hostOps0_1 (st8 m c)

/-- The state after stretch 10. -/
abbrev st10 : Valuation τ sig (Elt Ideal) := after hostOps0_2 (st9 m c)

/-- The state after stretch 11. -/
abbrev st11 : Valuation τ sig (Elt Ideal) := after hostOps0_3 (st10 m c)

/-- The state after stretch 12. -/
abbrev st12 : Valuation τ sig (Elt Ideal) := after hostOps0_4 (st11 m c)

/-- The state after stretch 13. -/
abbrev st13 : Valuation τ sig (Elt Ideal) := after hostOps0_5 (st12 m c)

/-- The state after stretch 14. -/
abbrev st14 : Valuation τ sig (Elt Ideal) := after hostOps0_6 (st13 m c)

/-- The first host operations are their stretches. -/
theorem ops_split : (hostOps0 : List (HloOp τ sig (Elt Ideal))) = opsA ++ (opsB ++ (opsC ++ (opsD ++ (opsE ++ (opsF ++ (opsG ++ (opsH ++ (opsI)))))))) := rfl

/-- The state before the last kernel is the stretches, one after the other. -/
theorem V_eq (b : Ref sig .tc) : V m c b = st14 m c b := by
  unfold V
  rw [ops_split]
  simp only [List.flatten_cons, List.flatten_nil, List.append_nil, after_append]

/-- Buffer v0 of a launch memory. -/
def x_v0 : (IVec S96x8 32) := f_v0 (m ((c.tc : Thread nD τ).loc main_arg5))

/-- Buffer v1 of a launch memory. -/
def x_v1 : (FVec Ideal S96x8x1 .f32) := f_v1 (m ((c.tc : Thread nD τ).loc main_arg6))

/-- Buffer v10 of a launch memory. -/
def x_v10 : (FVec Ideal S21x1792x5120 .bf16) := f_v10 (m ((c.tc : Thread nD τ).loc main_arg1)) (m ((c.tc : Thread nD τ).loc main_arg2))

/-- Buffer v16 of a launch memory. -/
def x_v16 : (FVec Ideal S21x1792x5120 .bf16) := f_v16 (m ((c.tc : Thread nD τ).loc main_arg1)) (m ((c.tc : Thread nD τ).loc main_arg2))

/-- Buffer v25 of a launch memory. -/
def x_v25 : (FVec Ideal S21x1280x3584 .bf16) := f_v25 (m ((c.tc : Thread nD τ).loc main_arg3)) (m ((c.tc : Thread nD τ).loc main_arg4))

/-- Buffer v31 of a launch memory. -/
def x_v31 : (FVec Ideal S21x1280x3584 .bf16) := f_v31 (m ((c.tc : Thread nD τ).loc main_arg3)) (m ((c.tc : Thread nD τ).loc main_arg4))

/-- Buffer v32 of a launch memory. -/
def x_v32 : (FVec Ideal S96x3584 .bf16) := f_v32 (m ((c.tc : Thread nD τ).loc main_arg0))

/-- Buffer v41 of a launch memory. -/
def x_v41 : (FVec Ideal S96x8x5120 .f32) := f_v41 (m ((c.tc : Thread nD τ).loc main_arg0)) (x_v0 m c) (x_v10 m c)

/-- Buffer v51 of a launch memory. -/
def x_v51 : (FVec Ideal S96x8x5120 .f32) := f_v51 (x_v0 m c) (x_v16 m c) (x_v32 m c) (x_v41 m c)

/-- Buffer v62 of a launch memory. -/
def x_v62 : (FVec Ideal S96x8x2560 .bf16) := f_v62 (x_v51 m c)

/-- Buffer v71 of a launch memory. -/
def x_v71 : (FVec Ideal S96x8x3584 .f32) := f_v71 (x_v0 m c) (x_v25 m c) (x_v62 m c)

/-- Buffer v81 of a launch memory. -/
def x_v81 : (FVec Ideal S96x8x3584 .f32) := f_v81 (x_v0 m c) (x_v31 m c) (x_v62 m c) (x_v71 m c)

/-- Buffer v85 of a launch memory. -/
def x_v85 : (FVec Ideal S96x28x128 .f32) := f_v85 (x_v1 m c) (x_v81 m c)

/-- Buffer v88 of a launch memory. -/
def x_v88 : (FVec Ideal S96x28x1 .f32) := f_v88 (x_v85 m c)

/-- Buffer v94 of a launch memory. -/
def x_v94 : (FVec Ideal S247 .f32) := f_v94

/-- Buffer v100 of a launch memory. -/
def x_v100 : (IVec S96x28x247 1) := f_v100 (x_v85 m c)

/-- Buffer cst_21 of a launch memory. -/
def x_cst_21 : (FVec Ideal S_ .f32) := f_cst_21

/-- Buffer v101 of a launch memory. -/
def x_v101 : (FVec Ideal S96x28x247 .f32) := f_v101 (x_v94) (x_v100 m c) (x_cst_21)

/-- Buffer v103 of a launch memory. -/
def x_v103 : (FVec Ideal S96x28x1 .f32) := f_v103 (x_v101 m c)

/-- Buffer v105 of a launch memory. -/
def x_v105 : (IVec S96x28x1 1) := f_v105 (x_v88 m c)

/-- Buffer cst_24 of a launch memory. -/
def x_cst_24 : (FVec Ideal S_ .f32) := f_cst_24

/-- Buffer v106 of a launch memory. -/
def x_v106 : (FVec Ideal S96x28x1 .f32) := f_v106 (x_v103 m c) (x_v105 m c) (x_cst_24)

/-- Buffer v108 of a launch memory. -/
def x_v108 : (FVec Ideal S96x28x128 .f32) := f_v108 (x_v85 m c) (x_v106 m c)

/-- Buffer cst_25 of a launch memory. -/
def x_cst_25 : (FVec Ideal S_ .f32) := f_cst_25

/-- Buffer cst_26 of a launch memory. -/
def x_cst_26 : (FVec Ideal S_ .f32) := f_cst_26

/-- Buffer v109 of a launch memory. -/
def x_v109 : (FVec Ideal S96x28x128 .f32) := f_v109 (x_v108 m c) (x_cst_25) (x_cst_26)

/-- Buffer v110 of a launch memory. -/
def x_v110 : (FVec Ideal S96x3584 .f32) := f_v110 (x_v109 m c)

/-- Buffer v111 of a launch memory. -/
def x_v111 : (FVec Ideal S96x28 .f32) := f_v111 (x_v106 m c)

/-- Buffer v0 right after its stretch. -/
theorem v_v0 : st0 m c main_v0 = x_v0 m c := by
  unfold x_v0
  refine (s_v0 _).trans ?_
  have h0 : m (c, main_arg5) = m ((c.tc : Thread nD τ).loc main_arg5) := by
    exact rfl
  rfl

/-- Buffer v1 right after its stretch. -/
theorem v_v1 : st0 m c main_v1 = x_v1 m c := by
  unfold x_v1
  refine (s_v1 _).trans ?_
  have h0 : m (c, main_arg6) = m ((c.tc : Thread nD τ).loc main_arg6) := by
    exact rfl
  rfl

/-- Buffer v10 right after its stretch. -/
theorem v_v10 : st0 m c main_v10 = x_v10 m c := by
  unfold x_v10
  refine (s_v10 _).trans ?_
  have h0 : m (c, main_arg1) = m ((c.tc : Thread nD τ).loc main_arg1) := by
    exact rfl
  have h1 : m (c, main_arg2) = m ((c.tc : Thread nD τ).loc main_arg2) := by
    exact rfl
  rfl

/-- Buffer v16 right after its stretch. -/
theorem v_v16 : st0 m c main_v16 = x_v16 m c := by
  unfold x_v16
  refine (s_v16 _).trans ?_
  have h0 : m (c, main_arg1) = m ((c.tc : Thread nD τ).loc main_arg1) := by
    exact rfl
  have h1 : m (c, main_arg2) = m ((c.tc : Thread nD τ).loc main_arg2) := by
    exact rfl
  rfl

/-- Buffer v25 right after its stretch. -/
theorem v_v25 : st1 m c main_v25 = x_v25 m c := by
  unfold x_v25
  refine (s_v25 _).trans ?_
  have h0 : st0 m c main_arg3 = m ((c.tc : Thread nD τ).loc main_arg3) := by
    exact ((rest_0 _).2.1).trans <| rfl
  have h1 : st0 m c main_arg4 = m ((c.tc : Thread nD τ).loc main_arg4) := by
    exact ((rest_0 _).2.2).trans <| rfl
  rw [h0, h1]

/-- Buffer v31 right after its stretch. -/
theorem v_v31 : st1 m c main_v31 = x_v31 m c := by
  unfold x_v31
  refine (s_v31 _).trans ?_
  have h0 : st0 m c main_arg3 = m ((c.tc : Thread nD τ).loc main_arg3) := by
    exact ((rest_0 _).2.1).trans <| rfl
  have h1 : st0 m c main_arg4 = m ((c.tc : Thread nD τ).loc main_arg4) := by
    exact ((rest_0 _).2.2).trans <| rfl
  rw [h0, h1]

/-- Buffer v32 right after its stretch. -/
theorem v_v32 : st2 m c main_v32 = x_v32 m c := by
  unfold x_v32
  refine (s_v32 _).trans ?_
  have h0 : st1 m c main_arg0 = m ((c.tc : Thread nD τ).loc main_arg0) := by
    exact ((rest_1 _).1).trans <| ((rest_0 _).1).trans <| rfl
  rw [h0]

/-- Buffer v41 right after its stretch. -/
theorem v_v41 : st2 m c main_v41 = x_v41 m c := by
  unfold x_v41
  refine (s_v41 _).trans ?_
  have h0 : st1 m c main_arg0 = m ((c.tc : Thread nD τ).loc main_arg0) := by
    exact ((rest_1 _).1).trans <| ((rest_0 _).1).trans <| rfl
  have h1 : st1 m c main_v0 = x_v0 m c := by
    exact ((rest_1 _).2.1).trans <| v_v0 m c
  have h2 : st1 m c main_v10 = x_v10 m c := by
    exact ((rest_1 _).2.2.2.1).trans <| v_v10 m c
  rw [h0, h1, h2]

/-- Buffer v51 right after its stretch. -/
theorem v_v51 : st3 m c main_v51 = x_v51 m c := by
  unfold x_v51
  refine (s_v51 _).trans ?_
  have h0 : st2 m c main_v0 = x_v0 m c := by
    exact ((rest_2 _).1).trans <| ((rest_1 _).2.1).trans <| v_v0 m c
  have h1 : st2 m c main_v16 = x_v16 m c := by
    exact ((rest_2 _).2.2.1).trans <| ((rest_1 _).2.2.2.2).trans <| v_v16 m c
  have h2 : st2 m c main_v32 = x_v32 m c := by
    exact v_v32 m c
  have h3 : st2 m c main_v41 = x_v41 m c := by
    exact v_v41 m c
  rw [h0, h1, h2, h3]

/-- Buffer v62 right after its stretch. -/
theorem v_v62 : st4 m c main_v62 = x_v62 m c := by
  unfold x_v62
  refine (s_v62 _).trans ?_
  have h0 : st3 m c main_v51 = x_v51 m c := by
    exact v_v51 m c
  rw [h0]

/-- Buffer v71 right after its stretch. -/
theorem v_v71 : st5 m c main_v71 = x_v71 m c := by
  unfold x_v71
  refine (s_v71 _).trans ?_
  have h0 : st4 m c main_v0 = x_v0 m c := by
    exact ((rest_4 _).1).trans <| ((rest_3 _).1).trans <| ((rest_2 _).1).trans <| ((rest_1 _).2.1).trans <| v_v0 m c
  have h1 : st4 m c main_v25 = x_v25 m c := by
    exact ((rest_4 _).2.2.1).trans <| ((rest_3 _).2.2.1).trans <| ((rest_2 _).2.2.2.1).trans <| v_v25 m c
  have h2 : st4 m c main_v62 = x_v62 m c := by
    exact v_v62 m c
  rw [h0, h1, h2]

/-- Buffer v81 right after its stretch. -/
theorem v_v81 : st6 m c main_v81 = x_v81 m c := by
  unfold x_v81
  refine (s_v81 _).trans ?_
  have h0 : st5 m c main_v0 = x_v0 m c := by
    exact ((rest_5 _).1).trans <| ((rest_4 _).1).trans <| ((rest_3 _).1).trans <| ((rest_2 _).1).trans <| ((rest_1 _).2.1).trans <| v_v0 m c
  have h1 : st5 m c main_v31 = x_v31 m c := by
    exact ((rest_5 _).2.2.1).trans <| ((rest_4 _).2.2.2).trans <| ((rest_3 _).2.2.2).trans <| ((rest_2 _).2.2.2.2).trans <| v_v31 m c
  have h2 : st5 m c main_v62 = x_v62 m c := by
    exact ((rest_5 _).2.2.2).trans <| v_v62 m c
  have h3 : st5 m c main_v71 = x_v71 m c := by
    exact v_v71 m c
  rw [h0, h1, h2, h3]

/-- Buffer v85 right after its stretch. -/
theorem v_v85 : st7 m c main_v85 = x_v85 m c := by
  unfold x_v85
  refine (s_v85 _).trans ?_
  have h0 : st6 m c main_v1 = x_v1 m c := by
    exact ((rest_6 _)).trans <| ((rest_5 _).2.1).trans <| ((rest_4 _).2.1).trans <| ((rest_3 _).2.1).trans <| ((rest_2 _).2.1).trans <| ((rest_1 _).2.2.1).trans <| v_v1 m c
  have h1 : st6 m c main_v81 = x_v81 m c := by
    exact v_v81 m c
  rw [h0, h1]

/-- Buffer v88 right after its stretch. -/
theorem v_v88 : st8 m c main_v88 = x_v88 m c := by
  unfold x_v88
  refine (s_v88 _).trans ?_
  have h0 : st7 m c main_v85 = x_v85 m c := by
    exact v_v85 m c
  rw [h0]

/-- Buffer v94 right after its stretch. -/
theorem v_v94 : st8 m c main_v94 = x_v94 := by
  unfold x_v94
  refine (s_v94 _).trans ?_
  rfl

/-- Buffer v100 right after its stretch. -/
theorem v_v100 : st8 m c main_v100 = x_v100 m c := by
  unfold x_v100
  refine (s_v100 _).trans ?_
  have h0 : st7 m c main_v85 = x_v85 m c := by
    exact v_v85 m c
  rw [h0]

/-- Buffer cst_21 right after its stretch. -/
theorem v_cst_21 : st8 m c main_cst_21 = x_cst_21 := by
  unfold x_cst_21
  refine (s_cst_21 _).trans ?_
  rfl

/-- Buffer v101 right after its stretch. -/
theorem v_v101 : st9 m c main_v101 = x_v101 m c := by
  unfold x_v101
  refine (s_v101 _).trans ?_
  have h0 : st8 m c main_v94 = x_v94 := by
    exact v_v94 m c
  have h1 : st8 m c main_v100 = x_v100 m c := by
    exact v_v100 m c
  have h2 : st8 m c main_cst_21 = x_cst_21 := by
    exact v_cst_21 m c
  rw [h0, h1, h2]

/-- Buffer v103 right after its stretch. -/
theorem v_v103 : st10 m c main_v103 = x_v103 m c := by
  unfold x_v103
  refine (s_v103 _).trans ?_
  have h0 : st9 m c main_v101 = x_v101 m c := by
    exact v_v101 m c
  rw [h0]

/-- Buffer v105 right after its stretch. -/
theorem v_v105 : st10 m c main_v105 = x_v105 m c := by
  unfold x_v105
  refine (s_v105 _).trans ?_
  have h0 : st9 m c main_v88 = x_v88 m c := by
    exact ((rest_9 _).2).trans <| v_v88 m c
  rw [h0]

/-- Buffer cst_24 right after its stretch. -/
theorem v_cst_24 : st10 m c main_cst_24 = x_cst_24 := by
  unfold x_cst_24
  refine (s_cst_24 _).trans ?_
  rfl

/-- Buffer v106 right after its stretch. -/
theorem v_v106 : st11 m c main_v106 = x_v106 m c := by
  unfold x_v106
  refine (s_v106 _).trans ?_
  have h0 : st10 m c main_v103 = x_v103 m c := by
    exact v_v103 m c
  have h1 : st10 m c main_v105 = x_v105 m c := by
    exact v_v105 m c
  have h2 : st10 m c main_cst_24 = x_cst_24 := by
    exact v_cst_24 m c
  rw [h0, h1, h2]

/-- Buffer v108 right after its stretch. -/
theorem v_v108 : st12 m c main_v108 = x_v108 m c := by
  unfold x_v108
  refine (s_v108 _).trans ?_
  have h0 : st11 m c main_v85 = x_v85 m c := by
    exact ((rest_11 _)).trans <| ((rest_10 _)).trans <| ((rest_9 _).1).trans <| ((rest_8 _)).trans <| v_v85 m c
  have h1 : st11 m c main_v106 = x_v106 m c := by
    exact v_v106 m c
  rw [h0, h1]

/-- Buffer cst_25 right after its stretch. -/
theorem v_cst_25 : st12 m c main_cst_25 = x_cst_25 := by
  unfold x_cst_25
  refine (s_cst_25 _).trans ?_
  rfl

/-- Buffer cst_26 right after its stretch. -/
theorem v_cst_26 : st12 m c main_cst_26 = x_cst_26 := by
  unfold x_cst_26
  refine (s_cst_26 _).trans ?_
  rfl

/-- Buffer v109 right after its stretch. -/
theorem v_v109 : st13 m c main_v109 = x_v109 m c := by
  unfold x_v109
  refine (s_v109 _).trans ?_
  have h0 : st12 m c main_v108 = x_v108 m c := by
    exact v_v108 m c
  have h1 : st12 m c main_cst_25 = x_cst_25 := by
    exact v_cst_25 m c
  have h2 : st12 m c main_cst_26 = x_cst_26 := by
    exact v_cst_26 m c
  rw [h0, h1, h2]

/-- Buffer v110 right after its stretch. -/
theorem v_v110 : st14 m c main_v110 = x_v110 m c := by
  unfold x_v110
  refine (s_v110 _).trans ?_
  have h0 : st13 m c main_v109 = x_v109 m c := by
    exact v_v109 m c
  rw [h0]

/-- Buffer v111 right after its stretch. -/
theorem v_v111 : st14 m c main_v111 = x_v111 m c := by
  unfold x_v111
  refine (s_v111 _).trans ?_
  have h0 : st13 m c main_v106 = x_v106 m c := by
    exact ((rest_13 _)).trans <| ((rest_12 _)).trans <| v_v106 m c
  rw [h0]

/-- Buffer v110 as the last kernel reads it. -/
theorem V_v110 : V m c main_v110 = x_v110 m c := by rw [V_eq, v_v110]

/-- Buffer v111 as the last kernel reads it. -/
theorem V_v111 : V m c main_v111 = x_v111 m c := by rw [V_eq, v_v111]

end Cert.ReferenceIdeal.HostVals
-- ==== Proof.RefVal.lean ====
module

public import proofs.«01_k».proof.Proof.HostReferenceIdeal
public import proofs.«01_k».proof.Proof.Model
public import Idealize.ShloMosaic.Lib.Pointwise
public import Idealize.ShloMosaic.Lib.Routing.Ops

/-! What the reference's host operations compute, element by element, over the reals: the mixture of experts. -/

@[expose] public section
set_option maxRecDepth 16384
noncomputable section

namespace Cert.Model
open Idealize.ShloMosaic

/-- A sum over `a * b` places is a sum over `a` groups of `b` places. -/
theorem sum_split {N a b : ℕ} (h : N = a * b) (f : Fin N → ℝ) :
    ∑ i, f i = ∑ x : Fin a, ∑ y : Fin b, f ⟨b * x.val + y.val, by
      subst h
      have h1 := x.isLt; have h2 := y.isLt
      calc b * x.val + y.val < b * x.val + b := by omega
        _ = b * (x.val + 1) := by ring
        _ ≤ b * a := Nat.mul_le_mul_left _ (by omega)
        _ = a * b := Nat.mul_comm _ _⟩ := by
  subst h
  rw [← Fintype.sum_prod_type', ← (finProdFinEquiv (m := a) (n := b)).sum_comp]
  refine Finset.sum_congr rfl fun p _ => congrArg f (Fin.ext ?_)
  simp [finProdFinEquiv, Nat.add_comm]

/-- A sum over `2 * n` places is the sum over the even places and the sum over the odd places. -/
theorem sum_even_odd {N n : ℕ} (h : N = n * 2) (f : Fin N → ℝ) :
    ∑ i, f i = (∑ x : Fin n, f ⟨2 * x.val, by have := x.isLt; omega⟩)
      + ∑ x : Fin n, f ⟨1 + 2 * x.val, by have := x.isLt; omega⟩ := by
  rw [sum_split h, ← Finset.sum_add_distrib]
  refine Finset.sum_congr rfl fun x _ => ?_
  rw [Fin.sum_univ_two]
  refine congrArg₂ (· + ·) (congrArg f (Fin.ext ?_)) (congrArg f (Fin.ext ?_))
  · simp
  · simp [Nat.add_comm]

end Cert.Model

namespace Cert.ReferenceIdeal.Read
open Cert.ReferenceIdeal Cert.ReferenceIdeal.Gen Cert.ReferenceIdeal.HostVals
open Idealize.ShloMosaic Cert.Model

/-- The bf16 pattern `0x4100` is eight. -/
theorem eight : Ideal.ofBits .bf16 0x4100#16 = ((8 : ℝ) : EReal) := by
  simp [Ideal.ofBits, Ideal.ieee, -EReal.coe_mul]; norm_num

/-- The low four bits of a byte, as a word. -/
theorem lo16 (w : BitVec 8) : (IntOp.andi (BitVec.setWidth 32 w) 15#32).toInt = ((w.toNat % 16 : ℕ) : ℤ) := by
  revert w; decide +kernel

/-- The high four bits of a byte, as a word. -/
theorem hi16 (w : BitVec 8) : (IntOp.shrsi .host (BitVec.setWidth 32 w) 4#32).toInt = ((w.toNat / 16 : ℕ) : ℤ) := by
  revert w; decide +kernel

/-- A table of matrices gathered by expert numbers: where the index array holds a number in range, the result is that
    expert's matrix. -/
theorem gather_table {α : Type} {N A B R K : ℕ}
    (wf : GatherDims.WF ⟨3, ![N, A, B]⟩ ⟨3, ![R, K, 1]⟩ ⟨4, ![R, K, A, B]⟩ [2, 3] [0] [] [0] [] 2 ![1, A, B])
    (x : (⟨3, ![N, A, B]⟩ : Shape).Idx → α) (idx : IVec ⟨3, ![R, K, 1]⟩ 32) (e : Fin N) (hN : N < 2 ^ 31)
    (t : Fin R) (k : Fin K) (a : Fin A) (b : Fin B) (h : idx (ix3 t k (0 : Fin 1)) = BitVec.ofNat 32 e.val) :
    Host.gather (⟨[2, 3], [0], [], [], [0], 2, ![1, A, B], wf⟩ : GatherDims ⟨3, ![N, A, B]⟩ ⟨3, ![R, K, 1]⟩ ⟨4, ![R, K, A, B]⟩)
      x idx (ix4 t k a b) = x (ix3 e a b) := by
  set d : GatherDims ⟨3, ![N, A, B]⟩ ⟨3, ![R, K, 1]⟩ ⟨4, ![R, K, A, B]⟩ := ⟨[2, 3], [0], [], [], [0], 2, ![1, A, B], wf⟩ with hd
  unfold Host.gather
  refine congrArg x (funext fun c => Fin.ext ?_)
  show d.start _ idx c + d.batchCoord _ c + d.offCoord _ c = _
  rw [d.batchCoord_eq_zero _ _ List.not_mem_nil, Nat.add_zero]
  match c with
  | ⟨0, _⟩ =>
    have hk : (0 : Fin 3) ∉ d.sKept := fun h => ((d.mem_sKept 0).1 h).1 (List.mem_singleton.2 rfl)
    have hm : (0 : Fin 3) ∈ d.startIndexMap := List.mem_singleton.2 rfl
    show d.start _ idx 0 + d.offCoord _ 0 = _
    rw [d.offCoord_eq_zero _ _ hk, Nat.add_zero]
    unfold GatherDims.start
    rw [dif_pos hm]
    have hsi : d.siIdx (ix4 t k a b) ⟨d.startIndexMap.idxOf 0, List.idxOf_lt_length_iff.2 hm⟩ = ix3 t k (0 : Fin 1) := by
      funext b'
      refine Fin.ext ?_
      match b' with
      | ⟨0, _⟩ => rfl
      | ⟨1, _⟩ => rfl
      | ⟨2, _⟩ => rfl
    have hbl := e.isLt
    rw [hsi, h, StableHlo.Predicate.toInt_ofNat_small _ (by omega)]
    show min ((e.val : Int)).toNat (N - 1) = e.val
    omega
  | ⟨1, _⟩ =>
    have hm : (1 : Fin 3) ∉ d.startIndexMap := by simp [hd]
    show d.start _ idx 1 + d.offCoord _ 1 = _
    unfold GatherDims.start
    rw [dif_neg hm, Nat.zero_add]
    rfl
  | ⟨2, _⟩ =>
    have hm : (2 : Fin 3) ∉ d.startIndexMap := by simp [hd]
    show d.start _ idx 2 + d.offCoord _ 2 = _
    unfold GatherDims.start
    rw [dif_neg hm, Nat.zero_add]
    rfl

/-- The arguments hold the data. -/
structure Reads (D : Data) (a0 : FVec Ideal S96x1x3584 .bf16) (a1 : IVec S21x1792x5120 8) (a2 : FVec Ideal S21x28x5120 .bf16)
    (a3 : IVec S21x1280x3584 8) (a4 : FVec Ideal S21x20x3584 .bf16) (a5 : IVec S96x1x8 32) (a6 : FVec Ideal S96x1x8 .f32) : Prop where
  x : ∀ t u d, a0 (ix3 t u d) = ((D.x t d : ℝ) : EReal)
  w1 : ∀ e r n, a1 (ix3 e r n) = D.w1 e r n
  s1 : ∀ e r n, a2 (ix3 e r n) = ((D.s1 e r n : ℝ) : EReal)
  w2 : ∀ e r d, a3 (ix3 e r d) = D.w2 e r d
  s2 : ∀ e r d, a4 (ix3 e r d) = ((D.s2 e r d : ℝ) : EReal)
  ids : ∀ t u k, a5 (ix3 t u k) = D.ids t k
  ew : ∀ t u k, a6 (ix3 t u k) = ((D.ew t k : ℝ) : EReal)

section
variable {D : Data} {a0 : FVec Ideal S96x1x3584 .bf16} {a1 : IVec S21x1792x5120 8} {a2 : FVec Ideal S21x28x5120 .bf16}
  {a3 : IVec S21x1280x3584 8} {a4 : FVec Ideal S21x20x3584 .bf16} {a5 : IVec S96x1x8 32} {a6 : FVec Ideal S96x1x8 .f32}
  (R : Reads D a0 a1 a2 a3 a4 a5 a6)
include R

/-- The first weight's even rows. -/
theorem v10_apply (e : Fin 21) (r : Fin 1792) (n : Fin 5120) :
    f_v10 a1 a2 (ix3 e r n) = ((D.W1 e ⟨2 * r.val, by omega⟩ n : ℝ) : EReal) := by
  pointwise [f_v10]
  rw [R.w1, R.s1, eight]
  unfold Data.W1 nib
  rw [if_pos (show (2 * r.val) % 2 < 1 by omega), EReal.coe_mul, EReal.coe_sub]
  have h1 : (⟨(2 * r.val) / 2, by omega⟩ : Fin 1792) = r := Fin.ext (by show (2 * r.val) / 2 = r.val; omega)
  have h2 : (⟨(2 * r.val) / 128, by omega⟩ : Fin 28) = ⟨r.val / 64, by omega⟩ := Fin.ext (by show (2 * r.val) / 128 = r.val / 64; omega)
  show ((((_ : BitVec 32).toInt : ℝ) : EReal) - _) * _ = (((((D.w1 e ⟨(2 * r.val) / 2, _⟩ n).toNat % 16 : ℕ) : ℝ) : EReal) - _) * ((D.s1 e ⟨(2 * r.val) / 128, _⟩ n : ℝ) : EReal)
  rw [lo16, h1, h2, Int.cast_natCast]

/-- The first weight's odd rows. -/
theorem v16_apply (e : Fin 21) (r : Fin 1792) (n : Fin 5120) :
    f_v16 a1 a2 (ix3 e r n) = ((D.W1 e ⟨1 + 2 * r.val, by omega⟩ n : ℝ) : EReal) := by
  pointwise [f_v16]
  rw [R.w1, R.s1, eight]
  unfold Data.W1 nib
  rw [if_neg (show ¬(1 + 2 * r.val) % 2 < 1 by omega), EReal.coe_mul, EReal.coe_sub]
  have h1 : (⟨(1 + 2 * r.val) / 2, by omega⟩ : Fin 1792) = r := Fin.ext (by show (1 + 2 * r.val) / 2 = r.val; omega)
  have h2 : (⟨(1 + 2 * r.val) / 128, by omega⟩ : Fin 28) = ⟨r.val / 64, by omega⟩ := Fin.ext (by show (1 + 2 * r.val) / 128 = r.val / 64; omega)
  show ((((_ : BitVec 32).toInt : ℝ) : EReal) - _) * _ = (((((D.w1 e ⟨(1 + 2 * r.val) / 2, _⟩ n).toNat / 16 : ℕ) : ℝ) : EReal) - _) * ((D.s1 e ⟨(1 + 2 * r.val) / 128, _⟩ n : ℝ) : EReal)
  rw [hi16, h1, h2, Int.cast_natCast]

/-- The second weight's even rows. -/
theorem v25_apply (e : Fin 21) (r : Fin 1280) (n : Fin 3584) :
    f_v25 a3 a4 (ix3 e r n) = ((D.W2 e ⟨2 * r.val, by omega⟩ n : ℝ) : EReal) := by
  pointwise [f_v25]
  rw [R.w2, R.s2, eight]
  unfold Data.W2 nib
  rw [if_pos (show (2 * r.val) % 2 < 1 by omega), EReal.coe_mul, EReal.coe_sub]
  have h1 : (⟨(2 * r.val) / 2, by omega⟩ : Fin 1280) = r := Fin.ext (by show (2 * r.val) / 2 = r.val; omega)
  have h2 : (⟨(2 * r.val) / 128, by omega⟩ : Fin 20) = ⟨r.val / 64, by omega⟩ := Fin.ext (by show (2 * r.val) / 128 = r.val / 64; omega)
  show ((((_ : BitVec 32).toInt : ℝ) : EReal) - _) * _ = (((((D.w2 e ⟨(2 * r.val) / 2, _⟩ n).toNat % 16 : ℕ) : ℝ) : EReal) - _) * ((D.s2 e ⟨(2 * r.val) / 128, _⟩ n : ℝ) : EReal)
  rw [lo16, h1, h2, Int.cast_natCast]

/-- The second weight's odd rows. -/
theorem v31_apply (e : Fin 21) (r : Fin 1280) (n : Fin 3584) :
    f_v31 a3 a4 (ix3 e r n) = ((D.W2 e ⟨1 + 2 * r.val, by omega⟩ n : ℝ) : EReal) := by
  pointwise [f_v31]
  rw [R.w2, R.s2, eight]
  unfold Data.W2 nib
  rw [if_neg (show ¬(1 + 2 * r.val) % 2 < 1 by omega), EReal.coe_mul, EReal.coe_sub]
  have h1 : (⟨(1 + 2 * r.val) / 2, by omega⟩ : Fin 1280) = r := Fin.ext (by show (1 + 2 * r.val) / 2 = r.val; omega)
  have h2 : (⟨(1 + 2 * r.val) / 128, by omega⟩ : Fin 20) = ⟨r.val / 64, by omega⟩ := Fin.ext (by show (1 + 2 * r.val) / 128 = r.val / 64; omega)
  show ((((_ : BitVec 32).toInt : ℝ) : EReal) - _) * _ = (((((D.w2 e ⟨(1 + 2 * r.val) / 2, _⟩ n).toNat / 16 : ℕ) : ℝ) : EReal) - _) * ((D.s2 e ⟨(1 + 2 * r.val) / 128, _⟩ n : ℝ) : EReal)
  rw [hi16, h1, h2, Int.cast_natCast]

/-- The identifiers, one row per token. -/
theorem v0_apply (t : Fin 96) (k : Fin 8) : f_v0 a5 (ix2 t k) = D.ids t k := by
  pointwise [f_v0]
  exact R.ids _ _ _

/-- The routing weights, one row per token. -/
theorem v1_apply (t : Fin 96) (k : Fin 8) (u : Fin 1) : f_v1 a6 (ix3 t k u) = ((D.ew t k : ℝ) : EReal) := by
  pointwise [f_v1]
  exact R.ew _ _ _

/-- The activations, one row per token. -/
theorem v32_apply (t : Fin 96) (d : Fin 3584) : f_v32 a0 (ix2 t d) = ((D.x t d : ℝ) : EReal) := by
  pointwise [f_v32]
  exact R.x _ _ _

variable {ex : Fin 96 → Fin 8 → Fin 21} (hex : ∀ t k, D.ids t k = BitVec.ofNat 32 (ex t k).val)
include hex

/-- The wrapped identifier of a slot is the expert's number. -/
theorem wrapped_apply (v0 : IVec S96x8 32) (hv0 : ∀ t k, v0 (ix2 t k) = D.ids t k) (t : Fin 96) (k : Fin 8) :
    broadcastInDim S96x8x1 ![0, 1] bcast_S96x8_S96x8x1_0_1
      (select (cmpi CmpIPredicate.slt v0 (broadcastInDim S96x8 ![] bcast_S_S96x8 (constantI S_ 32 0#32)))
        (addi v0 (broadcastInDim S96x8 ![] bcast_S_S96x8 (constantI S_ 32 21#32))) v0) (ix3 t k (0 : Fin 1))
      = BitVec.ofNat 32 (ex t k).val := by
  have h0 : ∀ e : Fin 21, IntOp.cmpi CmpIPredicate.slt (BitVec.ofNat 32 e.val) 0#32 = 0#1 := by decide
  pointwise []
  rw [hv0, hex]
  generalize ex t k = e
  revert e; decide

/-- The even half of the first product. -/
theorem v41_apply (v0 : IVec S96x8 32) (hv0 : ∀ t k, v0 (ix2 t k) = D.ids t k) (t : Fin 96) (k : Fin 8) (n : Fin 5120) :
    f_v41 a0 v0 (f_v10 a1 a2) (ix3 t k n)
      = ((∑ r : Fin 1792, D.x t ⟨2 * r.val, by omega⟩ * D.W1 (ex t k) ⟨2 * r.val, by omega⟩ n : ℝ) : EReal) := by
  pointwise [f_v41]
  rw [coe_sum]
  refine Finset.sum_congr rfl fun r _ => ?_
  rw [R.x, EReal.coe_mul, ← v10_apply R]
  refine congrArg (_ * ·) ?_
  exact gather_table _ _ _ (ex t k) (by norm_num) t k r n (wrapped_apply R hex v0 hv0 t k)

/-- The first product. -/
theorem v51_apply (v0 : IVec S96x8 32) (hv0 : ∀ t k, v0 (ix2 t k) = D.ids t k) (t : Fin 96) (k : Fin 8) (n : Fin 5120) :
    f_v51 v0 (f_v16 a1 a2) (f_v32 a0) (f_v41 a0 v0 (f_v10 a1 a2)) (ix3 t k n) = ((D.G (ex t k) t n : ℝ) : EReal) := by
  unfold Data.G
  rw [sum_even_odd (n := 1792) rfl, EReal.coe_add, ← v41_apply R hex v0 hv0]
  pointwise [f_v51]
  refine congrArg (_ + ·) ?_
  rw [coe_sum]
  refine Finset.sum_congr rfl fun r _ => ?_
  rw [v32_apply R, EReal.coe_mul, ← v16_apply R]
  refine congrArg (_ * ·) ?_
  exact gather_table _ _ _ (ex t k) (by norm_num) t k r n (wrapped_apply R hex v0 hv0 t k)

omit R hex in
/-- The hidden layer over any first product. -/
theorem v62_apply (v51 : FVec Ideal S96x8x5120 .f32) (hv : ∀ t k n, v51 (ix3 t k n) = ((D.G (ex t k) t n : ℝ) : EReal))
    (t : Fin 96) (k : Fin 8) (f : Fin 2560) : f_v62 v51 (ix3 t k f) = ((D.H (ex t k) t f : ℝ) : EReal) := by
  pointwise [f_v62]
  rw [hv, hv]
  unfold Data.H silu
  rw [EReal.coe_mul, EReal.coe_mul, ← logistic_coe]
  rfl

/-- The second product. -/
theorem v81_apply (v0 : IVec S96x8 32) (hv0 : ∀ t k, v0 (ix2 t k) = D.ids t k) (v62 : FVec Ideal S96x8x2560 .bf16)
    (hv : ∀ t k f, v62 (ix3 t k f) = ((D.H (ex t k) t f : ℝ) : EReal)) (t : Fin 96) (k : Fin 8) (d : Fin 3584) :
    f_v81 v0 (f_v31 a3 a4) v62 (f_v71 v0 (f_v25 a3 a4) v62) (ix3 t k d) = ((D.Y (ex t k) t d : ℝ) : EReal) := by
  unfold Data.Y
  rw [sum_even_odd (n := 1280) rfl, EReal.coe_add, coe_sum, coe_sum]
  pointwise [f_v81, f_v71]
  refine congrArg₂ (· + ·) ?_ ?_
  · refine Finset.sum_congr rfl fun r _ => ?_
    rw [hv, EReal.coe_mul, ← v25_apply R]
    refine congrArg (_ * ·) ?_
    exact gather_table _ _ _ (ex t k) (by norm_num) t k r d (wrapped_apply R hex v0 hv0 t k)
  · refine Finset.sum_congr rfl fun r _ => ?_
    rw [hv, EReal.coe_mul, ← v31_apply R]
    refine congrArg (_ * ·) ?_
    exact gather_table _ _ _ (ex t k) (by norm_num) t k r d (wrapped_apply R hex v0 hv0 t k)

omit R hex in
/-- The mixture over any second product. -/
theorem v85_apply (v1 : FVec Ideal S96x8x1 .f32) (v81 : FVec Ideal S96x8x3584 .f32)
    (h1 : ∀ t k u, v1 (ix3 t k u) = ((D.ew t k : ℝ) : EReal))
    (hv : ∀ t k d, v81 (ix3 t k d) = ((D.Y (ex t k) t d : ℝ) : EReal)) (t : Fin 96) (b : Fin 28) (n : Fin 128) :
    f_v85 v1 v81 (ix3 t b n) = ((D.Out ex t ⟨b.val * 128 + n.val, by omega⟩ : ℝ) : EReal) := by
  pointwise [f_v85]
  unfold Data.Out
  rw [coe_sum]
  refine Finset.sum_congr rfl fun k _ => ?_
  rw [h1, hv, EReal.coe_mul]
end

/-- The mixture the reference's host operations leave. -/
theorem x_v85_apply {D : Data} (m : (ℓ : Loc nD τ sig) → Buf (Elt Ideal) ℓ) (c : Dev nD)
    (R : Reads D (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)))
    {ex : Fin 96 → Fin 8 → Fin 21} (hex : ∀ t k, D.ids t k = BitVec.ofNat 32 (ex t k).val)
    (t : Fin 96) (b : Fin 28) (n : Fin 128) :
    x_v85 m c (ix3 t b n) = ((D.Out ex t ⟨b.val * 128 + n.val, by omega⟩ : ℝ) : EReal) := by
  have h0 : ∀ t k, x_v0 m c (ix2 t k) = D.ids t k := fun t k => v0_apply R t k
  refine v85_apply _ _ (fun t k u => v1_apply R t k u) (fun t k d => ?_) t b n
  refine v81_apply R hex (x_v0 m c) h0 (x_v62 m c) (fun t k f => ?_) t k d
  refine v62_apply _ (fun t k n => ?_) t k f
  exact v51_apply R hex (x_v0 m c) h0 t k n

end Cert.ReferenceIdeal.Read
-- ==== Proof.AccVal.lean ====
module

public import proofs.«01_k».proof.Proof.BlockVal
public import proofs.«01_k».proof.Proof.RefVal
public import proofs.«01_k».proof.Proof.Tables

/-! What one grid point adds to the accumulator, from the arguments of the program, and whether it adds anything. -/

@[expose] public section
set_option maxRecDepth 16384
noncomputable section

namespace Cert.KernelIdeal.Acc
open Idealize.ShloMosaic Idealize.ShloMosaic.TcCoe Idealize.ShloMosaic.Pipeline
open Cert.KernelIdeal Cert.KernelIdeal.HostVals Cert.KernelIdeal.Gen Cert.KernelIdeal.Tables
open Cert.Model Cert.ReferenceIdeal.Read Cert.KernelIdeal.StepVal

variable (m : (ℓ : Loc nD τ sig) → Buf (Elt Ideal) ℓ) (hO : Ok m) (c : Dev nD)
variable {D : Data} (R : Reads D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))

/-- Which experts are present. -/
def pres : IVec S21 1 := presentOf (ids m c)

include R in
/-- The identifiers the kernel reads. -/
theorem ids_apply (t : Fin 96) (k : Fin 8) : ids m c (ix2 t k) = D.ids t k := by
  refine Eq.trans ?_ (R.ids t 0 k)
  unfold ids
  pointwise []

/-- The order table holds the present experts first, the last of them repeated. -/
theorem tbl0_apply (hn : 1 ≤ num (pres m c)) (j : Fin 21) :
    tbl m 0 (ix1 j) = BitVec.ofNat 32 (perm (pres m c) ⟨min j.val (num (pres m c) - 1), by omega⟩).val := by
  rw [← V_pre m c 0]
  show V m c main_v16 (ix1 j) = _
  rw [V_v16]
  exact order_eq _ hn j

/-- The count table holds how many experts are present. -/
theorem tbl1_apply : tbl m 1 (ix1 0) = BitVec.ofNat 32 (num (pres m c)) := by
  rw [← V_pre m c 1]
  show V m c main_v18 (ix1 0) = _
  rw [V_v18]
  refine Eq.trans ?_ (count_eq (pres m c))
  unfold pres
  generalize countOf (presentOf (ids m c)) = v
  pointwise []
  exact congrArg v (funext fun a => a.elim0)

/-- A point whose slot is below the count is active, with the slot's expert. -/
theorem at_point (t : Fin (cfgM m hO).N) (i : Fin 21) (j : Fin 5) (hi : t.val / 5 = i.val) (hj : t.val % 5 = j.val)
    (hl : i.val < num (pres m c)) : At (tbl m) (grid0.coords t) (perm (pres m c) i) j i (num (pres m c)) where
  slot := (coords_eq t).1.trans hi
  blk := (coords_eq t).2.trans hj
  order := by
    rw [tbl0_apply m c (by omega)]
    exact congrArg (fun x => BitVec.ofNat 32 (perm (pres m c) x).val) (Fin.ext (by show min i.val (num (pres m c) - 1) = i.val; omega))
  count := tbl1_apply m c
  le := num_le _
  lt := hl

/-- The word a point compares its slot with. -/
theorem readAt_count (x : IVec S1 32) :
    tbM0_1.view.readAt (Elt Ideal) (Rect.unit (s := S1) ![0] S1.size inb_S1_S1_0).toLoadRect x (Shape.Idx.first (numel1_S1.symm ▸ Nat.one_pos)) = x (ix1 0) := by
  refine congrArg x (funext fun a => ?_)
  fin_cases a
  rfl

/-- The condition of a point as a comparison of numbers. -/
theorem cond_of (g : grid0.Coords) (v : BitVec 32) (a n : ℕ) (hg : (g 0).val = a) (ha : a < 22) (hn : n < 22) (hv : v = BitVec.ofNat 32 n) :
    cond0_1 g v ↔ a < n := by
  unfold cond0_1
  rw [hv, hg, slt_ofNat ⟨a, ha⟩ ⟨n, hn⟩]
  show Scalar.cmpi .ne (Scalar.extui (if a < n then 1#1 else 0#1)) 0#32 = 1#1 ↔ _
  split
  · rename_i h; exact ⟨fun _ => h, fun _ => by decide⟩
  · rename_i h; exact ⟨fun h' => absurd h' (by decide), fun h' => absurd h' h⟩

/-- A point is active when its slot is below the count. -/
theorem cond_iff (t : Fin (cfgM m hO).N) :
    cond0_1 (grid0.coords t) (tbM0_1.view.readAt (Elt Ideal) (Rect.unit (s := S1) ![0] S1.size inb_S1_S1_0).toLoadRect (tbl m 1) (Shape.Idx.first (numel1_S1.symm ▸ Nat.one_pos))) ↔ t.val / 5 < num (pres m c) := by
  have ht : t.val < 105 := t.isLt
  have hl := num_le (pres m c)
  exact cond_of _ _ _ _ (coords_eq t).1 (by omega) (by omega) ((readAt_count _).trans (tbl1_apply m c))

include R in
/-- What an active point leaves in the accumulator. -/
theorem accStep_apply (t : Fin (cfgM m hO).N) (e i : Fin 21) (j : Fin 5) (n : ℕ) (h : At (tbl m) (grid0.coords t) e j i n)
    (acc : Vec Ideal S96x3584 .f32) (a : Fin 96 → Fin 3584 → ℝ) (hacc : ∀ x d, acc (ix2 x d) = ((a x d : ℝ) : EReal))
    (x : Fin 96) (d : Fin 3584) :
    accStep (c := c) (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) acc (ix2 x d)
      = ((a x d + contrib D e j x d : ℝ) : EReal) := by
  unfold accStep
  refine step_apply D e j _ _ _ _ _ _ _ _ _ _ ?_ (At.word m hO c h) ?_ ?_ ?_ ?_ ?_ ?_ ?_ ?_ acc a hacc x d
  · intro t' k
    rw [blk1, V_v0]; exact ids_apply m c R t' k
  · intro t' k
    rw [blk2, V_v20]
    refine Eq.trans ?_ (R.ew t' 0 k)
    generalize ((m ((c : Thread nD τ).loc main_arg6)) : FVec Ideal S96x1x8 .f32) = v
    pointwise []
  · intro t' k
    rw [blk0, V_v19]
    refine Eq.trans ?_ (R.x t' 0 k)
    generalize ((m ((c : Thread nD τ).loc main_arg0)) : FVec Ideal S96x1x3584 .bf16) = v
    pointwise []
  · intro r n
    rw [blk3 m hO c h r n ⟨(col j n).val, by have := (col j n).isLt; omega⟩ (by show 512 * j.val + n.val = _; omega), V_main_arg1]
    exact R.w1 _ _ _
  · intro r n
    rw [blk4 m hO c h r n ⟨2560 + (col j n).val, by have := (col j n).isLt; omega⟩ (by show 2560 + (512 * j.val + n.val) = _; omega), V_main_arg1]
    exact R.w1 _ _ _
  · intro r n
    rw [blk5 m hO c h r n ⟨(col j n).val, by have := (col j n).isLt; omega⟩ (by show 512 * j.val + n.val = _; omega), V_main_arg2]
    exact R.s1 _ _ _
  · intro r n
    rw [blk6 m hO c h r n ⟨2560 + (col j n).val, by have := (col j n).isLt; omega⟩ (by show 2560 + (512 * j.val + n.val) = _; omega), V_main_arg2]
    exact R.s1 _ _ _
  · intro r d
    rw [blk7 m hO c h r d ⟨256 * j.val + r.val, by omega⟩ (by show 256 * j.val + r.val = _; omega), V_main_arg3]
    exact R.w2 _ _ _
  · intro r d
    refine (ld_scales (iblk m hO c 8 t) _ j h.blk r d).trans ?_
    rw [blk8 m hO c h, V_v17]
    refine Eq.trans ?_ (R.s2 e ⟨4 * j.val + r.val, by omega⟩ d)
    generalize ((m ((c : Thread nD τ).loc main_arg4)) : FVec Ideal S21x20x3584 .bf16) = v
    pointwise []
    exact congrArg (fun q => v (ix3 e q d)) (Fin.ext (by show j.val * 4 + r.val = 4 * j.val + r.val; omega))

end Cert.KernelIdeal.Acc
-- ==== Proof.Total.lean ====
module

public import proofs.«01_k».proof.Proof.AccVal

/-! What the accumulator holds after each grid point, and after the last one: the mixture. -/

@[expose] public section
set_option maxRecDepth 16384
noncomputable section

namespace Cert.KernelIdeal.Acc
open Idealize.ShloMosaic Idealize.ShloMosaic.TcCoe Idealize.ShloMosaic.Pipeline
open Cert.KernelIdeal Cert.KernelIdeal.HostVals Cert.KernelIdeal.Gen Cert.KernelIdeal.Tables
open Cert.Model Cert.ReferenceIdeal.Read Cert.KernelIdeal.StepVal

/-- What point `q` of the grid adds. -/
def term (D : Data) (p : IVec S21 1) (q : ℕ) (x : Fin 96) (d : Fin 3584) : ℝ :=
  if q / 5 < num p then contrib D (perm p ⟨q / 5 % 21, by omega⟩) ⟨q % 5, by omega⟩ x d else 0

/-- The blocks of one expert add up to its weighted result. -/
theorem sum_contrib (D : Data) (e : Fin 21) (x : Fin 96) (d : Fin 3584) :
    ∑ j : Fin 5, contrib D e j x d = D.cw e x * D.Y e x d := by
  unfold contrib Data.Y
  rw [← Finset.mul_sum, sum_split (show 2560 = 5 * 512 by norm_num)]
  rfl

/-- Over the grid the points add up to the mixture. -/
theorem sum_term (D : Data) (ex : Fin 96 → Fin 8 → Fin 21) (hex : ∀ t k, D.ids t k = BitVec.ofNat 32 (ex t k).val)
    (ids : IVec S96x8 32) (hid : ∀ t k, ids (ix2 t k) = D.ids t k) (x : Fin 96) (d : Fin 3584) :
    ∑ q ∈ Finset.range 105, term D (presentOf ids) q x d = D.Out ex x d := by
  rw [Finset.sum_range (fun q => term D (presentOf ids) q x d), sum_split (show 105 = 21 * 5 by norm_num), ← sum_cw_Y D ex hex x d,
    ← sum_perm (presentOf ids) (fun e => D.cw e x * D.Y e x d)]
  · refine Finset.sum_congr rfl fun i _ => ?_
    have h1 : ∀ j : Fin 5, (5 * i.val + j.val) / 5 = i.val := fun j => by omega
    have h2 : ∀ j : Fin 5, (5 * i.val + j.val) % 5 = j.val := fun j => by omega
    have h3 : ∀ j : Fin 5, term D (presentOf ids) (5 * i.val + j.val) x d
        = if i.val < num (presentOf ids) then contrib D (perm (presentOf ids) i) j x d else 0 := by
      intro j
      unfold term
      have e1 : (⟨(5 * i.val + j.val) / 5 % 21, by omega⟩ : Fin 21) = i := Fin.ext (by show (5 * i.val + j.val) / 5 % 21 = i.val; omega)
      have e2 : (⟨(5 * i.val + j.val) % 5, by omega⟩ : Fin 5) = j := Fin.ext (h2 j)
      rw [e1, e2, h1]
    refine (Finset.sum_congr rfl fun j _ => h3 j).trans ?_
    split
    · exact sum_contrib D _ x d
    · simp
  · intro e he
    have hc : D.cw e x = 0 := by
      unfold Data.cw
      refine Finset.sum_eq_zero fun k _ => if_neg fun hk => he ?_
      exact (present_iff ids e).mpr ⟨x, k, (hid x k).trans hk⟩
    rw [hc, zero_mul]

variable (m : (ℓ : Loc nD τ sig) → Buf (Elt Ideal) ℓ) (hO : Ok m) (c : Dev nD)
/-- The third part of a triple that is known. -/
theorem snd2 {α β γ : Type} {r : α × β × γ} {a : α} {b : β} {x : γ} (h : r = (a, b, x)) : r.2.2 = x := by rw [h]

/-- The accumulator after a point of case A. -/
theorem acc_A (t : Fin (cfgM m hO).N) (h0 : t.val % 105 = 0) (h1 : cond0_1 (grid0.coords t) (tbM0_1.view.readAt (Elt Ideal) (Rect.unit (s := S1) ![0] S1.size inb_S1_S1_0).toLoadRect (tbl m 1) (Shape.Idx.first (numel1_S1.symm ▸ Nat.one_pos)))) (h2 : ¬t.val % 105 = 104) :
    (outsAt0 m hO c t.val t.isLt).2.2 = accStep (c := c) (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (k0_pay1 (F := Ideal)) := by
  refine (snd2 (outsAt0_A m hO c t h0 h1 h2)).trans ?_
  exact sout0_A_0_eq ..

/-- The accumulator after a point of case B. -/
theorem acc_B (t : Fin (cfgM m hO).N) (h0 : t.val % 105 = 0) (h1 : ¬cond0_1 (grid0.coords t) (tbM0_1.view.readAt (Elt Ideal) (Rect.unit (s := S1) ![0] S1.size inb_S1_S1_0).toLoadRect (tbl m 1) (Shape.Idx.first (numel1_S1.symm ▸ Nat.one_pos)))) (h2 : ¬t.val % 105 = 104) :
    (outsAt0 m hO c t.val t.isLt).2.2 = k0_pay1 (F := Ideal) := by
  refine (snd2 (outsAt0_B m hO c t h0 h1 h2)).trans ?_
  exact sout0_B_0_eq ..

/-- The accumulator after a point of case C. -/
theorem acc_C (t : Fin (cfgM m hO).N) (h0 : ¬t.val % 105 = 0) (h1 : cond0_1 (grid0.coords t) (tbM0_1.view.readAt (Elt Ideal) (Rect.unit (s := S1) ![0] S1.size inb_S1_S1_0).toLoadRect (tbl m 1) (Shape.Idx.first (numel1_S1.symm ▸ Nat.one_pos)))) (h2 : ¬t.val % 105 = 104) :
    (outsAt0 m hO c t.val t.isLt).2.2 = accStep (c := c) (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (outsAt0 m hO c (t.val - 1) (Nat.lt_of_le_of_lt (Nat.sub_le _ _) t.isLt)).2.2 := by
  refine (snd2 (outsAt0_C m hO c t h0 h1 h2)).trans ?_
  exact sout0_C_0_eq ..

/-- The accumulator after a point of case D. -/
theorem acc_D (t : Fin (cfgM m hO).N) (h0 : ¬t.val % 105 = 0) (h1 : ¬cond0_1 (grid0.coords t) (tbM0_1.view.readAt (Elt Ideal) (Rect.unit (s := S1) ![0] S1.size inb_S1_S1_0).toLoadRect (tbl m 1) (Shape.Idx.first (numel1_S1.symm ▸ Nat.one_pos)))) (h2 : ¬t.val % 105 = 104) :
    (outsAt0 m hO c t.val t.isLt).2.2 = (outsAt0 m hO c (t.val - 1) (Nat.lt_of_le_of_lt (Nat.sub_le _ _) t.isLt)).2.2 := by
  refine (snd2 (outsAt0_D m hO c t h0 h1 h2)).trans ?_
  exact rfl

/-- The accumulator after a point of case E. -/
theorem acc_E (t : Fin (cfgM m hO).N) (h0 : ¬t.val % 105 = 0) (h1 : cond0_1 (grid0.coords t) (tbM0_1.view.readAt (Elt Ideal) (Rect.unit (s := S1) ![0] S1.size inb_S1_S1_0).toLoadRect (tbl m 1) (Shape.Idx.first (numel1_S1.symm ▸ Nat.one_pos)))) (h2 : t.val % 105 = 104) :
    (outsAt0 m hO c t.val t.isLt).2.2 = accStep (c := c) (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (outsAt0 m hO c (t.val - 1) (Nat.lt_of_le_of_lt (Nat.sub_le _ _) t.isLt)).2.2 := by
  refine (snd2 (outsAt0_E m hO c t h0 h1 h2)).trans ?_
  exact sout0_E_0_eq ..

/-- The accumulator after a point of case F. -/
theorem acc_F (t : Fin (cfgM m hO).N) (h0 : ¬t.val % 105 = 0) (h1 : ¬cond0_1 (grid0.coords t) (tbM0_1.view.readAt (Elt Ideal) (Rect.unit (s := S1) ![0] S1.size inb_S1_S1_0).toLoadRect (tbl m 1) (Shape.Idx.first (numel1_S1.symm ▸ Nat.one_pos)))) (h2 : t.val % 105 = 104) :
    (outsAt0 m hO c t.val t.isLt).2.2 = (outsAt0 m hO c (t.val - 1) (Nat.lt_of_le_of_lt (Nat.sub_le _ _) t.isLt)).2.2 := by
  refine (snd2 (outsAt0_F m hO c t h0 h1 h2)).trans ?_
  exact rfl

variable {D : Data} (R : Reads D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
include R

/-- An active point adds its term. -/
theorem step_term (t : Fin (cfgM m hO).N) (hl : t.val / 5 < num (pres m c))
    (acc : Vec Ideal S96x3584 .f32) (a : Fin 96 → Fin 3584 → ℝ) (hacc : ∀ x d, acc (ix2 x d) = ((a x d : ℝ) : EReal))
    (x : Fin 96) (d : Fin 3584) :
    accStep (c := c) (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) acc (ix2 x d)
      = ((a x d + term D (pres m c) t.val x d : ℝ) : EReal) := by
  have ht : t.val < 105 := t.isLt
  rw [accStep_apply m hO c R t _ ⟨t.val / 5 % 21, by omega⟩ ⟨t.val % 5, by omega⟩ _
    (at_point m hO c t ⟨t.val / 5 % 21, by omega⟩ ⟨t.val % 5, by omega⟩ (by show t.val / 5 = t.val / 5 % 21; omega) rfl (by show t.val / 5 % 21 < _; omega)) acc a hacc]
  unfold term
  rw [if_pos hl]

/-- A point at rest adds nothing. -/
theorem rest_term (q : ℕ) (hl : ¬ q / 5 < num (pres m c)) (x : Fin 96) (d : Fin 3584) : term D (pres m c) q x d = 0 := by
  unfold term; rw [if_neg hl]

omit R in
/-- The accumulator starts at zero. -/
theorem zero_apply (x : Fin 96) (d : Fin 3584) : (k0_pay1 (F := Ideal)) (ix2 x d) = ((0 : ℝ) : EReal) := by
  pointwise [k0_pay1]
  simp [Ideal.ofBits, Ideal.ieee]

/-- After the first point the accumulator holds its term. -/
theorem acc_first (t : Fin (cfgM m hO).N) (h : t.val = 0) (x : Fin 96) (d : Fin 3584) :
    (outsAt0 m hO c t.val t.isLt).2.2 (ix2 x d) = ((term D (pres m c) t.val x d : ℝ) : EReal) := by
  have h0 : t.val % 105 = 0 := by omega
  have h2 : ¬ t.val % 105 = 104 := by omega
  by_cases h1 : t.val / 5 < num (pres m c)
  · rw [acc_A m hO c t h0 ((cond_iff m hO c t).mpr h1) h2, step_term m hO c R t h1 _ (fun _ _ => 0) zero_apply x d, zero_add]
  · rw [acc_B m hO c t h0 (fun h => h1 ((cond_iff m hO c t).mp h)) h2, zero_apply, rest_term m c R _ h1]

/-- A later point adds its term. -/
theorem acc_next (t : Fin (cfgM m hO).N) (h : t.val ≠ 0) (a : Fin 96 → Fin 3584 → ℝ)
    (ih : ∀ x d, (outsAt0 m hO c (t.val - 1) (Nat.lt_of_le_of_lt (Nat.sub_le _ _) t.isLt)).2.2 (ix2 x d) = ((a x d : ℝ) : EReal)) (x : Fin 96) (d : Fin 3584) :
    (outsAt0 m hO c t.val t.isLt).2.2 (ix2 x d) = ((a x d + term D (pres m c) t.val x d : ℝ) : EReal) := by
  have ht : t.val < 105 := t.isLt
  have h0 : ¬ t.val % 105 = 0 := by omega
  by_cases h1 : t.val / 5 < num (pres m c)
  · have hc := (cond_iff m hO c t).mpr h1
    by_cases h2 : t.val % 105 = 104
    · rw [acc_E m hO c t h0 hc h2]
      exact step_term m hO c R t h1 _ a ih x d
    · rw [acc_C m hO c t h0 hc h2]
      exact step_term m hO c R t h1 _ a ih x d
  · have hc := fun h => h1 ((cond_iff m hO c t).mp h)
    rw [rest_term m c R _ h1, add_zero]
    by_cases h2 : t.val % 105 = 104
    · rw [acc_F m hO c t h0 hc h2]
      exact ih x d
    · rw [acc_D m hO c t h0 hc h2]
      exact ih x d

/-- After point `n` the accumulator holds the sum of the terms so far. -/
theorem acc_eq (n : ℕ) : ∀ (hn : n < (cfgM m hO).N) (x : Fin 96) (d : Fin 3584),
    (outsAt0 m hO c n hn).2.2 (ix2 x d) = ((∑ q ∈ Finset.range (n + 1), term D (pres m c) q x d : ℝ) : EReal) := by
  induction n using Nat.strong_induction_on with
  | _ n ih =>
    intro hn x d
    rw [Finset.sum_range_succ]
    by_cases h : n = 0
    · have hs : ∑ q ∈ Finset.range n, term D (pres m c) q x d = 0 := by rw [h, Finset.sum_range_zero]
      rw [hs, zero_add]
      exact acc_first m hO c R ⟨n, hn⟩ h x d
    · have ih := ih (n - 1) (by omega) (Nat.lt_of_le_of_lt (Nat.sub_le _ _) hn)
      rw [Nat.sub_add_cancel (Nat.one_le_iff_ne_zero.mpr h)] at ih
      exact acc_next m hO c R ⟨n, hn⟩ h _ ih x d

end Cert.KernelIdeal.Acc
-- ==== Proof.RefQuant.lean ====
module

public import proofs.«01_k».proof.Proof.RefVal
public import proofs.«01_k».proof.Proof.Quant

/-! The reference's two results over the reals: codes and scales of the mixture of experts. -/

@[expose] public section
set_option maxRecDepth 16384
noncomputable section

namespace Cert.Quant
open Idealize.ShloMosaic

/-- The largest absolute value in block `b` of row `t` of an array of reals. -/
def rmax (R : Fin 96 → Fin 3584 → ℝ) (t : Fin 96) (b : Fin 28) : EReal :=
  (Finset.univ : Finset (Fin 128)).fold max (Ideal.ofBits .f32 0xFF800000#32)
    (fun x => FloatOps.absf (F := Ideal) (φ := .f32) ((R t ⟨b.val * 128 + x.val, by omega⟩ : ℝ) : EReal))

/-- The largest magnitude of a block of reals is real. -/
theorem rmax_coe (R : Fin 96 → Fin 3584 → ℝ) (t : Fin 96) (b : Fin 28) : ∃ a : ℝ, rmax R t b = (a : EReal) :=
  amax_coe (n := 127) (fun x => R t ⟨b.val * 128 + x.val, by omega⟩)

/-- The scale the reference takes is the one the kernel takes. -/
theorem rscale_eq (R : Fin 96 → Fin 3584 → ℝ) (t : Fin 96) (b : Fin 28) : rscale (rmax R t b) = kscale (rmax R t b) := by
  obtain ⟨a, ha⟩ := rmax_coe R t b
  rw [ha, rscale_coe, kscale_coe]

/-- Over the reference's scale is times the kernel's inverse scale. -/
theorem div_rscale (R : Fin 96 → Fin 3584 → ℝ) (t : Fin 96) (b : Fin 28) (v : EReal) :
    Ideal.div v (rscale (rmax R t b)) = v * kinv (rmax R t b) := by
  obtain ⟨a, ha⟩ := rmax_coe R t b
  rw [ha, rscale_coe, kinv_coe, div_scale]

end Cert.Quant

namespace Cert.ReferenceIdeal.Read
open Idealize.ShloMosaic Idealize.ShloMosaic.TcCoe
open Cert.ReferenceIdeal Cert.ReferenceIdeal.HostVals Cert.Model Cert.Quant

/-- The reference's scale of a block. -/
theorem v106_eq (v85 : FVec Ideal S96x28x128 .f32) (t : Fin 96) (b : Fin 28) (u : Fin 1) :
    f_v106 (f_v103 (f_v101 f_v94 (f_v100 v85) f_cst_21)) (f_v105 (f_v88 v85)) f_cst_24 (ix3 t b u)
      = rscale ((Finset.univ : Finset (Fin 128)).fold max (Ideal.ofBits .f32 0xFF800000#32)
          (fun x => FloatOps.absf (F := Ideal) (φ := .f32) (v85 (ix3 t b x)))) := by
  pointwise [f_v106, f_v103, f_v101, f_v94, f_v100, f_cst_21, f_v105, f_v88, f_cst_24]
  rfl

section
variable {D : Data} (m : (ℓ : Loc nD τ sig) → Buf (Elt Ideal) ℓ) (c : Dev nD)
  (R : Reads D (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)))
  {ex : Fin 96 → Fin 8 → Fin 21} (hex : ∀ t k, D.ids t k = BitVec.ofNat 32 (ex t k).val)
include R hex

/-- The scale the reference divides by. -/
theorem x_v106_apply (t : Fin 96) (b : Fin 28) (u : Fin 1) : x_v106 m c (ix3 t b u) = rscale (rmax (D.Out ex) t b) := by
  refine (v106_eq (x_v85 m c) t b u).trans ?_
  simp only [x_v85_apply m c R hex]
  rfl

/-- The scales the reference returns. -/
theorem x_v111_apply (t : Fin 96) (b : Fin 28) : x_v111 m c (ix2 t b) = kscale (rmax (D.Out ex) t b) := by
  rw [← rscale_eq, ← x_v106_apply m c R hex t b 0]
  unfold x_v111
  generalize x_v106 m c = v
  pointwise [f_v111]

/-- The codes the reference returns. -/
theorem x_v110_apply (t : Fin 96) (d : Fin 3584) : x_v110 m c (ix2 t d)
    = min (Ideal.ofBits .f32 0x43E00000#32) (max (Ideal.ofBits .f32 0xC3E00000#32)
        (((D.Out ex t d : ℝ) : EReal) * kinv (rmax (D.Out ex) t ⟨d.val / 128, by omega⟩))) := by
  rw [← div_rscale, ← x_v106_apply m c R hex t _ 0]
  have h := x_v85_apply m c R hex t ⟨d.val / 128, by omega⟩ ⟨d.val % 128, by omega⟩
  rw [show (⟨d.val / 128 * 128 + d.val % 128, by omega⟩ : Fin 3584) = d from Fin.ext (by show d.val / 128 * 128 + d.val % 128 = d.val; omega)] at h
  rw [← h]
  unfold x_v110 x_v109 x_v108
  generalize x_v106 m c = v
  generalize x_v85 m c = w
  unfold x_cst_25 x_cst_26
  pointwise [f_v110, f_v109, f_v108, f_cst_25, f_cst_26]
  rfl

end
end Cert.ReferenceIdeal.Read
-- ==== Proof.KernelRun.lean ====
module

public import proofs.«01_k».proof.Proof.Total
public import proofs.«01_k».proof.Proof.RefQuant

/-! What the kernel's two results hold after the run: the codes and the scales of the mixture. -/

@[expose] public section
set_option maxRecDepth 16384
noncomputable section

namespace Cert.KernelIdeal.Acc
open Idealize.ShloMosaic Idealize.ShloMosaic.TcCoe Idealize.ShloMosaic.Pipeline
open Cert.KernelIdeal Cert.KernelIdeal.HostVals Cert.KernelIdeal.Gen Cert.KernelIdeal.Tables
open Cert.Model Cert.ReferenceIdeal.Read Cert.KernelIdeal.StepVal Cert.Quant

/-- The codes of a real array. -/
def codesOf (M : Fin 96 → Fin 3584 → ℝ) : S96x3584.Idx → EReal := fun y =>
  min (Ideal.ofBits .f32 0x43E00000#32) (max (Ideal.ofBits .f32 0xC3E00000#32)
    (((M (y 0) (y 1) : ℝ) : EReal) * kinv (rmax M (y 0) ⟨(y 1).val / 128, by have : (y 1).val < 3584 := (y 1).isLt; omega⟩)))

/-- The scales of a real array. -/
def scalesOf (M : Fin 96 → Fin 3584 → ℝ) : S96x28.Idx → EReal := fun y => kscale (rmax M (y 0) (y 1))

/-- The largest magnitude of a block of an array of reals. -/
theorem blkmax_eq (X : Vec Ideal S96x3584 .f32) (M : Fin 96 → Fin 3584 → ℝ) (h : ∀ t d, X (ix2 t d) = ((M t d : ℝ) : EReal)) (t : Fin 96) (b : Fin 28) :
    blkmax X t b = rmax M t b := by
  unfold blkmax rmax
  simp only [h]

/-- The codes of an array of reals. -/
theorem kcodes_eq (X : Vec Ideal S96x3584 .f32) (M : Fin 96 → Fin 3584 → ℝ) (h : ∀ t d, X (ix2 t d) = ((M t d : ℝ) : EReal)) : kcodes X = codesOf M := by
  funext y
  obtain ⟨t, d, rfl⟩ : ∃ (t : Fin 96) (d : Fin 3584), y = ix2 t d := ⟨y 0, y 1, eq_ix2 y⟩
  show min _ (max _ (X (ix2 t d) * kinv (blkmax X t _))) = min _ (max _ (((M t d : ℝ) : EReal) * kinv (rmax M t _)))
  rw [h, blkmax_eq X M h]

/-- The scales of an array of reals. -/
theorem kscales_eq (X : Vec Ideal S96x3584 .f32) (M : Fin 96 → Fin 3584 → ℝ) (h : ∀ t d, X (ix2 t d) = ((M t d : ℝ) : EReal)) : kscales X = scalesOf M := by
  funext y
  show kscale (blkmax X (y 0) (y 1)) = kscale (rmax M (y 0) (y 1))
  exact congrArg kscale (blkmax_eq X M h (y 0) (y 1))

/-- The first part of a triple that is known. -/
theorem fst3 {α β γ : Type} {r : α × β × γ} {a : α} {b : β} {x : γ} (h : r = (a, b, x)) : r.1 = a := by rw [h]
/-- The second part of a triple that is known. -/
theorem mid3 {α β γ : Type} {r : α × β × γ} {a : α} {b : β} {x : γ} (h : r = (a, b, x)) : r.2.1 = b := by rw [h]

variable (m : (ℓ : Loc nD τ sig) → Buf (Elt Ideal) ℓ) (hO : Ok m) (c : Dev nD)

/-- At the last point the codes are those of the accumulator. -/
theorem last_codes (t : Fin (cfgM m hO).N) (h2 : t.val % 105 = 104) :
    (outsAt0 m hO c t.val t.isLt).1 = kcodes (outsAt0 m hO c t.val t.isLt).2.2 := by
  have h0 : ¬ t.val % 105 = 0 := by omega
  by_cases h1 : cond0_1 (grid0.coords t) (tbM0_1.view.readAt (Elt Ideal) (Rect.unit (s := S1) ![0] S1.size inb_S1_S1_0).toLoadRect (tbl m 1) (Shape.Idx.first (numel1_S1.symm ▸ Nat.one_pos)))
  · rw [acc_E m hO c t h0 h1 h2]
    refine (fst3 (outsAt0_E m hO c t h0 h1 h2)).trans ?_
    exact out0_E_9_eq ..
  · rw [acc_F m hO c t h0 h1 h2]
    refine (fst3 (outsAt0_F m hO c t h0 h1 h2)).trans ?_
    exact out0_F_9_eq ..

/-- At the last point the scales are those of the accumulator. -/
theorem last_scales (t : Fin (cfgM m hO).N) (h2 : t.val % 105 = 104) :
    (outsAt0 m hO c t.val t.isLt).2.1 = kscales (outsAt0 m hO c t.val t.isLt).2.2 := by
  have h0 : ¬ t.val % 105 = 0 := by omega
  by_cases h1 : cond0_1 (grid0.coords t) (tbM0_1.view.readAt (Elt Ideal) (Rect.unit (s := S1) ![0] S1.size inb_S1_S1_0).toLoadRect (tbl m 1) (Shape.Idx.first (numel1_S1.symm ▸ Nat.one_pos)))
  · rw [acc_E m hO c t h0 h1 h2]
    refine (mid3 (outsAt0_E m hO c t h0 h1 h2)).trans ?_
    exact out0_E_10_eq ..
  · rw [acc_F m hO c t h0 h1 h2]
    refine (mid3 (outsAt0_F m hO c t h0 h1 h2)).trans ?_
    exact out0_F_10_eq ..

variable {D : Data} (R : Reads D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
  {ex : Fin 96 → Fin 8 → Fin 21} (hex : ∀ t k, D.ids t k = BitVec.ofNat 32 (ex t k).val)
include R hex

/-- At the last point the accumulator is the mixture. -/
theorem last_acc (t : Fin (cfgM m hO).N) (h2 : t.val % 105 = 104) (x : Fin 96) (d : Fin 3584) :
    (outsAt0 m hO c t.val t.isLt).2.2 (ix2 x d) = ((D.Out ex x d : ℝ) : EReal) := by
  have ht : t.val < 105 := t.isLt
  rw [acc_eq m hO c R t.val t.isLt x d, show t.val + 1 = 105 by omega]
  unfold pres
  rw [sum_term D ex hex (ids m c) (ids_apply m c R) x d]

omit R hex in
/-- The codes are written back once, whole, at the last point. -/
theorem whole9 (t : Fin (cfgM m hO).N) (h2 : t.val % 105 = 104) : ((cfgM m hO).win 9).WholeAt t :=
  ⟨(flush0_9 _ t).mpr h2, fun t' hf => Fin.ext (by
    have h3 := (flush0_9 _ t').mp hf
    have h4 : t.val < 105 := t.isLt
    have h5 : t'.val < 105 := t'.isLt
    omega), fun a => by fin_cases a <;> exact ⟨rfl, rfl⟩⟩

/-- The codes array after the run. -/
theorem arr9_eq : (dats m hO 0 c).arrAt 9 (cfgM m hO).N = (codesOf (D.Out ex) : S96x3584.Idx → EReal) := by
  obtain ⟨t, h2⟩ : ∃ t : Fin (cfgM m hO).N, t.val % 105 = 104 := ⟨⟨104, by show 104 < 105; decide⟩, rfl⟩
  refine (dats m hO 0 c).arrAt_eq_of_after_last 9 t (whole9 m hO t h2) _ fun j => ?_
  blk_simp
  rw [after0_9, last_codes m hO c t h2, kcodes_eq _ _ (last_acc m hO c R hex t h2)]
  generalize codesOf (D.Out ex) = v
  rfl

omit R hex in
/-- The scales are written back once, whole, at the last point. -/
theorem whole10 (t : Fin (cfgM m hO).N) (h2 : t.val % 105 = 104) : ((cfgM m hO).win 10).WholeAt t :=
  ⟨(flush0_10 _ t).mpr h2, fun t' hf => Fin.ext (by
    have h3 := (flush0_10 _ t').mp hf
    have h4 : t.val < 105 := t.isLt
    have h5 : t'.val < 105 := t'.isLt
    omega), fun a => by fin_cases a <;> exact ⟨rfl, rfl⟩⟩

/-- The scales array after the run. -/
theorem arr10_eq : (dats m hO 0 c).arrAt 10 (cfgM m hO).N = (scalesOf (D.Out ex) : S96x28.Idx → EReal) := by
  obtain ⟨t, h2⟩ : ∃ t : Fin (cfgM m hO).N, t.val % 105 = 104 := ⟨⟨104, by show 104 < 105; decide⟩, rfl⟩
  refine (dats m hO 0 c).arrAt_eq_of_after_last 10 t (whole10 m hO t h2) _ fun j => ?_
  blk_simp
  rw [after0_10, last_scales m hO c t h2, kscales_eq _ _ (last_acc m hO c R hex t h2)]
  generalize scalesOf (D.Out ex) = v
  rfl

end Cert.KernelIdeal.Acc
-- ==== Proof.RefRun.lean ====
module

public import proofs.«01_k».proof.Proof.RefQuant
public import proofs.«01_k».proof.Proof.Gen.ReferenceIdeal.Value
public import Idealize.ShloMosaic.Lib.Pipeline.ValueKit

/-! What the reference's two result arrays hold after its run. -/

@[expose] public section
set_option maxRecDepth 16384
noncomputable section

namespace Cert.ReferenceIdeal.Read
open Idealize.ShloMosaic Idealize.ShloMosaic.TcCoe Idealize.ShloMosaic.Pipeline
open Cert.ReferenceIdeal Cert.ReferenceIdeal.HostVals Cert.ReferenceIdeal.Gen Cert.Model Cert.Quant

variable (m : (ℓ : Loc nD τ sig) → Buf (Elt Ideal) ℓ) (c : Dev nD)

/-- The store of the codes keeps each number. -/
theorem pay1_apply (v : Vec Ideal S96x3584 .f32) (y : S96x3584.Idx) : (k0_pay1 v y : EReal) = v y := by
  obtain ⟨t, d, rfl⟩ : ∃ (t : Fin 96) (d : Fin 3584), y = ValueIdx.ix2 t d := ⟨y 0, y 1, ValueIdx.eq_ix2 y⟩
  pointwise [k0_pay1]
  try rfl

/-- The store of the scales keeps each number. -/
theorem pay2_apply (v : Vec Ideal S96x28 .f32) (y : S96x28.Idx) : (k0_pay2 v y : EReal) = v y := by
  obtain ⟨t, d, rfl⟩ : ∃ (t : Fin 96) (d : Fin 28), y = ValueIdx.ix2 t d := ⟨y 0, y 1, ValueIdx.eq_ix2 y⟩
  pointwise [k0_pay2]
  try rfl

/-- The codes array after the run is the host's codes. -/
theorem arr2_eq : (dats m 0 c).arrAt 2 cfg0.N = (x_v110 m c : S96x3584.Idx → EReal) := by
  refine (dats m 0 c).arrAt_eq_of_covers 2 _ (by decide +kernel) fun t hf y => ?_
  blk_simp
  rw [after0_2]
  frame_out
  refine (pay1_apply _ _).trans ?_
  show V m c main_v110 _ = _
  rw [V_v110]
  generalize x_v110 m c = v
  blk_ext [iblk]
  · rw [(by decide +kernel : ∀ t : Fin grid0.N, win0_0.index t 0 = win0_2.index t 0) t]
  · rw [(by decide +kernel : ∀ t : Fin grid0.N, win0_0.index t 1 = win0_2.index t 1) t]

/-- The scales array after the run is the host's scales. -/
theorem arr3_eq : (dats m 0 c).arrAt 3 cfg0.N = (x_v111 m c : S96x28.Idx → EReal) := by
  refine (dats m 0 c).arrAt_eq_of_covers 3 _ (by decide +kernel) fun t hf y => ?_
  blk_simp
  rw [after0_3]
  frame_out
  refine (pay2_apply _ _).trans ?_
  show V m c main_v111 _ = _
  rw [V_v111]
  generalize x_v111 m c = v
  blk_ext [iblk]
  · rw [(by decide +kernel : ∀ t : Fin grid0.N, win0_1.index t 0 = win0_3.index t 0) t]
  · rw [(by decide +kernel : ∀ t : Fin grid0.N, win0_1.index t 1 = win0_3.index t 1) t]
end Cert.ReferenceIdeal.Read
-- ==== Proof.Valid.lean ====
module

public import proofs.«01_k».proof.Proof.RefVal
public import proofs.«01_k».proof.Proof.Quant
public import Idealize.ShloMosaic.Lib.ReduceAll

/-! What the precondition gives: real arguments, and identifiers that name experts. -/

@[expose] public section
set_option maxRecDepth 16384
noncomputable section

namespace Cert.Valid
open Idealize.ShloMosaic
open Cert.Pre_valid Cert.Pre_valid.Facts Cert.Model Cert.ReferenceIdeal.Read

/-- Two bits whose conjunction is one are one. -/
theorem andi_one {a b : BitVec 1} (h : IntOp.andi a b = 1#1) : a = 1#1 ∧ b = 1#1 := by
  revert a b; decide

/-- The bfloat16 word of infinity. -/
theorem btop : Ideal.ofBits .bf16 0x7F80#16 = (⊤ : EReal) := by
  simp [Ideal.ofBits, Ideal.ieee]

/-- A number whose absolute value is below infinity is real. -/
theorem real_of_lt {x : EReal} (h : FloatOps.cmpf (F := Ideal) (φ := .f32) .olt (max x (-x)) (⊤ : EReal) = 1#1) : x = ((x.toReal : ℝ) : EReal) := by
  have h : BitVec.ofBool (decide (max x (-x) < (⊤ : EReal))) = 1#1 := h
  have hl : max x (-x) < (⊤ : EReal) := by
    by_contra hn
    rw [decide_eq_false hn] at h
    exact absurd h (by decide)
  refine (EReal.coe_toReal ?_ ?_).symm
  · rintro rfl; simp at hl
  · rintro rfl; simp at hl

/-- A word between 0 and 20 names an expert. -/
theorem word_expert (w : BitVec 32) (h0 : IntOp.cmpi .sge w 0#32 = 1#1) (h1 : IntOp.cmpi .slt w 21#32 = 1#1) :
    ∃ e : Fin 21, w = BitVec.ofNat 32 e.val := by
  have h0 : BitVec.ofBool ((0#32).sle w) = 1#1 := h0
  have h1 : BitVec.ofBool (w.slt 21#32) = 1#1 := h1
  have h0 : (0#32).sle w = true := by
    cases hh : (0#32).sle w
    · rw [hh] at h0; exact absurd h0 (by decide)
    · rfl
  have h1 : w.slt 21#32 = true := by
    cases hh : w.slt 21#32
    · rw [hh] at h1; exact absurd h1 (by decide)
    · rfl
  rw [BitVec.sle_iff_toInt_le] at h0
  rw [BitVec.slt_iff_toInt_lt] at h1
  have e0 : (0#32).toInt = 0 := rfl
  have e1 : (21#32).toInt = 21 := rfl
  have := BitVec.toInt_eq_toNat_cond w
  have hw := w.isLt
  have hlt : w.toNat < 21 := by split at this <;> omega
  exact ⟨⟨w.toNat, hlt⟩, by simp⟩

/-- A rank-zero array has one place. -/
instance : Subsingleton S_.Idx := ⟨fun a b => funext fun i => i.elim0⟩

variable [Cert.Pre_valid.Facts]

/-- Arguments that meet the precondition are the words of real data, and each identifier names an expert. -/
theorem of_fn (a0 : FVec Ideal S96x1x3584 .bf16) (a1 : IVec S21x1792x5120 8) (a2 : FVec Ideal S21x28x5120 .bf16)
    (a3 : IVec S21x1280x3584 8) (a4 : FVec Ideal S21x20x3584 .bf16) (a5 : IVec S96x1x8 32) (a6 : FVec Ideal S96x1x8 .f32)
    (h : Cert.Pre_valid.fn (F := Ideal) a0 a1 a2 a3 a4 a5 a6 = fun _ => 1#1) :
    ∃ (D : Data) (ex : Fin 96 → Fin 8 → Fin 21), Reads D a0 a1 a2 a3 a4 a5 a6 ∧ ∀ t k, D.ids t k = BitVec.ofNat 32 (ex t k).val := by
  have h := congrFun h ValueIdx.ix0
  unfold Cert.Pre_valid.fn Cert.Pre_valid.fn_part1 at h
  obtain ⟨h, g5⟩ := andi_one h
  obtain ⟨h, g4⟩ := andi_one h
  obtain ⟨h, g6⟩ := andi_one h
  obtain ⟨h, g3⟩ := andi_one h
  obtain ⟨g0, g2⟩ := andi_one h
  have f0 : ∀ i, a0 i = (((a0 i).toReal : ℝ) : EReal) := fun i => real_of_lt (by
    have := Host.reduce_andi_all _ _ _ _ _ g0 i
    rw [← btop]; exact this)
  have f2 : ∀ i, a2 i = (((a2 i).toReal : ℝ) : EReal) := fun i => real_of_lt (by
    have := Host.reduce_andi_all _ _ _ _ _ g2 i
    rw [← btop]; exact this)
  have f4 : ∀ i, a4 i = (((a4 i).toReal : ℝ) : EReal) := fun i => real_of_lt (by
    have := Host.reduce_andi_all _ _ _ _ _ g3 i
    rw [← btop]; exact this)
  have f6 : ∀ i, a6 i = (((a6 i).toReal : ℝ) : EReal) := fun i => real_of_lt (by
    have := Host.reduce_andi_all _ _ _ _ _ g6 i
    rw [← Cert.Quant.ctop]; exact this)
  have f5 : ∀ i, ∃ e : Fin 21, a5 i = BitVec.ofNat 32 e.val := fun i =>
    word_expert _ (Host.reduce_andi_all _ _ _ _ _ g4 i) (Host.reduce_andi_all _ _ _ _ _ g5 i)
  choose ex hex using f5
  refine ⟨⟨fun t d => (a0 (ix3 t 0 d)).toReal, fun e r n => a1 (ix3 e r n), fun e r n => (a2 (ix3 e r n)).toReal,
    fun e r d => a3 (ix3 e r d), fun e r d => (a4 (ix3 e r d)).toReal, fun t k => a5 (ix3 t 0 k), fun t k => (a6 (ix3 t 0 k)).toReal⟩,
    fun t k => ex (ix3 t 0 k), ⟨?_, fun _ _ _ => rfl, fun _ _ _ => f2 _, fun _ _ _ => rfl, fun _ _ _ => f4 _, ?_, ?_⟩, fun t k => hex _⟩
  · intro t u d; obtain rfl : u = 0 := Subsingleton.elim _ _; exact f0 _
  · intro t u d; obtain rfl : u = 0 := Subsingleton.elim _ _; rfl
  · intro t u d; obtain rfl : u = 0 := Subsingleton.elim _ _; exact f6 _

end Cert.Valid
-- ==== Proof.Equation.lean ====
module

public import proofs.«01_k».proof.Proof.KernelRun
public import proofs.«01_k».proof.Proof.RefRun
public import proofs.«01_k».proof.Proof.Valid
public import proofs.«01_k».proof.Proof.OkKernelIdeal
public import proofs.«01_k».proof.Proof.Gen.Pre_valid

/-! The two programs return the same codes and the same scales. -/

@[expose] public section
set_option maxRecDepth 16384
noncomputable section

namespace Cert.Equation
open Idealize.ShloMosaic Idealize.ShloMosaic.TcCoe Idealize.SL.Sem
open Cert.Model Cert.ReferenceIdeal.Read Cert.KernelIdeal.Acc

section
open Cert.KernelIdeal Cert.KernelIdeal.Gen

/-- The kernel's run: the two results hold what `arrAt` says, and the arguments are as they were. -/
theorem kernel_run (m : (ℓ : Loc nD τ sig) → Buf (Elt Ideal) ℓ) (hO : Ok m) (ρ : Dev nD → PrngReg) :
    θ_run defs (onTc (τ := τ) (main (F := Ideal))) ⟨m, fun _ => 0, ρ⟩ (fun r => ∀ c : Dev nD,
      r.2.mem ((c.tc : Thread nD τ).loc main_v21_0) = (dats m hO 0 c).arrAt 9 (cfgM m hO).N
      ∧ r.2.mem ((c.tc : Thread nD τ).loc main_v21_1) = (dats m hO 0 c).arrAt 10 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1 9, (h.1 c).1 10, h.2 c⟩) (θ_run_and (run_main m ρ hO) (unchanged m ρ hO))
end

section
open Cert.ReferenceIdeal Cert.ReferenceIdeal.Gen Cert.ReferenceIdeal.HostVals

/-- The reference's codes are those of the mixture. -/
theorem ref_codes {m : (ℓ : Loc nD τ sig) → Buf (Elt Ideal) ℓ} {c : Dev nD}
    {D : Data} {ex : Fin 96 → Fin 8 → Fin 21}
    (R : Reads D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (hex : ∀ t k, D.ids t k = BitVec.ofNat 32 (ex t k).val) : (x_v110 m c : S96x3584.Idx → EReal) = codesOf (D.Out ex) := by
  funext y
  obtain ⟨t, d, rfl⟩ : ∃ (t : Fin 96) (d : Fin 3584), y = ix2 t d := ⟨y 0, y 1, eq_ix2 y⟩
  exact x_v110_apply m c R hex t d

/-- The reference's scales are those of the mixture. -/
theorem ref_scales {m : (ℓ : Loc nD τ sig) → Buf (Elt Ideal) ℓ} {c : Dev nD}
    {D : Data} {ex : Fin 96 → Fin 8 → Fin 21}
    (R : Reads D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (hex : ∀ t k, D.ids t k = BitVec.ofNat 32 (ex t k).val) : (x_v111 m c : S96x28.Idx → EReal) = scalesOf (D.Out ex) := by
  funext y
  obtain ⟨t, b, rfl⟩ : ∃ (t : Fin 96) (b : Fin 28), y = ix2 t b := ⟨y 0, y 1, eq_ix2 y⟩
  exact x_v111_apply m c R hex t b

end

/-- On real arguments whose identifiers name experts, the idealized kernel and the reference return the same codes and the
    same scales. -/
theorem algebraic : Cert.algebraic_KernelIdeal_ReferenceIdeal_pre_valid (hKernelIdeal := Cert.KernelIdeal.Gen.facts)
    (hReferenceIdeal := Cert.ReferenceIdeal.Gen.facts) (hPre_valid := Cert.Pre_valid.Gen.facts) := by
  intro m g m' g' hpre harg
  have hO := Cert.KernelIdeal.OkProof.ok m
  have hR : ∀ c, _ := fun c => Cert.Valid.of_fn _ _ _ _ _ _ _ (hpre c)
  choose D ex hD using hR
  refine ⟨fun c => codesOf ((D c).Out (ex c)), fun c => scalesOf ((D c).Out (ex c)), ?_, ?_⟩
  · refine (θ_run _ _ _).mono (fun r h c => ?_) (kernel_run m hO g)
    refine ⟨(h c).1.trans (arr9_eq m hO c (hD c).1 (hD c).2), (h c).2.1.trans (arr10_eq m hO c (hD c).1 (hD c).2), (h c).2.2⟩
  · refine (θ_run _ _ _).mono (fun r h c => ?_) (Cert.ReferenceIdeal.Value.run_blocks m' g')
    obtain ⟨a0, a1, a2, a3, a4, a5, a6⟩ := harg c
    have hR' := (hD c).1
    rw [← a0, ← a1, ← a2, ← a3, ← a4, ← a5, ← a6] at hR'
    exact ⟨(h c).1.trans ((arr2_eq m' c).trans (ref_codes hR' (hD c).2)), (h c).2.1.trans ((arr3_eq m' c).trans (ref_scales hR' (hD c).2)), (h c).2.2⟩

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_valid
public import proofs.«01_k».proof.Proof.KernelFrame
public import proofs.«01_k».proof.Proof.KernelIdealFrame
public import proofs.«01_k».proof.Proof.OkKernel
public import proofs.«01_k».proof.Proof.OkKernelIdeal
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The three frames (the last two also under the precondition), that idealising preserves the kernel, and that the
    idealised kernel and the reference return equal results. -/
theorem claim : Cert.Claim := ⟨Cert.Kernel.Gen.facts, Cert.KernelIdeal.Gen.facts, Cert.ReferenceIdeal.Gen.facts, Cert.Pre_valid.Gen.facts,
  fun m ρ _ => Cert.Kernel.Gen.frame m ρ (Cert.Kernel.OkProof.ok m),
  fun m ρ _ => Cert.KernelIdeal.Gen.frame m ρ (Cert.KernelIdeal.OkProof.ok m),
  fun m ρ _ => Cert.KernelIdeal.Gen.frame m ρ (Cert.KernelIdeal.OkProof.ok m),
  fun m ρ _ => Cert.ReferenceIdeal.Gen.frame m ρ,
  fun m ρ _ => Cert.ReferenceIdeal.Gen.frame m ρ,
  trivial,
  Cert.Equation.algebraic⟩

end Cert.Proof

end
